-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S16x256x1024 : Shape := ⟨3, ![16, 256, 1024]⟩
abbrev S256x1024 : Shape := ⟨2, ![256, 1024]⟩
abbrev S_ : Shape := ⟨0, ![]⟩
abbrev S8 : Shape := ⟨1, ![8]⟩
abbrev S64 : Shape := ⟨1, ![64]⟩
abbrev S60 : Shape := ⟨1, ![60]⟩
abbrev S1 : Shape := ⟨1, ![1]⟩
abbrev S32x1024 : Shape := ⟨2, ![32, 1024]⟩
abbrev S1x32x1024 : Shape := ⟨3, ![1, 32, 1024]⟩
abbrev S1x256x1024 : Shape := ⟨3, ![1, 256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .bf16⟩
  | .local _ .vmem, ⟨0, _⟩ => ⟨S16x256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 152 → Bool
  | ⟨i, _⟩ => dmaSemScopedAt i

abbrev sig : RefSig :=
  (ofTc nBuf bufTy 1 152 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_109 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_108 : BitVec 32 := 16#32
  let v139 : BitVec 32 := Scalar.muli v9 c16_i32_108
  let v140 : BitVec 32 := Scalar.addi c0_i32_109 v139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v141 : BitVec 32 := Scalar.muli v5 c4_i32_110
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v143 : BitVec 32 := Scalar.muli v8 c1_i32_111
  let v144 : BitVec 32 := Scalar.addi v142 v143
  v144.toNat
def k0_dev2 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_113 : BitVec 32 := 16#32
  let v145 : BitVec 32 := Scalar.muli v2 c16_i32_113
  let v146 : BitVec 32 := Scalar.addi c0_i32_114 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_115 : BitVec 32 := 4#32
  let v147 : BitVec 32 := Scalar.muli v136 c4_i32_115
  let v148 : BitVec 32 := Scalar.addi v146 v147
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_116 : BitVec 32 := 1#32
  let v149 : BitVec 32 := Scalar.muli v137 c1_i32_116
  let v150 : BitVec 32 := Scalar.addi v148 v149
  v150.toNat
def k0_dev3 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_118 : BitVec 32 := 16#32
  let v151 : BitVec 32 := Scalar.muli v2 c16_i32_118
  let v152 : BitVec 32 := Scalar.addi c0_i32_119 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_120 : BitVec 32 := 4#32
  let v153 : BitVec 32 := Scalar.muli v134 c4_i32_120
  let v154 : BitVec 32 := Scalar.addi v152 v153
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_121 : BitVec 32 := 1#32
  let v155 : BitVec 32 := Scalar.muli v135 c1_i32_121
  let v156 : BitVec 32 := Scalar.addi v154 v155
  v156.toNat
def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_123 : BitVec 32 := 0#32
  let v157 : BitVec 1 := Scalar.cmpi .eq v2 c0_i32_123
  let v158 : BitVec 32 := Scalar.extui v157
  let c0_i32_124 : BitVec 32 := 0#32
  let v159 : BitVec 1 := Scalar.cmpi .ne v158 c0_i32_124
  v159

@[reducible] def k0_t1_loop : Scf.Loop 32 :=
  let c0_i32_4065 : BitVec 32 := 0#32
  let c8_i32_4066 : BitVec 32 := 8#32
  let v3896 : BitVec 32 := Scalar.addi c0_i32_4065 c8_i32_4066
  let c1_i32_4067 : BitVec 32 := 1#32
  ⟨c0_i32_4065, v3896, c1_i32_4067⟩
def k0_off1 (k0_t1 : Fin k0_t1_loop.trips) : Fin 1 → Nat :=
  let c0_i32_4065 : BitVec 32 := 0#32
  let c1_i32_4067 : BitVec 32 := 1#32
  let arg16 : BitVec 32 := Scf.iv c0_i32_4065 c1_i32_4067 k0_t1
  ![arg16.toNat]
def k0_off2 (k0_t1 : Fin k0_t1_loop.trips) : Fin 2 → Nat :=
  let c0_i32_4065 : BitVec 32 := 0#32
  let c1_i32_4067 : BitVec 32 := 1#32
  let arg16 : BitVec 32 := Scf.iv c0_i32_4065 c1_i32_4067 k0_t1
  let c32_i32_4071 : BitVec 32 := 32#32
  let v3900 : BitVec 32 := Scalar.muli arg16 c32_i32_4071
  let c0_i32_4073 : BitVec 32 := 0#32
  ![v3900.toNat, 0]
def k0_off3 (d0 : Dev nD) (k0_t1 : Fin k0_t1_loop.trips) : Fin 3 → Nat :=
  let c0_i32_4072 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c15_i32 : BitVec 32 := 15#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c14_i32 : BitVec 32 := 14#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c13_i32 : BitVec 32 := 13#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c12_i32 : BitVec 32 := 12#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c11_i32 : BitVec 32 := 11#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c10_i32 : BitVec 32 := 10#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c9_i32 : BitVec 32 := 9#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c8_i32 : BitVec 32 := 8#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c7_i32 : BitVec 32 := 7#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c6_i32 : BitVec 32 := 6#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c5_i32 : BitVec 32 := 5#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c4_i32_36 : BitVec 32 := 4#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c3_i32_29 : BitVec 32 := 3#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c2_i32_23 : BitVec 32 := 2#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c1_i32_16 : BitVec 32 := 1#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_4 : BitVec 32 := 0#32
  let c0_i32_5 : BitVec 32 := 0#32
  let v13 : BitVec 32 := Scalar.select v12 c0_i32_4 c0_i32_5
  let v21 : BitVec 32 := Scalar.select v20 c1_i32_16 v13
  let v29 : BitVec 32 := Scalar.select v28 c2_i32_23 v21
  let v37 : BitVec 32 := Scalar.select v36 c3_i32_29 v29
  let v45 : BitVec 32 := Scalar.select v44 c4_i32_36 v37
  let v53 : BitVec 32 := Scalar.select v52 c5_i32 v45
  let v61 : BitVec 32 := Scalar.select v60 c6_i32 v53
  let v69 : BitVec 32 := Scalar.select v68 c7_i32 v61
  let v77 : BitVec 32 := Scalar.select v76 c8_i32 v69
  let v85 : BitVec 32 := Scalar.select v84 c9_i32 v77
  let v93 : BitVec 32 := Scalar.select v92 c10_i32 v85
  let v101 : BitVec 32 := Scalar.select v100 c11_i32 v93
  let v109 : BitVec 32 := Scalar.select v108 c12_i32 v101
  let v117 : BitVec 32 := Scalar.select v116 c13_i32 v109
  let v125 : BitVec 32 := Scalar.select v124 c14_i32 v117
  let v133 : BitVec 32 := Scalar.select v132 c15_i32 v125
  let c256_i32_4069 : BitVec 32 := 256#32
  let v3897 : BitVec 32 := Scalar.muli v133 c256_i32_4069
  let c0_i32_4065 : BitVec 32 := 0#32
  let c1_i32_4067 : BitVec 32 := 1#32
  let arg16 : BitVec 32 := Scf.iv c0_i32_4065 c1_i32_4067 k0_t1
  let c32_i32_4070 : BitVec 32 := 32#32
  let v3898 : BitVec 32 := Scalar.muli arg16 c32_i32_4070
  let v3899 : BitVec 32 := Scalar.addi v3897 v3898
  let c0_i32_4074 : BitVec 32 := 0#32
  ![0, v3899.toNat, 0]
def k0_off4 (d0 : Dev nD) (k0_t1 : Fin k0_t1_loop.trips) : Fin 3 → Nat :=
  let c0_i32_4075 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c15_i32 : BitVec 32 := 15#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c14_i32 : BitVec 32 := 14#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c13_i32 : BitVec 32 := 13#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c12_i32 : BitVec 32 := 12#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c11_i32 : BitVec 32 := 11#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c10_i32 : BitVec 32 := 10#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c9_i32 : BitVec 32 := 9#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c8_i32 : BitVec 32 := 8#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c7_i32 : BitVec 32 := 7#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c6_i32 : BitVec 32 := 6#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c5_i32 : BitVec 32 := 5#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c4_i32_36 : BitVec 32 := 4#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c3_i32_29 : BitVec 32 := 3#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c2_i32_23 : BitVec 32 := 2#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c1_i32_16 : BitVec 32 := 1#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_4 : BitVec 32 := 0#32
  let c0_i32_5 : BitVec 32 := 0#32
  let v13 : BitVec 32 := Scalar.select v12 c0_i32_4 c0_i32_5
  let v21 : BitVec 32 := Scalar.select v20 c1_i32_16 v13
  let v29 : BitVec 32 := Scalar.select v28 c2_i32_23 v21
  let v37 : BitVec 32 := Scalar.select v36 c3_i32_29 v29
  let v45 : BitVec 32 := Scalar.select v44 c4_i32_36 v37
  let v53 : BitVec 32 := Scalar.select v52 c5_i32 v45
  let v61 : BitVec 32 := Scalar.select v60 c6_i32 v53
  let v69 : BitVec 32 := Scalar.select v68 c7_i32 v61
  let v77 : BitVec 32 := Scalar.select v76 c8_i32 v69
  let v85 : BitVec 32 := Scalar.select v84 c9_i32 v77
  let v93 : BitVec 32 := Scalar.select v92 c10_i32 v85
  let v101 : BitVec 32 := Scalar.select v100 c11_i32 v93
  let v109 : BitVec 32 := Scalar.select v108 c12_i32 v101
  let v117 : BitVec 32 := Scalar.select v116 c13_i32 v109
  let v125 : BitVec 32 := Scalar.select v124 c14_i32 v117
  let v133 : BitVec 32 := Scalar.select v132 c15_i32 v125
  let c256_i32_4069 : BitVec 32 := 256#32
  let v3897 : BitVec 32 := Scalar.muli v133 c256_i32_4069
  let c0_i32_4065 : BitVec 32 := 0#32
  let c1_i32_4067 : BitVec 32 := 1#32
  let arg16 : BitVec 32 := Scf.iv c0_i32_4065 c1_i32_4067 k0_t1
  let c32_i32_4070 : BitVec 32 := 32#32
  let v3898 : BitVec 32 := Scalar.muli arg16 c32_i32_4070
  let v3899 : BitVec 32 := Scalar.addi v3897 v3898
  let c1024_i32 : BitVec 32 := 1024#32
  ![0, v3899.toNat, 1024]
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_125 : BitVec 32 := 1#32
  let v160 : BitVec 1 := Scalar.cmpi .eq v2 c1_i32_125
  let v161 : BitVec 32 := Scalar.extui v160
  let c0_i32_126 : BitVec 32 := 0#32
  let v162 : BitVec 1 := Scalar.cmpi .ne v161 c0_i32_126
  v162

@[reducible] def k0_t2_loop : Scf.Loop 32 :=
  let c0_i32_4065 : BitVec 32 := 0#32
  let c8_i32_4066 : BitVec 32 := 8#32
  let v3896 : BitVec 32 := Scalar.addi c0_i32_4065 c8_i32_4066
  let c1_i32_4067 : BitVec 32 := 1#32
  ⟨c0_i32_4065, v3896, c1_i32_4067⟩
def k0_off5 (k0_t2 : Fin k0_t2_loop.trips) : Fin 1 → Nat :=
  let c0_i32_4065 : BitVec 32 := 0#32
  let c1_i32_4067 : BitVec 32 := 1#32
  let arg16 : BitVec 32 := Scf.iv c0_i32_4065 c1_i32_4067 k0_t2
  ![arg16.toNat]
def k0_off6 (k0_t2 : Fin k0_t2_loop.trips) : Fin 2 → Nat :=
  let c0_i32_4065 : BitVec 32 := 0#32
  let c1_i32_4067 : BitVec 32 := 1#32
  let arg16 : BitVec 32 := Scf.iv c0_i32_4065 c1_i32_4067 k0_t2
  let c32_i32_4071 : BitVec 32 := 32#32
  let v3900 : BitVec 32 := Scalar.muli arg16 c32_i32_4071
  let c0_i32_4073 : BitVec 32 := 0#32
  ![v3900.toNat, 0]
def k0_off7 (d0 : Dev nD) (k0_t2 : Fin k0_t2_loop.trips) : Fin 3 → Nat :=
  let c0_i32_4072 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c15_i32 : BitVec 32 := 15#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c14_i32 : BitVec 32 := 14#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c13_i32 : BitVec 32 := 13#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c12_i32 : BitVec 32 := 12#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c11_i32 : BitVec 32 := 11#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c10_i32 : BitVec 32 := 10#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c9_i32 : BitVec 32 := 9#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c8_i32 : BitVec 32 := 8#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c7_i32 : BitVec 32 := 7#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c6_i32 : BitVec 32 := 6#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c5_i32 : BitVec 32 := 5#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c4_i32_36 : BitVec 32 := 4#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c3_i32_29 : BitVec 32 := 3#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c2_i32_23 : BitVec 32 := 2#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c1_i32_16 : BitVec 32 := 1#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_4 : BitVec 32 := 0#32
  let c0_i32_5 : BitVec 32 := 0#32
  let v13 : BitVec 32 := Scalar.select v12 c0_i32_4 c0_i32_5
  let v21 : BitVec 32 := Scalar.select v20 c1_i32_16 v13
  let v29 : BitVec 32 := Scalar.select v28 c2_i32_23 v21
  let v37 : BitVec 32 := Scalar.select v36 c3_i32_29 v29
  let v45 : BitVec 32 := Scalar.select v44 c4_i32_36 v37
  let v53 : BitVec 32 := Scalar.select v52 c5_i32 v45
  let v61 : BitVec 32 := Scalar.select v60 c6_i32 v53
  let v69 : BitVec 32 := Scalar.select v68 c7_i32 v61
  let v77 : BitVec 32 := Scalar.select v76 c8_i32 v69
  let v85 : BitVec 32 := Scalar.select v84 c9_i32 v77
  let v93 : BitVec 32 := Scalar.select v92 c10_i32 v85
  let v101 : BitVec 32 := Scalar.select v100 c11_i32 v93
  let v109 : BitVec 32 := Scalar.select v108 c12_i32 v101
  let v117 : BitVec 32 := Scalar.select v116 c13_i32 v109
  let v125 : BitVec 32 := Scalar.select v124 c14_i32 v117
  let v133 : BitVec 32 := Scalar.select v132 c15_i32 v125
  let c256_i32_4069 : BitVec 32 := 256#32
  let v3897 : BitVec 32 := Scalar.muli v133 c256_i32_4069
  let c0_i32_4065 : BitVec 32 := 0#32
  let c1_i32_4067 : BitVec 32 := 1#32
  let arg16 : BitVec 32 := Scf.iv c0_i32_4065 c1_i32_4067 k0_t2
  let c32_i32_4070 : BitVec 32 := 32#32
  let v3898 : BitVec 32 := Scalar.muli arg16 c32_i32_4070
  let v3899 : BitVec 32 := Scalar.addi v3897 v3898
  let c1024_i32 : BitVec 32 := 1024#32
  ![0, v3899.toNat, 1024]
def k0_off8 (d0 : Dev nD) (k0_t2 : Fin k0_t2_loop.trips) : Fin 3 → Nat :=
  let c0_i32_4074 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c15_i32 : BitVec 32 := 15#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c14_i32 : BitVec 32 := 14#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c13_i32 : BitVec 32 := 13#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c12_i32 : BitVec 32 := 12#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c11_i32 : BitVec 32 := 11#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c10_i32 : BitVec 32 := 10#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c9_i32 : BitVec 32 := 9#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c8_i32 : BitVec 32 := 8#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c7_i32 : BitVec 32 := 7#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c6_i32 : BitVec 32 := 6#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c5_i32 : BitVec 32 := 5#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c4_i32_36 : BitVec 32 := 4#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c3_i32_29 : BitVec 32 := 3#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c2_i32_23 : BitVec 32 := 2#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c1_i32_16 : BitVec 32 := 1#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_4 : BitVec 32 := 0#32
  let c0_i32_5 : BitVec 32 := 0#32
  let v13 : BitVec 32 := Scalar.select v12 c0_i32_4 c0_i32_5
  let v21 : BitVec 32 := Scalar.select v20 c1_i32_16 v13
  let v29 : BitVec 32 := Scalar.select v28 c2_i32_23 v21
  let v37 : BitVec 32 := Scalar.select v36 c3_i32_29 v29
  let v45 : BitVec 32 := Scalar.select v44 c4_i32_36 v37
  let v53 : BitVec 32 := Scalar.select v52 c5_i32 v45
  let v61 : BitVec 32 := Scalar.select v60 c6_i32 v53
  let v69 : BitVec 32 := Scalar.select v68 c7_i32 v61
  let v77 : BitVec 32 := Scalar.select v76 c8_i32 v69
  let v85 : BitVec 32 := Scalar.select v84 c9_i32 v77
  let v93 : BitVec 32 := Scalar.select v92 c10_i32 v85
  let v101 : BitVec 32 := Scalar.select v100 c11_i32 v93
  let v109 : BitVec 32 := Scalar.select v108 c12_i32 v101
  let v117 : BitVec 32 := Scalar.select v116 c13_i32 v109
  let v125 : BitVec 32 := Scalar.select v124 c14_i32 v117
  let v133 : BitVec 32 := Scalar.select v132 c15_i32 v125
  let c256_i32_4069 : BitVec 32 := 256#32
  let v3897 : BitVec 32 := Scalar.muli v133 c256_i32_4069
  let c0_i32_4065 : BitVec 32 := 0#32
  let c1_i32_4067 : BitVec 32 := 1#32
  let arg16 : BitVec 32 := Scf.iv c0_i32_4065 c1_i32_4067 k0_t2
  let c32_i32_4070 : BitVec 32 := 32#32
  let v3898 : BitVec 32 := Scalar.muli arg16 c32_i32_4070
  let v3899 : BitVec 32 := Scalar.addi v3897 v3898
  let c0_i32_4076 : BitVec 32 := 0#32
  ![0, v3899.toNat, 0]
def k0_dev4 (d0 : Dev nD) : Nat :=
  let c0_i32_138 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_137 : BitVec 32 := 16#32
  let v173 : BitVec 32 := Scalar.muli v9 c16_i32_137
  let v174 : BitVec 32 := Scalar.addi c0_i32_138 v173
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v175 : BitVec 32 := Scalar.muli v5 c4_i32_139
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v177 : BitVec 32 := Scalar.muli v8 c1_i32_140
  let v178 : BitVec 32 := Scalar.addi v176 v177
  v178.toNat
def k0_dev5 (d0 : Dev nD) : Nat :=
  let c0_i32_155 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_154 : BitVec 32 := 16#32
  let v193 : BitVec 32 := Scalar.muli v9 c16_i32_154
  let v194 : BitVec 32 := Scalar.addi c0_i32_155 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_156 : BitVec 32 := 4#32
  let v195 : BitVec 32 := Scalar.muli v5 c4_i32_156
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v197 : BitVec 32 := Scalar.muli v8 c1_i32_157
  let v198 : BitVec 32 := Scalar.addi v196 v197
  v198.toNat
def k0_dev6 (d0 : Dev nD) : Nat :=
  let c0_i32_172 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_171 : BitVec 32 := 16#32
  let v213 : BitVec 32 := Scalar.muli v9 c16_i32_171
  let v214 : BitVec 32 := Scalar.addi c0_i32_172 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_173 : BitVec 32 := 4#32
  let v215 : BitVec 32 := Scalar.muli v5 c4_i32_173
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v217 : BitVec 32 := Scalar.muli v8 c1_i32_174
  let v218 : BitVec 32 := Scalar.addi v216 v217
  v218.toNat
def k0_dev7 (d0 : Dev nD) : Nat :=
  let c0_i32_189 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_188 : BitVec 32 := 16#32
  let v233 : BitVec 32 := Scalar.muli v9 c16_i32_188
  let v234 : BitVec 32 := Scalar.addi c0_i32_189 v233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_190 : BitVec 32 := 4#32
  let v235 : BitVec 32 := Scalar.muli v5 c4_i32_190
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v237 : BitVec 32 := Scalar.muli v8 c1_i32_191
  let v238 : BitVec 32 := Scalar.addi v236 v237
  v238.toNat
def k0_dev8 (d0 : Dev nD) : Nat :=
  let c0_i32_206 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_205 : BitVec 32 := 16#32
  let v253 : BitVec 32 := Scalar.muli v9 c16_i32_205
  let v254 : BitVec 32 := Scalar.addi c0_i32_206 v253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v255 : BitVec 32 := Scalar.muli v5 c4_i32_207
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v257 : BitVec 32 := Scalar.muli v8 c1_i32_208
  let v258 : BitVec 32 := Scalar.addi v256 v257
  v258.toNat
def k0_dev9 (d0 : Dev nD) : Nat :=
  let c0_i32_223 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_222 : BitVec 32 := 16#32
  let v273 : BitVec 32 := Scalar.muli v9 c16_i32_222
  let v274 : BitVec 32 := Scalar.addi c0_i32_223 v273
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_224 : BitVec 32 := 4#32
  let v275 : BitVec 32 := Scalar.muli v5 c4_i32_224
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v277 : BitVec 32 := Scalar.muli v8 c1_i32_225
  let v278 : BitVec 32 := Scalar.addi v276 v277
  v278.toNat
def k0_dev10 (d0 : Dev nD) : Nat :=
  let c0_i32_240 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_239 : BitVec 32 := 16#32
  let v293 : BitVec 32 := Scalar.muli v9 c16_i32_239
  let v294 : BitVec 32 := Scalar.addi c0_i32_240 v293
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_241 : BitVec 32 := 4#32
  let v295 : BitVec 32 := Scalar.muli v5 c4_i32_241
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v297 : BitVec 32 := Scalar.muli v8 c1_i32_242
  let v298 : BitVec 32 := Scalar.addi v296 v297
  v298.toNat
def k0_dev11 (d0 : Dev nD) : Nat :=
  let c0_i32_257 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_256 : BitVec 32 := 16#32
  let v313 : BitVec 32 := Scalar.muli v9 c16_i32_256
  let v314 : BitVec 32 := Scalar.addi c0_i32_257 v313
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_258 : BitVec 32 := 4#32
  let v315 : BitVec 32 := Scalar.muli v5 c4_i32_258
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v317 : BitVec 32 := Scalar.muli v8 c1_i32_259
  let v318 : BitVec 32 := Scalar.addi v316 v317
  v318.toNat
def k0_dev12 (d0 : Dev nD) : Nat :=
  let c0_i32_290 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_289 : BitVec 32 := 16#32
  let v346 : BitVec 32 := Scalar.muli v2 c16_i32_289
  let v347 : BitVec 32 := Scalar.addi c0_i32_290 v346
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_291 : BitVec 32 := 4#32
  let v348 : BitVec 32 := Scalar.muli v134 c4_i32_291
  let v349 : BitVec 32 := Scalar.addi v347 v348
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_292 : BitVec 32 := 1#32
  let v350 : BitVec 32 := Scalar.muli v135 c1_i32_292
  let v351 : BitVec 32 := Scalar.addi v349 v350
  v351.toNat
def k0_dev13 (d0 : Dev nD) : Nat :=
  let c0_i32_301 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_300 : BitVec 32 := 16#32
  let v358 : BitVec 32 := Scalar.muli v2 c16_i32_300
  let v359 : BitVec 32 := Scalar.addi c0_i32_301 v358
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_302 : BitVec 32 := 4#32
  let v360 : BitVec 32 := Scalar.muli v136 c4_i32_302
  let v361 : BitVec 32 := Scalar.addi v359 v360
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_303 : BitVec 32 := 1#32
  let v362 : BitVec 32 := Scalar.muli v137 c1_i32_303
  let v363 : BitVec 32 := Scalar.addi v361 v362
  v363.toNat
def k0_dev14 (d0 : Dev nD) : Nat :=
  let c0_i32_334 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_333 : BitVec 32 := 16#32
  let v393 : BitVec 32 := Scalar.muli v2 c16_i32_333
  let v394 : BitVec 32 := Scalar.addi c0_i32_334 v393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_335 : BitVec 32 := 4#32
  let v395 : BitVec 32 := Scalar.muli v134 c4_i32_335
  let v396 : BitVec 32 := Scalar.addi v394 v395
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_336 : BitVec 32 := 1#32
  let v397 : BitVec 32 := Scalar.muli v135 c1_i32_336
  let v398 : BitVec 32 := Scalar.addi v396 v397
  v398.toNat
def k0_dev15 (d0 : Dev nD) : Nat :=
  let c0_i32_345 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_344 : BitVec 32 := 16#32
  let v405 : BitVec 32 := Scalar.muli v2 c16_i32_344
  let v406 : BitVec 32 := Scalar.addi c0_i32_345 v405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_346 : BitVec 32 := 4#32
  let v407 : BitVec 32 := Scalar.muli v136 c4_i32_346
  let v408 : BitVec 32 := Scalar.addi v406 v407
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_347 : BitVec 32 := 1#32
  let v409 : BitVec 32 := Scalar.muli v137 c1_i32_347
  let v410 : BitVec 32 := Scalar.addi v408 v409
  v410.toNat
def k0_dev16 (d0 : Dev nD) : Nat :=
  let c0_i32_378 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_377 : BitVec 32 := 16#32
  let v440 : BitVec 32 := Scalar.muli v2 c16_i32_377
  let v441 : BitVec 32 := Scalar.addi c0_i32_378 v440
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_379 : BitVec 32 := 4#32
  let v442 : BitVec 32 := Scalar.muli v134 c4_i32_379
  let v443 : BitVec 32 := Scalar.addi v441 v442
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_380 : BitVec 32 := 1#32
  let v444 : BitVec 32 := Scalar.muli v135 c1_i32_380
  let v445 : BitVec 32 := Scalar.addi v443 v444
  v445.toNat
def k0_dev17 (d0 : Dev nD) : Nat :=
  let c0_i32_389 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_388 : BitVec 32 := 16#32
  let v452 : BitVec 32 := Scalar.muli v2 c16_i32_388
  let v453 : BitVec 32 := Scalar.addi c0_i32_389 v452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_390 : BitVec 32 := 4#32
  let v454 : BitVec 32 := Scalar.muli v136 c4_i32_390
  let v455 : BitVec 32 := Scalar.addi v453 v454
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_391 : BitVec 32 := 1#32
  let v456 : BitVec 32 := Scalar.muli v137 c1_i32_391
  let v457 : BitVec 32 := Scalar.addi v455 v456
  v457.toNat
def k0_dev18 (d0 : Dev nD) : Nat :=
  let c0_i32_422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_421 : BitVec 32 := 16#32
  let v487 : BitVec 32 := Scalar.muli v2 c16_i32_421
  let v488 : BitVec 32 := Scalar.addi c0_i32_422 v487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_423 : BitVec 32 := 4#32
  let v489 : BitVec 32 := Scalar.muli v134 c4_i32_423
  let v490 : BitVec 32 := Scalar.addi v488 v489
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_424 : BitVec 32 := 1#32
  let v491 : BitVec 32 := Scalar.muli v135 c1_i32_424
  let v492 : BitVec 32 := Scalar.addi v490 v491
  v492.toNat
def k0_dev19 (d0 : Dev nD) : Nat :=
  let c0_i32_433 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_432 : BitVec 32 := 16#32
  let v499 : BitVec 32 := Scalar.muli v2 c16_i32_432
  let v500 : BitVec 32 := Scalar.addi c0_i32_433 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_434 : BitVec 32 := 4#32
  let v501 : BitVec 32 := Scalar.muli v136 c4_i32_434
  let v502 : BitVec 32 := Scalar.addi v500 v501
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_435 : BitVec 32 := 1#32
  let v503 : BitVec 32 := Scalar.muli v137 c1_i32_435
  let v504 : BitVec 32 := Scalar.addi v502 v503
  v504.toNat
def k0_dev20 (d0 : Dev nD) : Nat :=
  let c0_i32_466 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_465 : BitVec 32 := 16#32
  let v534 : BitVec 32 := Scalar.muli v2 c16_i32_465
  let v535 : BitVec 32 := Scalar.addi c0_i32_466 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_467 : BitVec 32 := 4#32
  let v536 : BitVec 32 := Scalar.muli v134 c4_i32_467
  let v537 : BitVec 32 := Scalar.addi v535 v536
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_468 : BitVec 32 := 1#32
  let v538 : BitVec 32 := Scalar.muli v135 c1_i32_468
  let v539 : BitVec 32 := Scalar.addi v537 v538
  v539.toNat
def k0_dev21 (d0 : Dev nD) : Nat :=
  let c0_i32_477 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_476 : BitVec 32 := 16#32
  let v546 : BitVec 32 := Scalar.muli v2 c16_i32_476
  let v547 : BitVec 32 := Scalar.addi c0_i32_477 v546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_478 : BitVec 32 := 4#32
  let v548 : BitVec 32 := Scalar.muli v136 c4_i32_478
  let v549 : BitVec 32 := Scalar.addi v547 v548
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_479 : BitVec 32 := 1#32
  let v550 : BitVec 32 := Scalar.muli v137 c1_i32_479
  let v551 : BitVec 32 := Scalar.addi v549 v550
  v551.toNat
def k0_dev22 (d0 : Dev nD) : Nat :=
  let c0_i32_510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_509 : BitVec 32 := 16#32
  let v581 : BitVec 32 := Scalar.muli v2 c16_i32_509
  let v582 : BitVec 32 := Scalar.addi c0_i32_510 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_511 : BitVec 32 := 4#32
  let v583 : BitVec 32 := Scalar.muli v134 c4_i32_511
  let v584 : BitVec 32 := Scalar.addi v582 v583
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_512 : BitVec 32 := 1#32
  let v585 : BitVec 32 := Scalar.muli v135 c1_i32_512
  let v586 : BitVec 32 := Scalar.addi v584 v585
  v586.toNat
def k0_dev23 (d0 : Dev nD) : Nat :=
  let c0_i32_521 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_520 : BitVec 32 := 16#32
  let v593 : BitVec 32 := Scalar.muli v2 c16_i32_520
  let v594 : BitVec 32 := Scalar.addi c0_i32_521 v593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_522 : BitVec 32 := 4#32
  let v595 : BitVec 32 := Scalar.muli v136 c4_i32_522
  let v596 : BitVec 32 := Scalar.addi v594 v595
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_523 : BitVec 32 := 1#32
  let v597 : BitVec 32 := Scalar.muli v137 c1_i32_523
  let v598 : BitVec 32 := Scalar.addi v596 v597
  v598.toNat
def k0_dev24 (d0 : Dev nD) : Nat :=
  let c0_i32_554 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_553 : BitVec 32 := 16#32
  let v628 : BitVec 32 := Scalar.muli v2 c16_i32_553
  let v629 : BitVec 32 := Scalar.addi c0_i32_554 v628
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_555 : BitVec 32 := 4#32
  let v630 : BitVec 32 := Scalar.muli v134 c4_i32_555
  let v631 : BitVec 32 := Scalar.addi v629 v630
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_556 : BitVec 32 := 1#32
  let v632 : BitVec 32 := Scalar.muli v135 c1_i32_556
  let v633 : BitVec 32 := Scalar.addi v631 v632
  v633.toNat
def k0_dev25 (d0 : Dev nD) : Nat :=
  let c0_i32_565 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_564 : BitVec 32 := 16#32
  let v640 : BitVec 32 := Scalar.muli v2 c16_i32_564
  let v641 : BitVec 32 := Scalar.addi c0_i32_565 v640
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_566 : BitVec 32 := 4#32
  let v642 : BitVec 32 := Scalar.muli v136 c4_i32_566
  let v643 : BitVec 32 := Scalar.addi v641 v642
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_567 : BitVec 32 := 1#32
  let v644 : BitVec 32 := Scalar.muli v137 c1_i32_567
  let v645 : BitVec 32 := Scalar.addi v643 v644
  v645.toNat
def k0_dev26 (d0 : Dev nD) : Nat :=
  let c0_i32_598 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_597 : BitVec 32 := 16#32
  let v675 : BitVec 32 := Scalar.muli v2 c16_i32_597
  let v676 : BitVec 32 := Scalar.addi c0_i32_598 v675
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_599 : BitVec 32 := 4#32
  let v677 : BitVec 32 := Scalar.muli v134 c4_i32_599
  let v678 : BitVec 32 := Scalar.addi v676 v677
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_600 : BitVec 32 := 1#32
  let v679 : BitVec 32 := Scalar.muli v135 c1_i32_600
  let v680 : BitVec 32 := Scalar.addi v678 v679
  v680.toNat
def k0_dev27 (d0 : Dev nD) : Nat :=
  let c0_i32_609 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_608 : BitVec 32 := 16#32
  let v687 : BitVec 32 := Scalar.muli v2 c16_i32_608
  let v688 : BitVec 32 := Scalar.addi c0_i32_609 v687
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_610 : BitVec 32 := 4#32
  let v689 : BitVec 32 := Scalar.muli v136 c4_i32_610
  let v690 : BitVec 32 := Scalar.addi v688 v689
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_611 : BitVec 32 := 1#32
  let v691 : BitVec 32 := Scalar.muli v137 c1_i32_611
  let v692 : BitVec 32 := Scalar.addi v690 v691
  v692.toNat
def k0_dev28 (d0 : Dev nD) : Nat :=
  let c0_i32_631 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_630 : BitVec 32 := 16#32
  let v711 : BitVec 32 := Scalar.muli v2 c16_i32_630
  let v712 : BitVec 32 := Scalar.addi c0_i32_631 v711
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_632 : BitVec 32 := 4#32
  let v713 : BitVec 32 := Scalar.muli v134 c4_i32_632
  let v714 : BitVec 32 := Scalar.addi v712 v713
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_633 : BitVec 32 := 1#32
  let v715 : BitVec 32 := Scalar.muli v135 c1_i32_633
  let v716 : BitVec 32 := Scalar.addi v714 v715
  v716.toNat
def k0_dev29 (d0 : Dev nD) : Nat :=
  let c0_i32_653 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_652 : BitVec 32 := 16#32
  let v735 : BitVec 32 := Scalar.muli v2 c16_i32_652
  let v736 : BitVec 32 := Scalar.addi c0_i32_653 v735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_654 : BitVec 32 := 4#32
  let v737 : BitVec 32 := Scalar.muli v136 c4_i32_654
  let v738 : BitVec 32 := Scalar.addi v736 v737
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_655 : BitVec 32 := 1#32
  let v739 : BitVec 32 := Scalar.muli v137 c1_i32_655
  let v740 : BitVec 32 := Scalar.addi v738 v739
  v740.toNat
def k0_dev30 (d0 : Dev nD) : Nat :=
  let c0_i32_675 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_674 : BitVec 32 := 16#32
  let v759 : BitVec 32 := Scalar.muli v2 c16_i32_674
  let v760 : BitVec 32 := Scalar.addi c0_i32_675 v759
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_676 : BitVec 32 := 4#32
  let v761 : BitVec 32 := Scalar.muli v134 c4_i32_676
  let v762 : BitVec 32 := Scalar.addi v760 v761
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_677 : BitVec 32 := 1#32
  let v763 : BitVec 32 := Scalar.muli v135 c1_i32_677
  let v764 : BitVec 32 := Scalar.addi v762 v763
  v764.toNat
def k0_dev31 (d0 : Dev nD) : Nat :=
  let c0_i32_697 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_696 : BitVec 32 := 16#32
  let v783 : BitVec 32 := Scalar.muli v2 c16_i32_696
  let v784 : BitVec 32 := Scalar.addi c0_i32_697 v783
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_698 : BitVec 32 := 4#32
  let v785 : BitVec 32 := Scalar.muli v136 c4_i32_698
  let v786 : BitVec 32 := Scalar.addi v784 v785
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_699 : BitVec 32 := 1#32
  let v787 : BitVec 32 := Scalar.muli v137 c1_i32_699
  let v788 : BitVec 32 := Scalar.addi v786 v787
  v788.toNat
def k0_dev32 (d0 : Dev nD) : Nat :=
  let c0_i32_719 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_718 : BitVec 32 := 16#32
  let v807 : BitVec 32 := Scalar.muli v2 c16_i32_718
  let v808 : BitVec 32 := Scalar.addi c0_i32_719 v807
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_720 : BitVec 32 := 4#32
  let v809 : BitVec 32 := Scalar.muli v134 c4_i32_720
  let v810 : BitVec 32 := Scalar.addi v808 v809
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_721 : BitVec 32 := 1#32
  let v811 : BitVec 32 := Scalar.muli v135 c1_i32_721
  let v812 : BitVec 32 := Scalar.addi v810 v811
  v812.toNat
def k0_dev33 (d0 : Dev nD) : Nat :=
  let c0_i32_741 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_740 : BitVec 32 := 16#32
  let v831 : BitVec 32 := Scalar.muli v2 c16_i32_740
  let v832 : BitVec 32 := Scalar.addi c0_i32_741 v831
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_742 : BitVec 32 := 4#32
  let v833 : BitVec 32 := Scalar.muli v136 c4_i32_742
  let v834 : BitVec 32 := Scalar.addi v832 v833
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_743 : BitVec 32 := 1#32
  let v835 : BitVec 32 := Scalar.muli v137 c1_i32_743
  let v836 : BitVec 32 := Scalar.addi v834 v835
  v836.toNat
def k0_dev34 (d0 : Dev nD) : Nat :=
  let c0_i32_763 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_762 : BitVec 32 := 16#32
  let v855 : BitVec 32 := Scalar.muli v2 c16_i32_762
  let v856 : BitVec 32 := Scalar.addi c0_i32_763 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_764 : BitVec 32 := 4#32
  let v857 : BitVec 32 := Scalar.muli v134 c4_i32_764
  let v858 : BitVec 32 := Scalar.addi v856 v857
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_765 : BitVec 32 := 1#32
  let v859 : BitVec 32 := Scalar.muli v135 c1_i32_765
  let v860 : BitVec 32 := Scalar.addi v858 v859
  v860.toNat
def k0_dev35 (d0 : Dev nD) : Nat :=
  let c0_i32_785 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_784 : BitVec 32 := 16#32
  let v879 : BitVec 32 := Scalar.muli v2 c16_i32_784
  let v880 : BitVec 32 := Scalar.addi c0_i32_785 v879
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_786 : BitVec 32 := 4#32
  let v881 : BitVec 32 := Scalar.muli v136 c4_i32_786
  let v882 : BitVec 32 := Scalar.addi v880 v881
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_787 : BitVec 32 := 1#32
  let v883 : BitVec 32 := Scalar.muli v137 c1_i32_787
  let v884 : BitVec 32 := Scalar.addi v882 v883
  v884.toNat
def k0_dev36 (d0 : Dev nD) : Nat :=
  let c0_i32_807 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_806 : BitVec 32 := 16#32
  let v903 : BitVec 32 := Scalar.muli v2 c16_i32_806
  let v904 : BitVec 32 := Scalar.addi c0_i32_807 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_808 : BitVec 32 := 4#32
  let v905 : BitVec 32 := Scalar.muli v134 c4_i32_808
  let v906 : BitVec 32 := Scalar.addi v904 v905
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_809 : BitVec 32 := 1#32
  let v907 : BitVec 32 := Scalar.muli v135 c1_i32_809
  let v908 : BitVec 32 := Scalar.addi v906 v907
  v908.toNat
def k0_dev37 (d0 : Dev nD) : Nat :=
  let c0_i32_829 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_828 : BitVec 32 := 16#32
  let v927 : BitVec 32 := Scalar.muli v2 c16_i32_828
  let v928 : BitVec 32 := Scalar.addi c0_i32_829 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_830 : BitVec 32 := 4#32
  let v929 : BitVec 32 := Scalar.muli v136 c4_i32_830
  let v930 : BitVec 32 := Scalar.addi v928 v929
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_831 : BitVec 32 := 1#32
  let v931 : BitVec 32 := Scalar.muli v137 c1_i32_831
  let v932 : BitVec 32 := Scalar.addi v930 v931
  v932.toNat
def k0_dev38 (d0 : Dev nD) : Nat :=
  let c0_i32_851 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_850 : BitVec 32 := 16#32
  let v951 : BitVec 32 := Scalar.muli v2 c16_i32_850
  let v952 : BitVec 32 := Scalar.addi c0_i32_851 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_852 : BitVec 32 := 4#32
  let v953 : BitVec 32 := Scalar.muli v134 c4_i32_852
  let v954 : BitVec 32 := Scalar.addi v952 v953
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_853 : BitVec 32 := 1#32
  let v955 : BitVec 32 := Scalar.muli v135 c1_i32_853
  let v956 : BitVec 32 := Scalar.addi v954 v955
  v956.toNat
def k0_dev39 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_872 : BitVec 32 := 16#32
  let v975 : BitVec 32 := Scalar.muli v2 c16_i32_872
  let v976 : BitVec 32 := Scalar.addi c0_i32_873 v975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_874 : BitVec 32 := 4#32
  let v977 : BitVec 32 := Scalar.muli v136 c4_i32_874
  let v978 : BitVec 32 := Scalar.addi v976 v977
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_875 : BitVec 32 := 1#32
  let v979 : BitVec 32 := Scalar.muli v137 c1_i32_875
  let v980 : BitVec 32 := Scalar.addi v978 v979
  v980.toNat
def k0_dev40 (d0 : Dev nD) : Nat :=
  let c0_i32_895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_894 : BitVec 32 := 16#32
  let v999 : BitVec 32 := Scalar.muli v2 c16_i32_894
  let v1000 : BitVec 32 := Scalar.addi c0_i32_895 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_896 : BitVec 32 := 4#32
  let v1001 : BitVec 32 := Scalar.muli v134 c4_i32_896
  let v1002 : BitVec 32 := Scalar.addi v1000 v1001
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_897 : BitVec 32 := 1#32
  let v1003 : BitVec 32 := Scalar.muli v135 c1_i32_897
  let v1004 : BitVec 32 := Scalar.addi v1002 v1003
  v1004.toNat
def k0_dev41 (d0 : Dev nD) : Nat :=
  let c0_i32_917 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_916 : BitVec 32 := 16#32
  let v1023 : BitVec 32 := Scalar.muli v2 c16_i32_916
  let v1024 : BitVec 32 := Scalar.addi c0_i32_917 v1023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_918 : BitVec 32 := 4#32
  let v1025 : BitVec 32 := Scalar.muli v136 c4_i32_918
  let v1026 : BitVec 32 := Scalar.addi v1024 v1025
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_919 : BitVec 32 := 1#32
  let v1027 : BitVec 32 := Scalar.muli v137 c1_i32_919
  let v1028 : BitVec 32 := Scalar.addi v1026 v1027
  v1028.toNat
def k0_dev42 (d0 : Dev nD) : Nat :=
  let c0_i32_939 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_938 : BitVec 32 := 16#32
  let v1047 : BitVec 32 := Scalar.muli v2 c16_i32_938
  let v1048 : BitVec 32 := Scalar.addi c0_i32_939 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_940 : BitVec 32 := 4#32
  let v1049 : BitVec 32 := Scalar.muli v134 c4_i32_940
  let v1050 : BitVec 32 := Scalar.addi v1048 v1049
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_941 : BitVec 32 := 1#32
  let v1051 : BitVec 32 := Scalar.muli v135 c1_i32_941
  let v1052 : BitVec 32 := Scalar.addi v1050 v1051
  v1052.toNat
def k0_dev43 (d0 : Dev nD) : Nat :=
  let c0_i32_961 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_960 : BitVec 32 := 16#32
  let v1071 : BitVec 32 := Scalar.muli v2 c16_i32_960
  let v1072 : BitVec 32 := Scalar.addi c0_i32_961 v1071
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_962 : BitVec 32 := 4#32
  let v1073 : BitVec 32 := Scalar.muli v136 c4_i32_962
  let v1074 : BitVec 32 := Scalar.addi v1072 v1073
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_963 : BitVec 32 := 1#32
  let v1075 : BitVec 32 := Scalar.muli v137 c1_i32_963
  let v1076 : BitVec 32 := Scalar.addi v1074 v1075
  v1076.toNat
def k0_dev44 (d0 : Dev nD) : Nat :=
  let c0_i32_983 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_982 : BitVec 32 := 16#32
  let v1095 : BitVec 32 := Scalar.muli v2 c16_i32_982
  let v1096 : BitVec 32 := Scalar.addi c0_i32_983 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_984 : BitVec 32 := 4#32
  let v1097 : BitVec 32 := Scalar.muli v134 c4_i32_984
  let v1098 : BitVec 32 := Scalar.addi v1096 v1097
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_985 : BitVec 32 := 1#32
  let v1099 : BitVec 32 := Scalar.muli v135 c1_i32_985
  let v1100 : BitVec 32 := Scalar.addi v1098 v1099
  v1100.toNat
def k0_dev45 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1119 : BitVec 32 := Scalar.muli v2 c16_i32_1004
  let v1120 : BitVec 32 := Scalar.addi c0_i32_1005 v1119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1006 : BitVec 32 := 4#32
  let v1121 : BitVec 32 := Scalar.muli v136 c4_i32_1006
  let v1122 : BitVec 32 := Scalar.addi v1120 v1121
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1007 : BitVec 32 := 1#32
  let v1123 : BitVec 32 := Scalar.muli v137 c1_i32_1007
  let v1124 : BitVec 32 := Scalar.addi v1122 v1123
  v1124.toNat
def k0_dev46 (d0 : Dev nD) : Nat :=
  let c0_i32_1026 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1025 : BitVec 32 := 16#32
  let v1143 : BitVec 32 := Scalar.muli v2 c16_i32_1025
  let v1144 : BitVec 32 := Scalar.addi c0_i32_1026 v1143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1027 : BitVec 32 := 4#32
  let v1145 : BitVec 32 := Scalar.muli v134 c4_i32_1027
  let v1146 : BitVec 32 := Scalar.addi v1144 v1145
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1028 : BitVec 32 := 1#32
  let v1147 : BitVec 32 := Scalar.muli v135 c1_i32_1028
  let v1148 : BitVec 32 := Scalar.addi v1146 v1147
  v1148.toNat
def k0_dev47 (d0 : Dev nD) : Nat :=
  let c0_i32_1048 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1047 : BitVec 32 := 16#32
  let v1167 : BitVec 32 := Scalar.muli v2 c16_i32_1047
  let v1168 : BitVec 32 := Scalar.addi c0_i32_1048 v1167
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1049 : BitVec 32 := 4#32
  let v1169 : BitVec 32 := Scalar.muli v136 c4_i32_1049
  let v1170 : BitVec 32 := Scalar.addi v1168 v1169
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1050 : BitVec 32 := 1#32
  let v1171 : BitVec 32 := Scalar.muli v137 c1_i32_1050
  let v1172 : BitVec 32 := Scalar.addi v1170 v1171
  v1172.toNat
def k0_dev48 (d0 : Dev nD) : Nat :=
  let c0_i32_1069 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1068 : BitVec 32 := 16#32
  let v1191 : BitVec 32 := Scalar.muli v2 c16_i32_1068
  let v1192 : BitVec 32 := Scalar.addi c0_i32_1069 v1191
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1070 : BitVec 32 := 4#32
  let v1193 : BitVec 32 := Scalar.muli v134 c4_i32_1070
  let v1194 : BitVec 32 := Scalar.addi v1192 v1193
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1071 : BitVec 32 := 1#32
  let v1195 : BitVec 32 := Scalar.muli v135 c1_i32_1071
  let v1196 : BitVec 32 := Scalar.addi v1194 v1195
  v1196.toNat
def k0_dev49 (d0 : Dev nD) : Nat :=
  let c0_i32_1091 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1090 : BitVec 32 := 16#32
  let v1215 : BitVec 32 := Scalar.muli v2 c16_i32_1090
  let v1216 : BitVec 32 := Scalar.addi c0_i32_1091 v1215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1092 : BitVec 32 := 4#32
  let v1217 : BitVec 32 := Scalar.muli v136 c4_i32_1092
  let v1218 : BitVec 32 := Scalar.addi v1216 v1217
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1093 : BitVec 32 := 1#32
  let v1219 : BitVec 32 := Scalar.muli v137 c1_i32_1093
  let v1220 : BitVec 32 := Scalar.addi v1218 v1219
  v1220.toNat
def k0_dev50 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1239 : BitVec 32 := Scalar.muli v2 c16_i32_1111
  let v1240 : BitVec 32 := Scalar.addi c0_i32_1112 v1239
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1113 : BitVec 32 := 4#32
  let v1241 : BitVec 32 := Scalar.muli v134 c4_i32_1113
  let v1242 : BitVec 32 := Scalar.addi v1240 v1241
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1114 : BitVec 32 := 1#32
  let v1243 : BitVec 32 := Scalar.muli v135 c1_i32_1114
  let v1244 : BitVec 32 := Scalar.addi v1242 v1243
  v1244.toNat
def k0_dev51 (d0 : Dev nD) : Nat :=
  let c0_i32_1134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1133 : BitVec 32 := 16#32
  let v1263 : BitVec 32 := Scalar.muli v2 c16_i32_1133
  let v1264 : BitVec 32 := Scalar.addi c0_i32_1134 v1263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1135 : BitVec 32 := 4#32
  let v1265 : BitVec 32 := Scalar.muli v136 c4_i32_1135
  let v1266 : BitVec 32 := Scalar.addi v1264 v1265
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1136 : BitVec 32 := 1#32
  let v1267 : BitVec 32 := Scalar.muli v137 c1_i32_1136
  let v1268 : BitVec 32 := Scalar.addi v1266 v1267
  v1268.toNat
def k0_dev52 (d0 : Dev nD) : Nat :=
  let c0_i32_1155 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1154 : BitVec 32 := 16#32
  let v1287 : BitVec 32 := Scalar.muli v2 c16_i32_1154
  let v1288 : BitVec 32 := Scalar.addi c0_i32_1155 v1287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1156 : BitVec 32 := 4#32
  let v1289 : BitVec 32 := Scalar.muli v134 c4_i32_1156
  let v1290 : BitVec 32 := Scalar.addi v1288 v1289
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1157 : BitVec 32 := 1#32
  let v1291 : BitVec 32 := Scalar.muli v135 c1_i32_1157
  let v1292 : BitVec 32 := Scalar.addi v1290 v1291
  v1292.toNat
def k0_dev53 (d0 : Dev nD) : Nat :=
  let c0_i32_1177 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1176 : BitVec 32 := 16#32
  let v1311 : BitVec 32 := Scalar.muli v2 c16_i32_1176
  let v1312 : BitVec 32 := Scalar.addi c0_i32_1177 v1311
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1178 : BitVec 32 := 4#32
  let v1313 : BitVec 32 := Scalar.muli v136 c4_i32_1178
  let v1314 : BitVec 32 := Scalar.addi v1312 v1313
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1179 : BitVec 32 := 1#32
  let v1315 : BitVec 32 := Scalar.muli v137 c1_i32_1179
  let v1316 : BitVec 32 := Scalar.addi v1314 v1315
  v1316.toNat
def k0_dev54 (d0 : Dev nD) : Nat :=
  let c0_i32_1198 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1197 : BitVec 32 := 16#32
  let v1335 : BitVec 32 := Scalar.muli v2 c16_i32_1197
  let v1336 : BitVec 32 := Scalar.addi c0_i32_1198 v1335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1199 : BitVec 32 := 4#32
  let v1337 : BitVec 32 := Scalar.muli v134 c4_i32_1199
  let v1338 : BitVec 32 := Scalar.addi v1336 v1337
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1200 : BitVec 32 := 1#32
  let v1339 : BitVec 32 := Scalar.muli v135 c1_i32_1200
  let v1340 : BitVec 32 := Scalar.addi v1338 v1339
  v1340.toNat
def k0_dev55 (d0 : Dev nD) : Nat :=
  let c0_i32_1220 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1219 : BitVec 32 := 16#32
  let v1359 : BitVec 32 := Scalar.muli v2 c16_i32_1219
  let v1360 : BitVec 32 := Scalar.addi c0_i32_1220 v1359
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1221 : BitVec 32 := 4#32
  let v1361 : BitVec 32 := Scalar.muli v136 c4_i32_1221
  let v1362 : BitVec 32 := Scalar.addi v1360 v1361
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1222 : BitVec 32 := 1#32
  let v1363 : BitVec 32 := Scalar.muli v137 c1_i32_1222
  let v1364 : BitVec 32 := Scalar.addi v1362 v1363
  v1364.toNat
def k0_dev56 (d0 : Dev nD) : Nat :=
  let c0_i32_1241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1240 : BitVec 32 := 16#32
  let v1383 : BitVec 32 := Scalar.muli v2 c16_i32_1240
  let v1384 : BitVec 32 := Scalar.addi c0_i32_1241 v1383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1242 : BitVec 32 := 4#32
  let v1385 : BitVec 32 := Scalar.muli v134 c4_i32_1242
  let v1386 : BitVec 32 := Scalar.addi v1384 v1385
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1243 : BitVec 32 := 1#32
  let v1387 : BitVec 32 := Scalar.muli v135 c1_i32_1243
  let v1388 : BitVec 32 := Scalar.addi v1386 v1387
  v1388.toNat
def k0_dev57 (d0 : Dev nD) : Nat :=
  let c0_i32_1263 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1262 : BitVec 32 := 16#32
  let v1407 : BitVec 32 := Scalar.muli v2 c16_i32_1262
  let v1408 : BitVec 32 := Scalar.addi c0_i32_1263 v1407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1264 : BitVec 32 := 4#32
  let v1409 : BitVec 32 := Scalar.muli v136 c4_i32_1264
  let v1410 : BitVec 32 := Scalar.addi v1408 v1409
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1265 : BitVec 32 := 1#32
  let v1411 : BitVec 32 := Scalar.muli v137 c1_i32_1265
  let v1412 : BitVec 32 := Scalar.addi v1410 v1411
  v1412.toNat
def k0_dev58 (d0 : Dev nD) : Nat :=
  let c0_i32_1284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1283 : BitVec 32 := 16#32
  let v1431 : BitVec 32 := Scalar.muli v2 c16_i32_1283
  let v1432 : BitVec 32 := Scalar.addi c0_i32_1284 v1431
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1285 : BitVec 32 := 4#32
  let v1433 : BitVec 32 := Scalar.muli v134 c4_i32_1285
  let v1434 : BitVec 32 := Scalar.addi v1432 v1433
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1286 : BitVec 32 := 1#32
  let v1435 : BitVec 32 := Scalar.muli v135 c1_i32_1286
  let v1436 : BitVec 32 := Scalar.addi v1434 v1435
  v1436.toNat
def k0_dev59 (d0 : Dev nD) : Nat :=
  let c0_i32_1306 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1305 : BitVec 32 := 16#32
  let v1455 : BitVec 32 := Scalar.muli v2 c16_i32_1305
  let v1456 : BitVec 32 := Scalar.addi c0_i32_1306 v1455
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1307 : BitVec 32 := 4#32
  let v1457 : BitVec 32 := Scalar.muli v136 c4_i32_1307
  let v1458 : BitVec 32 := Scalar.addi v1456 v1457
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1308 : BitVec 32 := 1#32
  let v1459 : BitVec 32 := Scalar.muli v137 c1_i32_1308
  let v1460 : BitVec 32 := Scalar.addi v1458 v1459
  v1460.toNat
def k0_dev60 (d0 : Dev nD) : Nat :=
  let c0_i32_1327 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1326 : BitVec 32 := 16#32
  let v1479 : BitVec 32 := Scalar.muli v2 c16_i32_1326
  let v1480 : BitVec 32 := Scalar.addi c0_i32_1327 v1479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1328 : BitVec 32 := 4#32
  let v1481 : BitVec 32 := Scalar.muli v134 c4_i32_1328
  let v1482 : BitVec 32 := Scalar.addi v1480 v1481
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1329 : BitVec 32 := 1#32
  let v1483 : BitVec 32 := Scalar.muli v135 c1_i32_1329
  let v1484 : BitVec 32 := Scalar.addi v1482 v1483
  v1484.toNat
def k0_dev61 (d0 : Dev nD) : Nat :=
  let c0_i32_1349 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1348 : BitVec 32 := 16#32
  let v1503 : BitVec 32 := Scalar.muli v2 c16_i32_1348
  let v1504 : BitVec 32 := Scalar.addi c0_i32_1349 v1503
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1350 : BitVec 32 := 4#32
  let v1505 : BitVec 32 := Scalar.muli v136 c4_i32_1350
  let v1506 : BitVec 32 := Scalar.addi v1504 v1505
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1351 : BitVec 32 := 1#32
  let v1507 : BitVec 32 := Scalar.muli v137 c1_i32_1351
  let v1508 : BitVec 32 := Scalar.addi v1506 v1507
  v1508.toNat
def k0_dev62 (d0 : Dev nD) : Nat :=
  let c0_i32_1370 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1369 : BitVec 32 := 16#32
  let v1527 : BitVec 32 := Scalar.muli v2 c16_i32_1369
  let v1528 : BitVec 32 := Scalar.addi c0_i32_1370 v1527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1371 : BitVec 32 := 4#32
  let v1529 : BitVec 32 := Scalar.muli v134 c4_i32_1371
  let v1530 : BitVec 32 := Scalar.addi v1528 v1529
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1372 : BitVec 32 := 1#32
  let v1531 : BitVec 32 := Scalar.muli v135 c1_i32_1372
  let v1532 : BitVec 32 := Scalar.addi v1530 v1531
  v1532.toNat
def k0_dev63 (d0 : Dev nD) : Nat :=
  let c0_i32_1392 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1391 : BitVec 32 := 16#32
  let v1551 : BitVec 32 := Scalar.muli v2 c16_i32_1391
  let v1552 : BitVec 32 := Scalar.addi c0_i32_1392 v1551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1393 : BitVec 32 := 4#32
  let v1553 : BitVec 32 := Scalar.muli v136 c4_i32_1393
  let v1554 : BitVec 32 := Scalar.addi v1552 v1553
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1394 : BitVec 32 := 1#32
  let v1555 : BitVec 32 := Scalar.muli v137 c1_i32_1394
  let v1556 : BitVec 32 := Scalar.addi v1554 v1555
  v1556.toNat
def k0_dev64 (d0 : Dev nD) : Nat :=
  let c0_i32_1413 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1412 : BitVec 32 := 16#32
  let v1575 : BitVec 32 := Scalar.muli v2 c16_i32_1412
  let v1576 : BitVec 32 := Scalar.addi c0_i32_1413 v1575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1414 : BitVec 32 := 4#32
  let v1577 : BitVec 32 := Scalar.muli v134 c4_i32_1414
  let v1578 : BitVec 32 := Scalar.addi v1576 v1577
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1415 : BitVec 32 := 1#32
  let v1579 : BitVec 32 := Scalar.muli v135 c1_i32_1415
  let v1580 : BitVec 32 := Scalar.addi v1578 v1579
  v1580.toNat
def k0_dev65 (d0 : Dev nD) : Nat :=
  let c0_i32_1435 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1434 : BitVec 32 := 16#32
  let v1599 : BitVec 32 := Scalar.muli v2 c16_i32_1434
  let v1600 : BitVec 32 := Scalar.addi c0_i32_1435 v1599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1436 : BitVec 32 := 4#32
  let v1601 : BitVec 32 := Scalar.muli v136 c4_i32_1436
  let v1602 : BitVec 32 := Scalar.addi v1600 v1601
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1437 : BitVec 32 := 1#32
  let v1603 : BitVec 32 := Scalar.muli v137 c1_i32_1437
  let v1604 : BitVec 32 := Scalar.addi v1602 v1603
  v1604.toNat
def k0_dev66 (d0 : Dev nD) : Nat :=
  let c0_i32_1456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1455 : BitVec 32 := 16#32
  let v1623 : BitVec 32 := Scalar.muli v2 c16_i32_1455
  let v1624 : BitVec 32 := Scalar.addi c0_i32_1456 v1623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1457 : BitVec 32 := 4#32
  let v1625 : BitVec 32 := Scalar.muli v134 c4_i32_1457
  let v1626 : BitVec 32 := Scalar.addi v1624 v1625
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1458 : BitVec 32 := 1#32
  let v1627 : BitVec 32 := Scalar.muli v135 c1_i32_1458
  let v1628 : BitVec 32 := Scalar.addi v1626 v1627
  v1628.toNat
def k0_dev67 (d0 : Dev nD) : Nat :=
  let c0_i32_1478 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1477 : BitVec 32 := 16#32
  let v1647 : BitVec 32 := Scalar.muli v2 c16_i32_1477
  let v1648 : BitVec 32 := Scalar.addi c0_i32_1478 v1647
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1479 : BitVec 32 := 4#32
  let v1649 : BitVec 32 := Scalar.muli v136 c4_i32_1479
  let v1650 : BitVec 32 := Scalar.addi v1648 v1649
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1480 : BitVec 32 := 1#32
  let v1651 : BitVec 32 := Scalar.muli v137 c1_i32_1480
  let v1652 : BitVec 32 := Scalar.addi v1650 v1651
  v1652.toNat
def k0_dev68 (d0 : Dev nD) : Nat :=
  let c0_i32_1499 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1498 : BitVec 32 := 16#32
  let v1671 : BitVec 32 := Scalar.muli v2 c16_i32_1498
  let v1672 : BitVec 32 := Scalar.addi c0_i32_1499 v1671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1500 : BitVec 32 := 4#32
  let v1673 : BitVec 32 := Scalar.muli v134 c4_i32_1500
  let v1674 : BitVec 32 := Scalar.addi v1672 v1673
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1501 : BitVec 32 := 1#32
  let v1675 : BitVec 32 := Scalar.muli v135 c1_i32_1501
  let v1676 : BitVec 32 := Scalar.addi v1674 v1675
  v1676.toNat
def k0_dev69 (d0 : Dev nD) : Nat :=
  let c0_i32_1521 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1520 : BitVec 32 := 16#32
  let v1695 : BitVec 32 := Scalar.muli v2 c16_i32_1520
  let v1696 : BitVec 32 := Scalar.addi c0_i32_1521 v1695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1522 : BitVec 32 := 4#32
  let v1697 : BitVec 32 := Scalar.muli v136 c4_i32_1522
  let v1698 : BitVec 32 := Scalar.addi v1696 v1697
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1523 : BitVec 32 := 1#32
  let v1699 : BitVec 32 := Scalar.muli v137 c1_i32_1523
  let v1700 : BitVec 32 := Scalar.addi v1698 v1699
  v1700.toNat
def k0_dev70 (d0 : Dev nD) : Nat :=
  let c0_i32_1542 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1541 : BitVec 32 := 16#32
  let v1719 : BitVec 32 := Scalar.muli v2 c16_i32_1541
  let v1720 : BitVec 32 := Scalar.addi c0_i32_1542 v1719
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1543 : BitVec 32 := 4#32
  let v1721 : BitVec 32 := Scalar.muli v134 c4_i32_1543
  let v1722 : BitVec 32 := Scalar.addi v1720 v1721
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1544 : BitVec 32 := 1#32
  let v1723 : BitVec 32 := Scalar.muli v135 c1_i32_1544
  let v1724 : BitVec 32 := Scalar.addi v1722 v1723
  v1724.toNat
def k0_dev71 (d0 : Dev nD) : Nat :=
  let c0_i32_1564 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1563 : BitVec 32 := 16#32
  let v1743 : BitVec 32 := Scalar.muli v2 c16_i32_1563
  let v1744 : BitVec 32 := Scalar.addi c0_i32_1564 v1743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1565 : BitVec 32 := 4#32
  let v1745 : BitVec 32 := Scalar.muli v136 c4_i32_1565
  let v1746 : BitVec 32 := Scalar.addi v1744 v1745
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1566 : BitVec 32 := 1#32
  let v1747 : BitVec 32 := Scalar.muli v137 c1_i32_1566
  let v1748 : BitVec 32 := Scalar.addi v1746 v1747
  v1748.toNat
def k0_dev72 (d0 : Dev nD) : Nat :=
  let c0_i32_1585 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1584 : BitVec 32 := 16#32
  let v1767 : BitVec 32 := Scalar.muli v2 c16_i32_1584
  let v1768 : BitVec 32 := Scalar.addi c0_i32_1585 v1767
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1586 : BitVec 32 := 4#32
  let v1769 : BitVec 32 := Scalar.muli v134 c4_i32_1586
  let v1770 : BitVec 32 := Scalar.addi v1768 v1769
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1587 : BitVec 32 := 1#32
  let v1771 : BitVec 32 := Scalar.muli v135 c1_i32_1587
  let v1772 : BitVec 32 := Scalar.addi v1770 v1771
  v1772.toNat
def k0_dev73 (d0 : Dev nD) : Nat :=
  let c0_i32_1607 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1606 : BitVec 32 := 16#32
  let v1791 : BitVec 32 := Scalar.muli v2 c16_i32_1606
  let v1792 : BitVec 32 := Scalar.addi c0_i32_1607 v1791
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1608 : BitVec 32 := 4#32
  let v1793 : BitVec 32 := Scalar.muli v136 c4_i32_1608
  let v1794 : BitVec 32 := Scalar.addi v1792 v1793
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1609 : BitVec 32 := 1#32
  let v1795 : BitVec 32 := Scalar.muli v137 c1_i32_1609
  let v1796 : BitVec 32 := Scalar.addi v1794 v1795
  v1796.toNat
def k0_dev74 (d0 : Dev nD) : Nat :=
  let c0_i32_1628 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1627 : BitVec 32 := 16#32
  let v1815 : BitVec 32 := Scalar.muli v2 c16_i32_1627
  let v1816 : BitVec 32 := Scalar.addi c0_i32_1628 v1815
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1629 : BitVec 32 := 4#32
  let v1817 : BitVec 32 := Scalar.muli v134 c4_i32_1629
  let v1818 : BitVec 32 := Scalar.addi v1816 v1817
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1630 : BitVec 32 := 1#32
  let v1819 : BitVec 32 := Scalar.muli v135 c1_i32_1630
  let v1820 : BitVec 32 := Scalar.addi v1818 v1819
  v1820.toNat
def k0_dev75 (d0 : Dev nD) : Nat :=
  let c0_i32_1650 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1649 : BitVec 32 := 16#32
  let v1839 : BitVec 32 := Scalar.muli v2 c16_i32_1649
  let v1840 : BitVec 32 := Scalar.addi c0_i32_1650 v1839
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1651 : BitVec 32 := 4#32
  let v1841 : BitVec 32 := Scalar.muli v136 c4_i32_1651
  let v1842 : BitVec 32 := Scalar.addi v1840 v1841
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1652 : BitVec 32 := 1#32
  let v1843 : BitVec 32 := Scalar.muli v137 c1_i32_1652
  let v1844 : BitVec 32 := Scalar.addi v1842 v1843
  v1844.toNat
def k0_dev76 (d0 : Dev nD) : Nat :=
  let c0_i32_1672 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1671 : BitVec 32 := 16#32
  let v1863 : BitVec 32 := Scalar.muli v2 c16_i32_1671
  let v1864 : BitVec 32 := Scalar.addi c0_i32_1672 v1863
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1673 : BitVec 32 := 4#32
  let v1865 : BitVec 32 := Scalar.muli v134 c4_i32_1673
  let v1866 : BitVec 32 := Scalar.addi v1864 v1865
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1674 : BitVec 32 := 1#32
  let v1867 : BitVec 32 := Scalar.muli v135 c1_i32_1674
  let v1868 : BitVec 32 := Scalar.addi v1866 v1867
  v1868.toNat
def k0_dev77 (d0 : Dev nD) : Nat :=
  let c0_i32_1694 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1693 : BitVec 32 := 16#32
  let v1887 : BitVec 32 := Scalar.muli v2 c16_i32_1693
  let v1888 : BitVec 32 := Scalar.addi c0_i32_1694 v1887
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1695 : BitVec 32 := 4#32
  let v1889 : BitVec 32 := Scalar.muli v136 c4_i32_1695
  let v1890 : BitVec 32 := Scalar.addi v1888 v1889
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1696 : BitVec 32 := 1#32
  let v1891 : BitVec 32 := Scalar.muli v137 c1_i32_1696
  let v1892 : BitVec 32 := Scalar.addi v1890 v1891
  v1892.toNat
def k0_dev78 (d0 : Dev nD) : Nat :=
  let c0_i32_1715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1714 : BitVec 32 := 16#32
  let v1911 : BitVec 32 := Scalar.muli v2 c16_i32_1714
  let v1912 : BitVec 32 := Scalar.addi c0_i32_1715 v1911
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1716 : BitVec 32 := 4#32
  let v1913 : BitVec 32 := Scalar.muli v134 c4_i32_1716
  let v1914 : BitVec 32 := Scalar.addi v1912 v1913
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1717 : BitVec 32 := 1#32
  let v1915 : BitVec 32 := Scalar.muli v135 c1_i32_1717
  let v1916 : BitVec 32 := Scalar.addi v1914 v1915
  v1916.toNat
def k0_dev79 (d0 : Dev nD) : Nat :=
  let c0_i32_1737 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1736 : BitVec 32 := 16#32
  let v1935 : BitVec 32 := Scalar.muli v2 c16_i32_1736
  let v1936 : BitVec 32 := Scalar.addi c0_i32_1737 v1935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1738 : BitVec 32 := 4#32
  let v1937 : BitVec 32 := Scalar.muli v136 c4_i32_1738
  let v1938 : BitVec 32 := Scalar.addi v1936 v1937
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1739 : BitVec 32 := 1#32
  let v1939 : BitVec 32 := Scalar.muli v137 c1_i32_1739
  let v1940 : BitVec 32 := Scalar.addi v1938 v1939
  v1940.toNat
def k0_dev80 (d0 : Dev nD) : Nat :=
  let c0_i32_1758 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1757 : BitVec 32 := 16#32
  let v1959 : BitVec 32 := Scalar.muli v2 c16_i32_1757
  let v1960 : BitVec 32 := Scalar.addi c0_i32_1758 v1959
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1759 : BitVec 32 := 4#32
  let v1961 : BitVec 32 := Scalar.muli v134 c4_i32_1759
  let v1962 : BitVec 32 := Scalar.addi v1960 v1961
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1760 : BitVec 32 := 1#32
  let v1963 : BitVec 32 := Scalar.muli v135 c1_i32_1760
  let v1964 : BitVec 32 := Scalar.addi v1962 v1963
  v1964.toNat
def k0_dev81 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v1983 : BitVec 32 := Scalar.muli v2 c16_i32_1779
  let v1984 : BitVec 32 := Scalar.addi c0_i32_1780 v1983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1781 : BitVec 32 := 4#32
  let v1985 : BitVec 32 := Scalar.muli v136 c4_i32_1781
  let v1986 : BitVec 32 := Scalar.addi v1984 v1985
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1782 : BitVec 32 := 1#32
  let v1987 : BitVec 32 := Scalar.muli v137 c1_i32_1782
  let v1988 : BitVec 32 := Scalar.addi v1986 v1987
  v1988.toNat
def k0_dev82 (d0 : Dev nD) : Nat :=
  let c0_i32_1801 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1800 : BitVec 32 := 16#32
  let v2007 : BitVec 32 := Scalar.muli v2 c16_i32_1800
  let v2008 : BitVec 32 := Scalar.addi c0_i32_1801 v2007
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1802 : BitVec 32 := 4#32
  let v2009 : BitVec 32 := Scalar.muli v134 c4_i32_1802
  let v2010 : BitVec 32 := Scalar.addi v2008 v2009
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1803 : BitVec 32 := 1#32
  let v2011 : BitVec 32 := Scalar.muli v135 c1_i32_1803
  let v2012 : BitVec 32 := Scalar.addi v2010 v2011
  v2012.toNat
def k0_dev83 (d0 : Dev nD) : Nat :=
  let c0_i32_1823 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1822 : BitVec 32 := 16#32
  let v2031 : BitVec 32 := Scalar.muli v2 c16_i32_1822
  let v2032 : BitVec 32 := Scalar.addi c0_i32_1823 v2031
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1824 : BitVec 32 := 4#32
  let v2033 : BitVec 32 := Scalar.muli v136 c4_i32_1824
  let v2034 : BitVec 32 := Scalar.addi v2032 v2033
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1825 : BitVec 32 := 1#32
  let v2035 : BitVec 32 := Scalar.muli v137 c1_i32_1825
  let v2036 : BitVec 32 := Scalar.addi v2034 v2035
  v2036.toNat
def k0_dev84 (d0 : Dev nD) : Nat :=
  let c0_i32_1844 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1843 : BitVec 32 := 16#32
  let v2055 : BitVec 32 := Scalar.muli v2 c16_i32_1843
  let v2056 : BitVec 32 := Scalar.addi c0_i32_1844 v2055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1845 : BitVec 32 := 4#32
  let v2057 : BitVec 32 := Scalar.muli v134 c4_i32_1845
  let v2058 : BitVec 32 := Scalar.addi v2056 v2057
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1846 : BitVec 32 := 1#32
  let v2059 : BitVec 32 := Scalar.muli v135 c1_i32_1846
  let v2060 : BitVec 32 := Scalar.addi v2058 v2059
  v2060.toNat
def k0_dev85 (d0 : Dev nD) : Nat :=
  let c0_i32_1866 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1865 : BitVec 32 := 16#32
  let v2079 : BitVec 32 := Scalar.muli v2 c16_i32_1865
  let v2080 : BitVec 32 := Scalar.addi c0_i32_1866 v2079
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1867 : BitVec 32 := 4#32
  let v2081 : BitVec 32 := Scalar.muli v136 c4_i32_1867
  let v2082 : BitVec 32 := Scalar.addi v2080 v2081
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1868 : BitVec 32 := 1#32
  let v2083 : BitVec 32 := Scalar.muli v137 c1_i32_1868
  let v2084 : BitVec 32 := Scalar.addi v2082 v2083
  v2084.toNat
def k0_dev86 (d0 : Dev nD) : Nat :=
  let c0_i32_1887 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1886 : BitVec 32 := 16#32
  let v2103 : BitVec 32 := Scalar.muli v2 c16_i32_1886
  let v2104 : BitVec 32 := Scalar.addi c0_i32_1887 v2103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1888 : BitVec 32 := 4#32
  let v2105 : BitVec 32 := Scalar.muli v134 c4_i32_1888
  let v2106 : BitVec 32 := Scalar.addi v2104 v2105
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1889 : BitVec 32 := 1#32
  let v2107 : BitVec 32 := Scalar.muli v135 c1_i32_1889
  let v2108 : BitVec 32 := Scalar.addi v2106 v2107
  v2108.toNat
def k0_dev87 (d0 : Dev nD) : Nat :=
  let c0_i32_1909 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1908 : BitVec 32 := 16#32
  let v2127 : BitVec 32 := Scalar.muli v2 c16_i32_1908
  let v2128 : BitVec 32 := Scalar.addi c0_i32_1909 v2127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1910 : BitVec 32 := 4#32
  let v2129 : BitVec 32 := Scalar.muli v136 c4_i32_1910
  let v2130 : BitVec 32 := Scalar.addi v2128 v2129
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1911 : BitVec 32 := 1#32
  let v2131 : BitVec 32 := Scalar.muli v137 c1_i32_1911
  let v2132 : BitVec 32 := Scalar.addi v2130 v2131
  v2132.toNat
def k0_dev88 (d0 : Dev nD) : Nat :=
  let c0_i32_1930 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1929 : BitVec 32 := 16#32
  let v2151 : BitVec 32 := Scalar.muli v2 c16_i32_1929
  let v2152 : BitVec 32 := Scalar.addi c0_i32_1930 v2151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1931 : BitVec 32 := 4#32
  let v2153 : BitVec 32 := Scalar.muli v134 c4_i32_1931
  let v2154 : BitVec 32 := Scalar.addi v2152 v2153
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1932 : BitVec 32 := 1#32
  let v2155 : BitVec 32 := Scalar.muli v135 c1_i32_1932
  let v2156 : BitVec 32 := Scalar.addi v2154 v2155
  v2156.toNat
def k0_dev89 (d0 : Dev nD) : Nat :=
  let c0_i32_1952 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1951 : BitVec 32 := 16#32
  let v2175 : BitVec 32 := Scalar.muli v2 c16_i32_1951
  let v2176 : BitVec 32 := Scalar.addi c0_i32_1952 v2175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1953 : BitVec 32 := 4#32
  let v2177 : BitVec 32 := Scalar.muli v136 c4_i32_1953
  let v2178 : BitVec 32 := Scalar.addi v2176 v2177
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1954 : BitVec 32 := 1#32
  let v2179 : BitVec 32 := Scalar.muli v137 c1_i32_1954
  let v2180 : BitVec 32 := Scalar.addi v2178 v2179
  v2180.toNat
def k0_dev90 (d0 : Dev nD) : Nat :=
  let c0_i32_1973 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1972 : BitVec 32 := 16#32
  let v2199 : BitVec 32 := Scalar.muli v2 c16_i32_1972
  let v2200 : BitVec 32 := Scalar.addi c0_i32_1973 v2199
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_1974 : BitVec 32 := 4#32
  let v2201 : BitVec 32 := Scalar.muli v134 c4_i32_1974
  let v2202 : BitVec 32 := Scalar.addi v2200 v2201
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_1975 : BitVec 32 := 1#32
  let v2203 : BitVec 32 := Scalar.muli v135 c1_i32_1975
  let v2204 : BitVec 32 := Scalar.addi v2202 v2203
  v2204.toNat
def k0_dev91 (d0 : Dev nD) : Nat :=
  let c0_i32_1995 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1994 : BitVec 32 := 16#32
  let v2223 : BitVec 32 := Scalar.muli v2 c16_i32_1994
  let v2224 : BitVec 32 := Scalar.addi c0_i32_1995 v2223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_1996 : BitVec 32 := 4#32
  let v2225 : BitVec 32 := Scalar.muli v136 c4_i32_1996
  let v2226 : BitVec 32 := Scalar.addi v2224 v2225
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_1997 : BitVec 32 := 1#32
  let v2227 : BitVec 32 := Scalar.muli v137 c1_i32_1997
  let v2228 : BitVec 32 := Scalar.addi v2226 v2227
  v2228.toNat
def k0_dev92 (d0 : Dev nD) : Nat :=
  let c0_i32_2016 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2015 : BitVec 32 := 16#32
  let v2247 : BitVec 32 := Scalar.muli v2 c16_i32_2015
  let v2248 : BitVec 32 := Scalar.addi c0_i32_2016 v2247
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2017 : BitVec 32 := 4#32
  let v2249 : BitVec 32 := Scalar.muli v134 c4_i32_2017
  let v2250 : BitVec 32 := Scalar.addi v2248 v2249
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2018 : BitVec 32 := 1#32
  let v2251 : BitVec 32 := Scalar.muli v135 c1_i32_2018
  let v2252 : BitVec 32 := Scalar.addi v2250 v2251
  v2252.toNat
def k0_dev93 (d0 : Dev nD) : Nat :=
  let c0_i32_2038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2037 : BitVec 32 := 16#32
  let v2271 : BitVec 32 := Scalar.muli v2 c16_i32_2037
  let v2272 : BitVec 32 := Scalar.addi c0_i32_2038 v2271
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2039 : BitVec 32 := 4#32
  let v2273 : BitVec 32 := Scalar.muli v136 c4_i32_2039
  let v2274 : BitVec 32 := Scalar.addi v2272 v2273
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2040 : BitVec 32 := 1#32
  let v2275 : BitVec 32 := Scalar.muli v137 c1_i32_2040
  let v2276 : BitVec 32 := Scalar.addi v2274 v2275
  v2276.toNat
def k0_dev94 (d0 : Dev nD) : Nat :=
  let c0_i32_2059 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2058 : BitVec 32 := 16#32
  let v2295 : BitVec 32 := Scalar.muli v2 c16_i32_2058
  let v2296 : BitVec 32 := Scalar.addi c0_i32_2059 v2295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2060 : BitVec 32 := 4#32
  let v2297 : BitVec 32 := Scalar.muli v134 c4_i32_2060
  let v2298 : BitVec 32 := Scalar.addi v2296 v2297
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2061 : BitVec 32 := 1#32
  let v2299 : BitVec 32 := Scalar.muli v135 c1_i32_2061
  let v2300 : BitVec 32 := Scalar.addi v2298 v2299
  v2300.toNat
def k0_dev95 (d0 : Dev nD) : Nat :=
  let c0_i32_2081 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2080 : BitVec 32 := 16#32
  let v2319 : BitVec 32 := Scalar.muli v2 c16_i32_2080
  let v2320 : BitVec 32 := Scalar.addi c0_i32_2081 v2319
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2082 : BitVec 32 := 4#32
  let v2321 : BitVec 32 := Scalar.muli v136 c4_i32_2082
  let v2322 : BitVec 32 := Scalar.addi v2320 v2321
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2083 : BitVec 32 := 1#32
  let v2323 : BitVec 32 := Scalar.muli v137 c1_i32_2083
  let v2324 : BitVec 32 := Scalar.addi v2322 v2323
  v2324.toNat
def k0_dev96 (d0 : Dev nD) : Nat :=
  let c0_i32_2102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2101 : BitVec 32 := 16#32
  let v2343 : BitVec 32 := Scalar.muli v2 c16_i32_2101
  let v2344 : BitVec 32 := Scalar.addi c0_i32_2102 v2343
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2103 : BitVec 32 := 4#32
  let v2345 : BitVec 32 := Scalar.muli v134 c4_i32_2103
  let v2346 : BitVec 32 := Scalar.addi v2344 v2345
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2104 : BitVec 32 := 1#32
  let v2347 : BitVec 32 := Scalar.muli v135 c1_i32_2104
  let v2348 : BitVec 32 := Scalar.addi v2346 v2347
  v2348.toNat
def k0_dev97 (d0 : Dev nD) : Nat :=
  let c0_i32_2124 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2123 : BitVec 32 := 16#32
  let v2367 : BitVec 32 := Scalar.muli v2 c16_i32_2123
  let v2368 : BitVec 32 := Scalar.addi c0_i32_2124 v2367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2125 : BitVec 32 := 4#32
  let v2369 : BitVec 32 := Scalar.muli v136 c4_i32_2125
  let v2370 : BitVec 32 := Scalar.addi v2368 v2369
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2126 : BitVec 32 := 1#32
  let v2371 : BitVec 32 := Scalar.muli v137 c1_i32_2126
  let v2372 : BitVec 32 := Scalar.addi v2370 v2371
  v2372.toNat
def k0_dev98 (d0 : Dev nD) : Nat :=
  let c0_i32_2145 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2144 : BitVec 32 := 16#32
  let v2391 : BitVec 32 := Scalar.muli v2 c16_i32_2144
  let v2392 : BitVec 32 := Scalar.addi c0_i32_2145 v2391
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2146 : BitVec 32 := 4#32
  let v2393 : BitVec 32 := Scalar.muli v134 c4_i32_2146
  let v2394 : BitVec 32 := Scalar.addi v2392 v2393
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2147 : BitVec 32 := 1#32
  let v2395 : BitVec 32 := Scalar.muli v135 c1_i32_2147
  let v2396 : BitVec 32 := Scalar.addi v2394 v2395
  v2396.toNat
def k0_dev99 (d0 : Dev nD) : Nat :=
  let c0_i32_2167 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2166 : BitVec 32 := 16#32
  let v2415 : BitVec 32 := Scalar.muli v2 c16_i32_2166
  let v2416 : BitVec 32 := Scalar.addi c0_i32_2167 v2415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2168 : BitVec 32 := 4#32
  let v2417 : BitVec 32 := Scalar.muli v136 c4_i32_2168
  let v2418 : BitVec 32 := Scalar.addi v2416 v2417
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2169 : BitVec 32 := 1#32
  let v2419 : BitVec 32 := Scalar.muli v137 c1_i32_2169
  let v2420 : BitVec 32 := Scalar.addi v2418 v2419
  v2420.toNat
def k0_dev100 (d0 : Dev nD) : Nat :=
  let c0_i32_2188 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2187 : BitVec 32 := 16#32
  let v2439 : BitVec 32 := Scalar.muli v2 c16_i32_2187
  let v2440 : BitVec 32 := Scalar.addi c0_i32_2188 v2439
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2189 : BitVec 32 := 4#32
  let v2441 : BitVec 32 := Scalar.muli v134 c4_i32_2189
  let v2442 : BitVec 32 := Scalar.addi v2440 v2441
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2190 : BitVec 32 := 1#32
  let v2443 : BitVec 32 := Scalar.muli v135 c1_i32_2190
  let v2444 : BitVec 32 := Scalar.addi v2442 v2443
  v2444.toNat
def k0_dev101 (d0 : Dev nD) : Nat :=
  let c0_i32_2210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2209 : BitVec 32 := 16#32
  let v2463 : BitVec 32 := Scalar.muli v2 c16_i32_2209
  let v2464 : BitVec 32 := Scalar.addi c0_i32_2210 v2463
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2211 : BitVec 32 := 4#32
  let v2465 : BitVec 32 := Scalar.muli v136 c4_i32_2211
  let v2466 : BitVec 32 := Scalar.addi v2464 v2465
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2212 : BitVec 32 := 1#32
  let v2467 : BitVec 32 := Scalar.muli v137 c1_i32_2212
  let v2468 : BitVec 32 := Scalar.addi v2466 v2467
  v2468.toNat
def k0_dev102 (d0 : Dev nD) : Nat :=
  let c0_i32_2231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2230 : BitVec 32 := 16#32
  let v2487 : BitVec 32 := Scalar.muli v2 c16_i32_2230
  let v2488 : BitVec 32 := Scalar.addi c0_i32_2231 v2487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2232 : BitVec 32 := 4#32
  let v2489 : BitVec 32 := Scalar.muli v134 c4_i32_2232
  let v2490 : BitVec 32 := Scalar.addi v2488 v2489
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2233 : BitVec 32 := 1#32
  let v2491 : BitVec 32 := Scalar.muli v135 c1_i32_2233
  let v2492 : BitVec 32 := Scalar.addi v2490 v2491
  v2492.toNat
def k0_dev103 (d0 : Dev nD) : Nat :=
  let c0_i32_2253 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2252 : BitVec 32 := 16#32
  let v2511 : BitVec 32 := Scalar.muli v2 c16_i32_2252
  let v2512 : BitVec 32 := Scalar.addi c0_i32_2253 v2511
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2254 : BitVec 32 := 4#32
  let v2513 : BitVec 32 := Scalar.muli v136 c4_i32_2254
  let v2514 : BitVec 32 := Scalar.addi v2512 v2513
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2255 : BitVec 32 := 1#32
  let v2515 : BitVec 32 := Scalar.muli v137 c1_i32_2255
  let v2516 : BitVec 32 := Scalar.addi v2514 v2515
  v2516.toNat
def k0_dev104 (d0 : Dev nD) : Nat :=
  let c0_i32_2274 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2273 : BitVec 32 := 16#32
  let v2535 : BitVec 32 := Scalar.muli v2 c16_i32_2273
  let v2536 : BitVec 32 := Scalar.addi c0_i32_2274 v2535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2275 : BitVec 32 := 4#32
  let v2537 : BitVec 32 := Scalar.muli v134 c4_i32_2275
  let v2538 : BitVec 32 := Scalar.addi v2536 v2537
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2276 : BitVec 32 := 1#32
  let v2539 : BitVec 32 := Scalar.muli v135 c1_i32_2276
  let v2540 : BitVec 32 := Scalar.addi v2538 v2539
  v2540.toNat
def k0_dev105 (d0 : Dev nD) : Nat :=
  let c0_i32_2296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2295 : BitVec 32 := 16#32
  let v2559 : BitVec 32 := Scalar.muli v2 c16_i32_2295
  let v2560 : BitVec 32 := Scalar.addi c0_i32_2296 v2559
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2297 : BitVec 32 := 4#32
  let v2561 : BitVec 32 := Scalar.muli v136 c4_i32_2297
  let v2562 : BitVec 32 := Scalar.addi v2560 v2561
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2298 : BitVec 32 := 1#32
  let v2563 : BitVec 32 := Scalar.muli v137 c1_i32_2298
  let v2564 : BitVec 32 := Scalar.addi v2562 v2563
  v2564.toNat
def k0_dev106 (d0 : Dev nD) : Nat :=
  let c0_i32_2317 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2316 : BitVec 32 := 16#32
  let v2583 : BitVec 32 := Scalar.muli v2 c16_i32_2316
  let v2584 : BitVec 32 := Scalar.addi c0_i32_2317 v2583
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2318 : BitVec 32 := 4#32
  let v2585 : BitVec 32 := Scalar.muli v134 c4_i32_2318
  let v2586 : BitVec 32 := Scalar.addi v2584 v2585
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2319 : BitVec 32 := 1#32
  let v2587 : BitVec 32 := Scalar.muli v135 c1_i32_2319
  let v2588 : BitVec 32 := Scalar.addi v2586 v2587
  v2588.toNat
def k0_dev107 (d0 : Dev nD) : Nat :=
  let c0_i32_2339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2338 : BitVec 32 := 16#32
  let v2607 : BitVec 32 := Scalar.muli v2 c16_i32_2338
  let v2608 : BitVec 32 := Scalar.addi c0_i32_2339 v2607
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2340 : BitVec 32 := 4#32
  let v2609 : BitVec 32 := Scalar.muli v136 c4_i32_2340
  let v2610 : BitVec 32 := Scalar.addi v2608 v2609
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2341 : BitVec 32 := 1#32
  let v2611 : BitVec 32 := Scalar.muli v137 c1_i32_2341
  let v2612 : BitVec 32 := Scalar.addi v2610 v2611
  v2612.toNat
def k0_dev108 (d0 : Dev nD) : Nat :=
  let c0_i32_2360 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2359 : BitVec 32 := 16#32
  let v2631 : BitVec 32 := Scalar.muli v2 c16_i32_2359
  let v2632 : BitVec 32 := Scalar.addi c0_i32_2360 v2631
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2361 : BitVec 32 := 4#32
  let v2633 : BitVec 32 := Scalar.muli v134 c4_i32_2361
  let v2634 : BitVec 32 := Scalar.addi v2632 v2633
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2362 : BitVec 32 := 1#32
  let v2635 : BitVec 32 := Scalar.muli v135 c1_i32_2362
  let v2636 : BitVec 32 := Scalar.addi v2634 v2635
  v2636.toNat
def k0_dev109 (d0 : Dev nD) : Nat :=
  let c0_i32_2382 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2381 : BitVec 32 := 16#32
  let v2655 : BitVec 32 := Scalar.muli v2 c16_i32_2381
  let v2656 : BitVec 32 := Scalar.addi c0_i32_2382 v2655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2383 : BitVec 32 := 4#32
  let v2657 : BitVec 32 := Scalar.muli v136 c4_i32_2383
  let v2658 : BitVec 32 := Scalar.addi v2656 v2657
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2384 : BitVec 32 := 1#32
  let v2659 : BitVec 32 := Scalar.muli v137 c1_i32_2384
  let v2660 : BitVec 32 := Scalar.addi v2658 v2659
  v2660.toNat
def k0_dev110 (d0 : Dev nD) : Nat :=
  let c0_i32_2403 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2402 : BitVec 32 := 16#32
  let v2679 : BitVec 32 := Scalar.muli v2 c16_i32_2402
  let v2680 : BitVec 32 := Scalar.addi c0_i32_2403 v2679
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2404 : BitVec 32 := 4#32
  let v2681 : BitVec 32 := Scalar.muli v134 c4_i32_2404
  let v2682 : BitVec 32 := Scalar.addi v2680 v2681
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2405 : BitVec 32 := 1#32
  let v2683 : BitVec 32 := Scalar.muli v135 c1_i32_2405
  let v2684 : BitVec 32 := Scalar.addi v2682 v2683
  v2684.toNat
def k0_dev111 (d0 : Dev nD) : Nat :=
  let c0_i32_2425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2424 : BitVec 32 := 16#32
  let v2703 : BitVec 32 := Scalar.muli v2 c16_i32_2424
  let v2704 : BitVec 32 := Scalar.addi c0_i32_2425 v2703
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2426 : BitVec 32 := 4#32
  let v2705 : BitVec 32 := Scalar.muli v136 c4_i32_2426
  let v2706 : BitVec 32 := Scalar.addi v2704 v2705
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2427 : BitVec 32 := 1#32
  let v2707 : BitVec 32 := Scalar.muli v137 c1_i32_2427
  let v2708 : BitVec 32 := Scalar.addi v2706 v2707
  v2708.toNat
def k0_dev112 (d0 : Dev nD) : Nat :=
  let c0_i32_2446 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2445 : BitVec 32 := 16#32
  let v2727 : BitVec 32 := Scalar.muli v2 c16_i32_2445
  let v2728 : BitVec 32 := Scalar.addi c0_i32_2446 v2727
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2447 : BitVec 32 := 4#32
  let v2729 : BitVec 32 := Scalar.muli v134 c4_i32_2447
  let v2730 : BitVec 32 := Scalar.addi v2728 v2729
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2448 : BitVec 32 := 1#32
  let v2731 : BitVec 32 := Scalar.muli v135 c1_i32_2448
  let v2732 : BitVec 32 := Scalar.addi v2730 v2731
  v2732.toNat
def k0_dev113 (d0 : Dev nD) : Nat :=
  let c0_i32_2468 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2467 : BitVec 32 := 16#32
  let v2751 : BitVec 32 := Scalar.muli v2 c16_i32_2467
  let v2752 : BitVec 32 := Scalar.addi c0_i32_2468 v2751
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2469 : BitVec 32 := 4#32
  let v2753 : BitVec 32 := Scalar.muli v136 c4_i32_2469
  let v2754 : BitVec 32 := Scalar.addi v2752 v2753
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2470 : BitVec 32 := 1#32
  let v2755 : BitVec 32 := Scalar.muli v137 c1_i32_2470
  let v2756 : BitVec 32 := Scalar.addi v2754 v2755
  v2756.toNat
def k0_dev114 (d0 : Dev nD) : Nat :=
  let c0_i32_2489 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2488 : BitVec 32 := 16#32
  let v2775 : BitVec 32 := Scalar.muli v2 c16_i32_2488
  let v2776 : BitVec 32 := Scalar.addi c0_i32_2489 v2775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2490 : BitVec 32 := 4#32
  let v2777 : BitVec 32 := Scalar.muli v134 c4_i32_2490
  let v2778 : BitVec 32 := Scalar.addi v2776 v2777
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2491 : BitVec 32 := 1#32
  let v2779 : BitVec 32 := Scalar.muli v135 c1_i32_2491
  let v2780 : BitVec 32 := Scalar.addi v2778 v2779
  v2780.toNat
def k0_dev115 (d0 : Dev nD) : Nat :=
  let c0_i32_2511 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2510 : BitVec 32 := 16#32
  let v2799 : BitVec 32 := Scalar.muli v2 c16_i32_2510
  let v2800 : BitVec 32 := Scalar.addi c0_i32_2511 v2799
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2512 : BitVec 32 := 4#32
  let v2801 : BitVec 32 := Scalar.muli v136 c4_i32_2512
  let v2802 : BitVec 32 := Scalar.addi v2800 v2801
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2513 : BitVec 32 := 1#32
  let v2803 : BitVec 32 := Scalar.muli v137 c1_i32_2513
  let v2804 : BitVec 32 := Scalar.addi v2802 v2803
  v2804.toNat
def k0_dev116 (d0 : Dev nD) : Nat :=
  let c0_i32_2532 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2531 : BitVec 32 := 16#32
  let v2823 : BitVec 32 := Scalar.muli v2 c16_i32_2531
  let v2824 : BitVec 32 := Scalar.addi c0_i32_2532 v2823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2533 : BitVec 32 := 4#32
  let v2825 : BitVec 32 := Scalar.muli v134 c4_i32_2533
  let v2826 : BitVec 32 := Scalar.addi v2824 v2825
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2534 : BitVec 32 := 1#32
  let v2827 : BitVec 32 := Scalar.muli v135 c1_i32_2534
  let v2828 : BitVec 32 := Scalar.addi v2826 v2827
  v2828.toNat
def k0_dev117 (d0 : Dev nD) : Nat :=
  let c0_i32_2554 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2553 : BitVec 32 := 16#32
  let v2847 : BitVec 32 := Scalar.muli v2 c16_i32_2553
  let v2848 : BitVec 32 := Scalar.addi c0_i32_2554 v2847
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2555 : BitVec 32 := 4#32
  let v2849 : BitVec 32 := Scalar.muli v136 c4_i32_2555
  let v2850 : BitVec 32 := Scalar.addi v2848 v2849
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2556 : BitVec 32 := 1#32
  let v2851 : BitVec 32 := Scalar.muli v137 c1_i32_2556
  let v2852 : BitVec 32 := Scalar.addi v2850 v2851
  v2852.toNat
def k0_dev118 (d0 : Dev nD) : Nat :=
  let c0_i32_2575 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2574 : BitVec 32 := 16#32
  let v2871 : BitVec 32 := Scalar.muli v2 c16_i32_2574
  let v2872 : BitVec 32 := Scalar.addi c0_i32_2575 v2871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2576 : BitVec 32 := 4#32
  let v2873 : BitVec 32 := Scalar.muli v134 c4_i32_2576
  let v2874 : BitVec 32 := Scalar.addi v2872 v2873
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2577 : BitVec 32 := 1#32
  let v2875 : BitVec 32 := Scalar.muli v135 c1_i32_2577
  let v2876 : BitVec 32 := Scalar.addi v2874 v2875
  v2876.toNat
def k0_dev119 (d0 : Dev nD) : Nat :=
  let c0_i32_2597 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2596 : BitVec 32 := 16#32
  let v2895 : BitVec 32 := Scalar.muli v2 c16_i32_2596
  let v2896 : BitVec 32 := Scalar.addi c0_i32_2597 v2895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2598 : BitVec 32 := 4#32
  let v2897 : BitVec 32 := Scalar.muli v136 c4_i32_2598
  let v2898 : BitVec 32 := Scalar.addi v2896 v2897
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2599 : BitVec 32 := 1#32
  let v2899 : BitVec 32 := Scalar.muli v137 c1_i32_2599
  let v2900 : BitVec 32 := Scalar.addi v2898 v2899
  v2900.toNat
def k0_dev120 (d0 : Dev nD) : Nat :=
  let c0_i32_2618 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2617 : BitVec 32 := 16#32
  let v2919 : BitVec 32 := Scalar.muli v2 c16_i32_2617
  let v2920 : BitVec 32 := Scalar.addi c0_i32_2618 v2919
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2619 : BitVec 32 := 4#32
  let v2921 : BitVec 32 := Scalar.muli v134 c4_i32_2619
  let v2922 : BitVec 32 := Scalar.addi v2920 v2921
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2620 : BitVec 32 := 1#32
  let v2923 : BitVec 32 := Scalar.muli v135 c1_i32_2620
  let v2924 : BitVec 32 := Scalar.addi v2922 v2923
  v2924.toNat
def k0_dev121 (d0 : Dev nD) : Nat :=
  let c0_i32_2640 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2639 : BitVec 32 := 16#32
  let v2943 : BitVec 32 := Scalar.muli v2 c16_i32_2639
  let v2944 : BitVec 32 := Scalar.addi c0_i32_2640 v2943
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2641 : BitVec 32 := 4#32
  let v2945 : BitVec 32 := Scalar.muli v136 c4_i32_2641
  let v2946 : BitVec 32 := Scalar.addi v2944 v2945
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2642 : BitVec 32 := 1#32
  let v2947 : BitVec 32 := Scalar.muli v137 c1_i32_2642
  let v2948 : BitVec 32 := Scalar.addi v2946 v2947
  v2948.toNat
def k0_dev122 (d0 : Dev nD) : Nat :=
  let c0_i32_2661 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2660 : BitVec 32 := 16#32
  let v2967 : BitVec 32 := Scalar.muli v2 c16_i32_2660
  let v2968 : BitVec 32 := Scalar.addi c0_i32_2661 v2967
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2662 : BitVec 32 := 4#32
  let v2969 : BitVec 32 := Scalar.muli v134 c4_i32_2662
  let v2970 : BitVec 32 := Scalar.addi v2968 v2969
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2663 : BitVec 32 := 1#32
  let v2971 : BitVec 32 := Scalar.muli v135 c1_i32_2663
  let v2972 : BitVec 32 := Scalar.addi v2970 v2971
  v2972.toNat
def k0_dev123 (d0 : Dev nD) : Nat :=
  let c0_i32_2683 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2682 : BitVec 32 := 16#32
  let v2991 : BitVec 32 := Scalar.muli v2 c16_i32_2682
  let v2992 : BitVec 32 := Scalar.addi c0_i32_2683 v2991
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2684 : BitVec 32 := 4#32
  let v2993 : BitVec 32 := Scalar.muli v136 c4_i32_2684
  let v2994 : BitVec 32 := Scalar.addi v2992 v2993
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2685 : BitVec 32 := 1#32
  let v2995 : BitVec 32 := Scalar.muli v137 c1_i32_2685
  let v2996 : BitVec 32 := Scalar.addi v2994 v2995
  v2996.toNat
def k0_dev124 (d0 : Dev nD) : Nat :=
  let c0_i32_2704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2703 : BitVec 32 := 16#32
  let v3015 : BitVec 32 := Scalar.muli v2 c16_i32_2703
  let v3016 : BitVec 32 := Scalar.addi c0_i32_2704 v3015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2705 : BitVec 32 := 4#32
  let v3017 : BitVec 32 := Scalar.muli v134 c4_i32_2705
  let v3018 : BitVec 32 := Scalar.addi v3016 v3017
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2706 : BitVec 32 := 1#32
  let v3019 : BitVec 32 := Scalar.muli v135 c1_i32_2706
  let v3020 : BitVec 32 := Scalar.addi v3018 v3019
  v3020.toNat
def k0_dev125 (d0 : Dev nD) : Nat :=
  let c0_i32_2736 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2735 : BitVec 32 := 16#32
  let v3051 : BitVec 32 := Scalar.muli v2 c16_i32_2735
  let v3052 : BitVec 32 := Scalar.addi c0_i32_2736 v3051
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2737 : BitVec 32 := 4#32
  let v3053 : BitVec 32 := Scalar.muli v134 c4_i32_2737
  let v3054 : BitVec 32 := Scalar.addi v3052 v3053
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2738 : BitVec 32 := 1#32
  let v3055 : BitVec 32 := Scalar.muli v135 c1_i32_2738
  let v3056 : BitVec 32 := Scalar.addi v3054 v3055
  v3056.toNat
def k0_dev126 (d0 : Dev nD) : Nat :=
  let c0_i32_2768 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2767 : BitVec 32 := 16#32
  let v3087 : BitVec 32 := Scalar.muli v2 c16_i32_2767
  let v3088 : BitVec 32 := Scalar.addi c0_i32_2768 v3087
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2769 : BitVec 32 := 4#32
  let v3089 : BitVec 32 := Scalar.muli v134 c4_i32_2769
  let v3090 : BitVec 32 := Scalar.addi v3088 v3089
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2770 : BitVec 32 := 1#32
  let v3091 : BitVec 32 := Scalar.muli v135 c1_i32_2770
  let v3092 : BitVec 32 := Scalar.addi v3090 v3091
  v3092.toNat
def k0_dev127 (d0 : Dev nD) : Nat :=
  let c0_i32_2800 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2799 : BitVec 32 := 16#32
  let v3123 : BitVec 32 := Scalar.muli v2 c16_i32_2799
  let v3124 : BitVec 32 := Scalar.addi c0_i32_2800 v3123
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c0_i32_103 : BitVec 32 := 0#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c1_i32_97 : BitVec 32 := 1#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c2_i32_91 : BitVec 32 := 2#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_85 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_79 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c3_i32_73 : BitVec 32 := 3#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c3_i32_67 : BitVec 32 := 3#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_61 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c2_i32_55 : BitVec 32 := 2#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c2_i32_49 : BitVec 32 := 2#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_43 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c1_i32_37 : BitVec 32 := 1#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c1_i32_30 : BitVec 32 := 1#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_24 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_17 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_6 : BitVec 32 := 0#32
  let c0_i32_7 : BitVec 32 := 0#32
  let v14 : BitVec 32 := Scalar.select v12 c0_i32_6 c0_i32_7
  let v22 : BitVec 32 := Scalar.select v20 c0_i32_17 v14
  let v30 : BitVec 32 := Scalar.select v28 c0_i32_24 v22
  let v38 : BitVec 32 := Scalar.select v36 c1_i32_30 v30
  let v46 : BitVec 32 := Scalar.select v44 c1_i32_37 v38
  let v54 : BitVec 32 := Scalar.select v52 c1_i32_43 v46
  let v62 : BitVec 32 := Scalar.select v60 c2_i32_49 v54
  let v70 : BitVec 32 := Scalar.select v68 c2_i32_55 v62
  let v78 : BitVec 32 := Scalar.select v76 c2_i32_61 v70
  let v86 : BitVec 32 := Scalar.select v84 c3_i32_67 v78
  let v94 : BitVec 32 := Scalar.select v92 c3_i32_73 v86
  let v102 : BitVec 32 := Scalar.select v100 c3_i32_79 v94
  let v110 : BitVec 32 := Scalar.select v108 c3_i32_85 v102
  let v118 : BitVec 32 := Scalar.select v116 c2_i32_91 v110
  let v126 : BitVec 32 := Scalar.select v124 c1_i32_97 v118
  let v134 : BitVec 32 := Scalar.select v132 c0_i32_103 v126
  let c4_i32_2801 : BitVec 32 := 4#32
  let v3125 : BitVec 32 := Scalar.muli v134 c4_i32_2801
  let v3126 : BitVec 32 := Scalar.addi v3124 v3125
  let c0_i32_104 : BitVec 32 := 0#32
  let c0_i32_98 : BitVec 32 := 0#32
  let c0_i32_92 : BitVec 32 := 0#32
  let c0_i32_86 : BitVec 32 := 0#32
  let c1_i32_80 : BitVec 32 := 1#32
  let c2_i32_74 : BitVec 32 := 2#32
  let c3_i32_68 : BitVec 32 := 3#32
  let c3_i32_62 : BitVec 32 := 3#32
  let c2_i32_56 : BitVec 32 := 2#32
  let c1_i32_50 : BitVec 32 := 1#32
  let c1_i32_44 : BitVec 32 := 1#32
  let c2_i32_38 : BitVec 32 := 2#32
  let c3_i32_31 : BitVec 32 := 3#32
  let c3_i32 : BitVec 32 := 3#32
  let c2_i32_18 : BitVec 32 := 2#32
  let c1_i32_8 : BitVec 32 := 1#32
  let c0_i32_9 : BitVec 32 := 0#32
  let v15 : BitVec 32 := Scalar.select v12 c1_i32_8 c0_i32_9
  let v23 : BitVec 32 := Scalar.select v20 c2_i32_18 v15
  let v31 : BitVec 32 := Scalar.select v28 c3_i32 v23
  let v39 : BitVec 32 := Scalar.select v36 c3_i32_31 v31
  let v47 : BitVec 32 := Scalar.select v44 c2_i32_38 v39
  let v55 : BitVec 32 := Scalar.select v52 c1_i32_44 v47
  let v63 : BitVec 32 := Scalar.select v60 c1_i32_50 v55
  let v71 : BitVec 32 := Scalar.select v68 c2_i32_56 v63
  let v79 : BitVec 32 := Scalar.select v76 c3_i32_62 v71
  let v87 : BitVec 32 := Scalar.select v84 c3_i32_68 v79
  let v95 : BitVec 32 := Scalar.select v92 c2_i32_74 v87
  let v103 : BitVec 32 := Scalar.select v100 c1_i32_80 v95
  let v111 : BitVec 32 := Scalar.select v108 c0_i32_86 v103
  let v119 : BitVec 32 := Scalar.select v116 c0_i32_92 v111
  let v127 : BitVec 32 := Scalar.select v124 c0_i32_98 v119
  let v135 : BitVec 32 := Scalar.select v132 c0_i32_104 v127
  let c1_i32_2802 : BitVec 32 := 1#32
  let v3127 : BitVec 32 := Scalar.muli v135 c1_i32_2802
  let v3128 : BitVec 32 := Scalar.addi v3126 v3127
  v3128.toNat
def k0_dev128 (d0 : Dev nD) : Nat :=
  let c0_i32_2844 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2843 : BitVec 32 := 16#32
  let v3171 : BitVec 32 := Scalar.muli v2 c16_i32_2843
  let v3172 : BitVec 32 := Scalar.addi c0_i32_2844 v3171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2845 : BitVec 32 := 4#32
  let v3173 : BitVec 32 := Scalar.muli v136 c4_i32_2845
  let v3174 : BitVec 32 := Scalar.addi v3172 v3173
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2846 : BitVec 32 := 1#32
  let v3175 : BitVec 32 := Scalar.muli v137 c1_i32_2846
  let v3176 : BitVec 32 := Scalar.addi v3174 v3175
  v3176.toNat
def k0_dev129 (d0 : Dev nD) : Nat :=
  let c0_i32_2877 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2876 : BitVec 32 := 16#32
  let v3207 : BitVec 32 := Scalar.muli v2 c16_i32_2876
  let v3208 : BitVec 32 := Scalar.addi c0_i32_2877 v3207
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2878 : BitVec 32 := 4#32
  let v3209 : BitVec 32 := Scalar.muli v136 c4_i32_2878
  let v3210 : BitVec 32 := Scalar.addi v3208 v3209
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2879 : BitVec 32 := 1#32
  let v3211 : BitVec 32 := Scalar.muli v137 c1_i32_2879
  let v3212 : BitVec 32 := Scalar.addi v3210 v3211
  v3212.toNat
def k0_dev130 (d0 : Dev nD) : Nat :=
  let c0_i32_2910 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2909 : BitVec 32 := 16#32
  let v3243 : BitVec 32 := Scalar.muli v2 c16_i32_2909
  let v3244 : BitVec 32 := Scalar.addi c0_i32_2910 v3243
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2911 : BitVec 32 := 4#32
  let v3245 : BitVec 32 := Scalar.muli v136 c4_i32_2911
  let v3246 : BitVec 32 := Scalar.addi v3244 v3245
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2912 : BitVec 32 := 1#32
  let v3247 : BitVec 32 := Scalar.muli v137 c1_i32_2912
  let v3248 : BitVec 32 := Scalar.addi v3246 v3247
  v3248.toNat
def k0_dev131 (d0 : Dev nD) : Nat :=
  let c0_i32_2943 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2942 : BitVec 32 := 16#32
  let v3279 : BitVec 32 := Scalar.muli v2 c16_i32_2942
  let v3280 : BitVec 32 := Scalar.addi c0_i32_2943 v3279
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c2_i32_105 : BitVec 32 := 2#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c3_i32_99 : BitVec 32 := 3#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c3_i32_93 : BitVec 32 := 3#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c3_i32_87 : BitVec 32 := 3#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c3_i32_81 : BitVec 32 := 3#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c2_i32_75 : BitVec 32 := 2#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c2_i32_69 : BitVec 32 := 2#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c2_i32_63 : BitVec 32 := 2#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c1_i32_57 : BitVec 32 := 1#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c1_i32_51 : BitVec 32 := 1#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c1_i32_45 : BitVec 32 := 1#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c0_i32_39 : BitVec 32 := 0#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c0_i32_32 : BitVec 32 := 0#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c0_i32_25 : BitVec 32 := 0#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c0_i32_19 : BitVec 32 := 0#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c1_i32_10 : BitVec 32 := 1#32
  let c0_i32_11 : BitVec 32 := 0#32
  let v16 : BitVec 32 := Scalar.select v12 c1_i32_10 c0_i32_11
  let v24 : BitVec 32 := Scalar.select v20 c0_i32_19 v16
  let v32 : BitVec 32 := Scalar.select v28 c0_i32_25 v24
  let v40 : BitVec 32 := Scalar.select v36 c0_i32_32 v32
  let v48 : BitVec 32 := Scalar.select v44 c0_i32_39 v40
  let v56 : BitVec 32 := Scalar.select v52 c1_i32_45 v48
  let v64 : BitVec 32 := Scalar.select v60 c1_i32_51 v56
  let v72 : BitVec 32 := Scalar.select v68 c1_i32_57 v64
  let v80 : BitVec 32 := Scalar.select v76 c2_i32_63 v72
  let v88 : BitVec 32 := Scalar.select v84 c2_i32_69 v80
  let v96 : BitVec 32 := Scalar.select v92 c2_i32_75 v88
  let v104 : BitVec 32 := Scalar.select v100 c3_i32_81 v96
  let v112 : BitVec 32 := Scalar.select v108 c3_i32_87 v104
  let v120 : BitVec 32 := Scalar.select v116 c3_i32_93 v112
  let v128 : BitVec 32 := Scalar.select v124 c3_i32_99 v120
  let v136 : BitVec 32 := Scalar.select v132 c2_i32_105 v128
  let c4_i32_2944 : BitVec 32 := 4#32
  let v3281 : BitVec 32 := Scalar.muli v136 c4_i32_2944
  let v3282 : BitVec 32 := Scalar.addi v3280 v3281
  let c0_i32_106 : BitVec 32 := 0#32
  let c0_i32_100 : BitVec 32 := 0#32
  let c1_i32_94 : BitVec 32 := 1#32
  let c2_i32_88 : BitVec 32 := 2#32
  let c3_i32_82 : BitVec 32 := 3#32
  let c3_i32_76 : BitVec 32 := 3#32
  let c2_i32_70 : BitVec 32 := 2#32
  let c1_i32_64 : BitVec 32 := 1#32
  let c1_i32_58 : BitVec 32 := 1#32
  let c2_i32_52 : BitVec 32 := 2#32
  let c3_i32_46 : BitVec 32 := 3#32
  let c3_i32_40 : BitVec 32 := 3#32
  let c2_i32_33 : BitVec 32 := 2#32
  let c1_i32_26 : BitVec 32 := 1#32
  let c0_i32_20 : BitVec 32 := 0#32
  let c0_i32_12 : BitVec 32 := 0#32
  let c0_i32_13 : BitVec 32 := 0#32
  let v17 : BitVec 32 := Scalar.select v12 c0_i32_12 c0_i32_13
  let v25 : BitVec 32 := Scalar.select v20 c0_i32_20 v17
  let v33 : BitVec 32 := Scalar.select v28 c1_i32_26 v25
  let v41 : BitVec 32 := Scalar.select v36 c2_i32_33 v33
  let v49 : BitVec 32 := Scalar.select v44 c3_i32_40 v41
  let v57 : BitVec 32 := Scalar.select v52 c3_i32_46 v49
  let v65 : BitVec 32 := Scalar.select v60 c2_i32_52 v57
  let v73 : BitVec 32 := Scalar.select v68 c1_i32_58 v65
  let v81 : BitVec 32 := Scalar.select v76 c1_i32_64 v73
  let v89 : BitVec 32 := Scalar.select v84 c2_i32_70 v81
  let v97 : BitVec 32 := Scalar.select v92 c3_i32_76 v89
  let v105 : BitVec 32 := Scalar.select v100 c3_i32_82 v97
  let v113 : BitVec 32 := Scalar.select v108 c2_i32_88 v105
  let v121 : BitVec 32 := Scalar.select v116 c1_i32_94 v113
  let v129 : BitVec 32 := Scalar.select v124 c0_i32_100 v121
  let v137 : BitVec 32 := Scalar.select v132 c0_i32_106 v129
  let c1_i32_2945 : BitVec 32 := 1#32
  let v3283 : BitVec 32 := Scalar.muli v137 c1_i32_2945
  let v3284 : BitVec 32 := Scalar.addi v3282 v3283
  v3284.toNat
@[reducible] def k0_t3_loop : Scf.Loop 32 :=
  let c0_i32_2950 : BitVec 32 := 0#32
  let c15_i32_2951 : BitVec 32 := 15#32
  let v3291 : BitVec 32 := Scalar.addi c0_i32_2950 c15_i32_2951
  let c1_i32_2952 : BitVec 32 := 1#32
  ⟨c0_i32_2950, v3291, c1_i32_2952⟩
def k0_off9 (d0 : Dev nD) (k0_t3 : Fin k0_t3_loop.trips) : Fin 2 → Nat :=
  let c0_i32_2950 : BitVec 32 := 0#32
  let c1_i32_2952 : BitVec 32 := 1#32
  let arg16 : BitVec 32 := Scf.iv c0_i32_2950 c1_i32_2952 k0_t3
  let c8_i32_4065 : BitVec 32 := 8#32
  let v3896 : BitVec 1 := Scalar.cmpi .slt arg16 c8_i32_4065
  let c1_i32_4066 : BitVec 32 := 1#32
  let v3897 : BitVec 32 := Scalar.addi arg16 c1_i32_4066
  let v3898 : BitVec 32 := Scalar.select v3896 arg16 v3897
  let c8_i32_4067 : BitVec 32 := 8#32
  let v3899 : BitVec 1 := Scalar.cmpi .sle v3898 c8_i32_4067
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c15_i32 : BitVec 32 := 15#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c14_i32 : BitVec 32 := 14#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c13_i32 : BitVec 32 := 13#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c12_i32 : BitVec 32 := 12#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c11_i32 : BitVec 32 := 11#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c10_i32 : BitVec 32 := 10#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c9_i32 : BitVec 32 := 9#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c8_i32 : BitVec 32 := 8#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c7_i32 : BitVec 32 := 7#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c6_i32 : BitVec 32 := 6#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c5_i32 : BitVec 32 := 5#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c4_i32_36 : BitVec 32 := 4#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c3_i32_29 : BitVec 32 := 3#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c2_i32_23 : BitVec 32 := 2#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c1_i32_16 : BitVec 32 := 1#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_4 : BitVec 32 := 0#32
  let c0_i32_5 : BitVec 32 := 0#32
  let v13 : BitVec 32 := Scalar.select v12 c0_i32_4 c0_i32_5
  let v21 : BitVec 32 := Scalar.select v20 c1_i32_16 v13
  let v29 : BitVec 32 := Scalar.select v28 c2_i32_23 v21
  let v37 : BitVec 32 := Scalar.select v36 c3_i32_29 v29
  let v45 : BitVec 32 := Scalar.select v44 c4_i32_36 v37
  let v53 : BitVec 32 := Scalar.select v52 c5_i32 v45
  let v61 : BitVec 32 := Scalar.select v60 c6_i32 v53
  let v69 : BitVec 32 := Scalar.select v68 c7_i32 v61
  let v77 : BitVec 32 := Scalar.select v76 c8_i32 v69
  let v85 : BitVec 32 := Scalar.select v84 c9_i32 v77
  let v93 : BitVec 32 := Scalar.select v92 c10_i32 v85
  let v101 : BitVec 32 := Scalar.select v100 c11_i32 v93
  let v109 : BitVec 32 := Scalar.select v108 c12_i32 v101
  let v117 : BitVec 32 := Scalar.select v116 c13_i32 v109
  let v125 : BitVec 32 := Scalar.select v124 c14_i32 v117
  let v133 : BitVec 32 := Scalar.select v132 c15_i32 v125
  let v3900 : BitVec 32 := Scalar.subi v133 v3898
  let c16_i32_4068 : BitVec 32 := 16#32
  let v3901 : BitVec 32 := Scalar.addi v3900 c16_i32_4068
  let c16_i32_4069 : BitVec 32 := 16#32
  let v3902 : BitVec 32 := Scalar.remsi v3901 c16_i32_4069
  let c16_i32_4070 : BitVec 32 := 16#32
  let v3903 : BitVec 32 := Scalar.addi v133 c16_i32_4070
  let v3904 : BitVec 32 := Scalar.subi v3903 v3898
  let c16_i32_4071 : BitVec 32 := 16#32
  let v3905 : BitVec 32 := Scalar.remsi v3904 c16_i32_4071
  let v3906 : BitVec 32 := Scalar.select v3899 v3902 v3905
  let c256_i32_4072 : BitVec 32 := 256#32
  let v3907 : BitVec 32 := Scalar.muli v3906 c256_i32_4072
  let c0_i32_4073 : BitVec 32 := 0#32
  ![v3907.toNat, 0]
def k0_off10 (k0_t3 : Fin k0_t3_loop.trips) : Fin 3 → Nat :=
  let c0_i32_2950 : BitVec 32 := 0#32
  let c1_i32_2952 : BitVec 32 := 1#32
  let arg16 : BitVec 32 := Scf.iv c0_i32_2950 c1_i32_2952 k0_t3
  let c8_i32_4065 : BitVec 32 := 8#32
  let v3896 : BitVec 1 := Scalar.cmpi .slt arg16 c8_i32_4065
  let c1_i32_4066 : BitVec 32 := 1#32
  let v3897 : BitVec 32 := Scalar.addi arg16 c1_i32_4066
  let v3898 : BitVec 32 := Scalar.select v3896 arg16 v3897
  let c0_i32_4074 : BitVec 32 := 0#32
  let c0_i32_4075 : BitVec 32 := 0#32
  ![v3898.toNat, 0, 0]
def k0_off11 (d0 : Dev nD) : Fin 2 → Nat :=
  let true_3048 : BitVec 1 := 1#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c15_i32 : BitVec 32 := 15#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c14_i32 : BitVec 32 := 14#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c13_i32 : BitVec 32 := 13#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c12_i32 : BitVec 32 := 12#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c11_i32 : BitVec 32 := 11#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c10_i32 : BitVec 32 := 10#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c9_i32 : BitVec 32 := 9#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c8_i32 : BitVec 32 := 8#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c7_i32 : BitVec 32 := 7#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c6_i32 : BitVec 32 := 6#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c5_i32 : BitVec 32 := 5#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c4_i32_36 : BitVec 32 := 4#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c3_i32_29 : BitVec 32 := 3#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c2_i32_23 : BitVec 32 := 2#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c1_i32_16 : BitVec 32 := 1#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_4 : BitVec 32 := 0#32
  let c0_i32_5 : BitVec 32 := 0#32
  let v13 : BitVec 32 := Scalar.select v12 c0_i32_4 c0_i32_5
  let v21 : BitVec 32 := Scalar.select v20 c1_i32_16 v13
  let v29 : BitVec 32 := Scalar.select v28 c2_i32_23 v21
  let v37 : BitVec 32 := Scalar.select v36 c3_i32_29 v29
  let v45 : BitVec 32 := Scalar.select v44 c4_i32_36 v37
  let v53 : BitVec 32 := Scalar.select v52 c5_i32 v45
  let v61 : BitVec 32 := Scalar.select v60 c6_i32 v53
  let v69 : BitVec 32 := Scalar.select v68 c7_i32 v61
  let v77 : BitVec 32 := Scalar.select v76 c8_i32 v69
  let v85 : BitVec 32 := Scalar.select v84 c9_i32 v77
  let v93 : BitVec 32 := Scalar.select v92 c10_i32 v85
  let v101 : BitVec 32 := Scalar.select v100 c11_i32 v93
  let v109 : BitVec 32 := Scalar.select v108 c12_i32 v101
  let v117 : BitVec 32 := Scalar.select v116 c13_i32 v109
  let v125 : BitVec 32 := Scalar.select v124 c14_i32 v117
  let v133 : BitVec 32 := Scalar.select v132 c15_i32 v125
  let c8_i32_3042 : BitVec 32 := 8#32
  let v3388 : BitVec 32 := Scalar.subi v133 c8_i32_3042
  let c16_i32_3043 : BitVec 32 := 16#32
  let v3389 : BitVec 32 := Scalar.addi v3388 c16_i32_3043
  let c16_i32_3044 : BitVec 32 := 16#32
  let v3390 : BitVec 32 := Scalar.remsi v3389 c16_i32_3044
  let c16_i32_3045 : BitVec 32 := 16#32
  let v3391 : BitVec 32 := Scalar.addi v133 c16_i32_3045
  let c8_i32_3046 : BitVec 32 := 8#32
  let v3392 : BitVec 32 := Scalar.subi v3391 c8_i32_3046
  let c16_i32_3047 : BitVec 32 := 16#32
  let v3393 : BitVec 32 := Scalar.remsi v3392 c16_i32_3047
  let v3394 : BitVec 32 := Scalar.select true_3048 v3390 v3393
  let c256_i32 : BitVec 32 := 256#32
  let v3395 : BitVec 32 := Scalar.muli v3394 c256_i32
  let c0_i32_3050 : BitVec 32 := 0#32
  ![v3395.toNat, 0]
@[reducible] def k0_t4_loop : Scf.Loop 32 :=
  let c0_i32_3053 : BitVec 32 := 0#32
  let c16_i32_3054 : BitVec 32 := 16#32
  let v3399 : BitVec 32 := Scalar.addi c0_i32_3053 c16_i32_3054
  let c1_i32_3055 : BitVec 32 := 1#32
  ⟨c0_i32_3053, v3399, c1_i32_3055⟩
def k0_off12 (d0 : Dev nD) (k0_t4 : Fin k0_t4_loop.trips) : Fin 2 → Nat :=
  let c0_i32_3053 : BitVec 32 := 0#32
  let c1_i32_3055 : BitVec 32 := 1#32
  let arg16 : BitVec 32 := Scf.iv c0_i32_3053 c1_i32_3055 k0_t4
  let c8_i32_4065 : BitVec 32 := 8#32
  let v3896 : BitVec 1 := Scalar.cmpi .sle arg16 c8_i32_4065
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v130 : BitVec 1 := Scalar.cmpi .eq v5 c1_i32_101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_102 : BitVec 32 := 0#32
  let v131 : BitVec 1 := Scalar.cmpi .eq v8 c0_i32_102
  let v132 : BitVec 1 := Scalar.andi v130 v131
  let c15_i32 : BitVec 32 := 15#32
  let c2_i32_95 : BitVec 32 := 2#32
  let v122 : BitVec 1 := Scalar.cmpi .eq v5 c2_i32_95
  let c0_i32_96 : BitVec 32 := 0#32
  let v123 : BitVec 1 := Scalar.cmpi .eq v8 c0_i32_96
  let v124 : BitVec 1 := Scalar.andi v122 v123
  let c14_i32 : BitVec 32 := 14#32
  let c3_i32_89 : BitVec 32 := 3#32
  let v114 : BitVec 1 := Scalar.cmpi .eq v5 c3_i32_89
  let c0_i32_90 : BitVec 32 := 0#32
  let v115 : BitVec 1 := Scalar.cmpi .eq v8 c0_i32_90
  let v116 : BitVec 1 := Scalar.andi v114 v115
  let c13_i32 : BitVec 32 := 13#32
  let c3_i32_83 : BitVec 32 := 3#32
  let v106 : BitVec 1 := Scalar.cmpi .eq v5 c3_i32_83
  let c1_i32_84 : BitVec 32 := 1#32
  let v107 : BitVec 1 := Scalar.cmpi .eq v8 c1_i32_84
  let v108 : BitVec 1 := Scalar.andi v106 v107
  let c12_i32 : BitVec 32 := 12#32
  let c3_i32_77 : BitVec 32 := 3#32
  let v98 : BitVec 1 := Scalar.cmpi .eq v5 c3_i32_77
  let c2_i32_78 : BitVec 32 := 2#32
  let v99 : BitVec 1 := Scalar.cmpi .eq v8 c2_i32_78
  let v100 : BitVec 1 := Scalar.andi v98 v99
  let c11_i32 : BitVec 32 := 11#32
  let c3_i32_71 : BitVec 32 := 3#32
  let v90 : BitVec 1 := Scalar.cmpi .eq v5 c3_i32_71
  let c3_i32_72 : BitVec 32 := 3#32
  let v91 : BitVec 1 := Scalar.cmpi .eq v8 c3_i32_72
  let v92 : BitVec 1 := Scalar.andi v90 v91
  let c10_i32 : BitVec 32 := 10#32
  let c2_i32_65 : BitVec 32 := 2#32
  let v82 : BitVec 1 := Scalar.cmpi .eq v5 c2_i32_65
  let c3_i32_66 : BitVec 32 := 3#32
  let v83 : BitVec 1 := Scalar.cmpi .eq v8 c3_i32_66
  let v84 : BitVec 1 := Scalar.andi v82 v83
  let c9_i32 : BitVec 32 := 9#32
  let c2_i32_59 : BitVec 32 := 2#32
  let v74 : BitVec 1 := Scalar.cmpi .eq v5 c2_i32_59
  let c2_i32_60 : BitVec 32 := 2#32
  let v75 : BitVec 1 := Scalar.cmpi .eq v8 c2_i32_60
  let v76 : BitVec 1 := Scalar.andi v74 v75
  let c8_i32 : BitVec 32 := 8#32
  let c2_i32_53 : BitVec 32 := 2#32
  let v66 : BitVec 1 := Scalar.cmpi .eq v5 c2_i32_53
  let c1_i32_54 : BitVec 32 := 1#32
  let v67 : BitVec 1 := Scalar.cmpi .eq v8 c1_i32_54
  let v68 : BitVec 1 := Scalar.andi v66 v67
  let c7_i32 : BitVec 32 := 7#32
  let c1_i32_47 : BitVec 32 := 1#32
  let v58 : BitVec 1 := Scalar.cmpi .eq v5 c1_i32_47
  let c1_i32_48 : BitVec 32 := 1#32
  let v59 : BitVec 1 := Scalar.cmpi .eq v8 c1_i32_48
  let v60 : BitVec 1 := Scalar.andi v58 v59
  let c6_i32 : BitVec 32 := 6#32
  let c1_i32_41 : BitVec 32 := 1#32
  let v50 : BitVec 1 := Scalar.cmpi .eq v5 c1_i32_41
  let c2_i32_42 : BitVec 32 := 2#32
  let v51 : BitVec 1 := Scalar.cmpi .eq v8 c2_i32_42
  let v52 : BitVec 1 := Scalar.andi v50 v51
  let c5_i32 : BitVec 32 := 5#32
  let c1_i32_34 : BitVec 32 := 1#32
  let v42 : BitVec 1 := Scalar.cmpi .eq v5 c1_i32_34
  let c3_i32_35 : BitVec 32 := 3#32
  let v43 : BitVec 1 := Scalar.cmpi .eq v8 c3_i32_35
  let v44 : BitVec 1 := Scalar.andi v42 v43
  let c4_i32_36 : BitVec 32 := 4#32
  let c0_i32_27 : BitVec 32 := 0#32
  let v34 : BitVec 1 := Scalar.cmpi .eq v5 c0_i32_27
  let c3_i32_28 : BitVec 32 := 3#32
  let v35 : BitVec 1 := Scalar.cmpi .eq v8 c3_i32_28
  let v36 : BitVec 1 := Scalar.andi v34 v35
  let c3_i32_29 : BitVec 32 := 3#32
  let c0_i32_21 : BitVec 32 := 0#32
  let v26 : BitVec 1 := Scalar.cmpi .eq v5 c0_i32_21
  let c2_i32_22 : BitVec 32 := 2#32
  let v27 : BitVec 1 := Scalar.cmpi .eq v8 c2_i32_22
  let v28 : BitVec 1 := Scalar.andi v26 v27
  let c2_i32_23 : BitVec 32 := 2#32
  let c0_i32_14 : BitVec 32 := 0#32
  let v18 : BitVec 1 := Scalar.cmpi .eq v5 c0_i32_14
  let c1_i32_15 : BitVec 32 := 1#32
  let v19 : BitVec 1 := Scalar.cmpi .eq v8 c1_i32_15
  let v20 : BitVec 1 := Scalar.andi v18 v19
  let c1_i32_16 : BitVec 32 := 1#32
  let c0_i32 : BitVec 32 := 0#32
  let v10 : BitVec 1 := Scalar.cmpi .eq v5 c0_i32
  let c0_i32_3 : BitVec 32 := 0#32
  let v11 : BitVec 1 := Scalar.cmpi .eq v8 c0_i32_3
  let v12 : BitVec 1 := Scalar.andi v10 v11
  let c0_i32_4 : BitVec 32 := 0#32
  let c0_i32_5 : BitVec 32 := 0#32
  let v13 : BitVec 32 := Scalar.select v12 c0_i32_4 c0_i32_5
  let v21 : BitVec 32 := Scalar.select v20 c1_i32_16 v13
  let v29 : BitVec 32 := Scalar.select v28 c2_i32_23 v21
  let v37 : BitVec 32 := Scalar.select v36 c3_i32_29 v29
  let v45 : BitVec 32 := Scalar.select v44 c4_i32_36 v37
  let v53 : BitVec 32 := Scalar.select v52 c5_i32 v45
  let v61 : BitVec 32 := Scalar.select v60 c6_i32 v53
  let v69 : BitVec 32 := Scalar.select v68 c7_i32 v61
  let v77 : BitVec 32 := Scalar.select v76 c8_i32 v69
  let v85 : BitVec 32 := Scalar.select v84 c9_i32 v77
  let v93 : BitVec 32 := Scalar.select v92 c10_i32 v85
  let v101 : BitVec 32 := Scalar.select v100 c11_i32 v93
  let v109 : BitVec 32 := Scalar.select v108 c12_i32 v101
  let v117 : BitVec 32 := Scalar.select v116 c13_i32 v109
  let v125 : BitVec 32 := Scalar.select v124 c14_i32 v117
  let v133 : BitVec 32 := Scalar.select v132 c15_i32 v125
  let v3897 : BitVec 32 := Scalar.subi v133 arg16
  let c16_i32_4066 : BitVec 32 := 16#32
  let v3898 : BitVec 32 := Scalar.addi v3897 c16_i32_4066
  let c16_i32_4067 : BitVec 32 := 16#32
  let v3899 : BitVec 32 := Scalar.remsi v3898 c16_i32_4067
  let c16_i32_4068 : BitVec 32 := 16#32
  let v3900 : BitVec 32 := Scalar.addi v133 c16_i32_4068
  let v3901 : BitVec 32 := Scalar.subi v3900 arg16
  let c16_i32_4069 : BitVec 32 := 16#32
  let v3902 : BitVec 32 := Scalar.remsi v3901 c16_i32_4069
  let v3903 : BitVec 32 := Scalar.select v3896 v3899 v3902
  let c256_i32_4070 : BitVec 32 := 256#32
  let v3904 : BitVec 32 := Scalar.muli v3903 c256_i32_4070
  let c0_i32_4071 : BitVec 32 := 0#32
  ![v3904.toNat, 0]
def k0_off13 (k0_t4 : Fin k0_t4_loop.trips) : Fin 3 → Nat :=
  let c0_i32_3053 : BitVec 32 := 0#32
  let c1_i32_3055 : BitVec 32 := 1#32
  let arg16 : BitVec 32 := Scf.iv c0_i32_3053 c1_i32_3055 k0_t4
  let c0_i32_4072 : BitVec 32 := 0#32
  let c0_i32_4073 : BitVec 32 := 0#32
  ![arg16.toNat, 0, 0]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Facts.lean ====
module

public import proofs.«01_k».proof.KernelIdeal
public import Idealize.ShloMosaic.Lib.Decide

/-! The side conditions the ideal program states about its shapes, offsets and devices: each is a
    closed statement over finitely many devices and trips, decided by evaluation. -/

@[expose] public section

namespace Cert.KernelIdeal
open Idealize.ShloMosaic Idealize.SL.Sem

set_option Elab.async false

theorem facts₀ : Facts₀ := by
  constructor
  all_goals try decide +kernel
  all_goals decide +kernel

instance facts : Facts := { toFacts₀ := facts₀ }

end Cert.KernelIdeal
-- ==== Proof.FactsKernel.lean ====
module

public import proofs.«01_k».proof.Kernel
public import Idealize.ShloMosaic.Lib.Decide

/-! The side conditions the program states about its shapes, offsets and devices: each is a
    closed statement over finitely many devices and trips, decided by evaluation. -/

@[expose] public section

namespace Cert.Kernel
open Idealize.ShloMosaic Idealize.SL.Sem

set_option Elab.async false

theorem facts₀ : Facts₀ := by
  constructor
  all_goals try decide +kernel
  all_goals decide +kernel

instance facts : Facts := { toFacts₀ := facts₀ }

end Cert.Kernel
-- ==== Proof.Program.lean ====
module

public import proofs.«01_k».proof.Proof.Facts

/-! The kernel's body, stated phase by phase.

    The printed body is one unrolled stretch of statements. Here it is written as the loops it came from: the loads, the
    exchange with the peer, the addition, the two-way ring, the copies out and the drains, each a family of steps over
    a chunk number. `body_eq` says that the two are the same program. -/

@[expose] public section

noncomputable section

namespace Cert.KernelIdeal
open Idealize.ShloMosaic Idealize.SL.Sem
open Facts₀ Facts

variable {F : FTy → Type} [FloatOps F]

/-! ## Views -/

theorem rowInb : ∀ c : Fin 8, ∀ a, (![32 * c.val, 0] : Fin 2 → Nat) a + S32x1024.size a ≤ S256x1024.size a := by decide +kernel
theorem rowPacked : ∀ c : Fin 8, (Rect.unit (s := S256x1024) ![32 * c.val, 0] S32x1024.size (rowInb c)).PackedRows (EltTy.packing .bf16) := by
  decide +kernel
theorem rowWords : ∀ c : Fin 8, (Rect.unit (s := S256x1024) ![32 * c.val, 0] S32x1024.size (rowInb c)).WholeWords (EltTy.packing .bf16) := by
  decide +kernel
theorem agInb : ∀ (s : Fin 16) (c : Fin 8), ∀ a, (![s.val, 32 * c.val, 0] : Fin 3 → Nat) a + S1x32x1024.size a ≤ S16x256x1024.size a := by
  decide +kernel
theorem agPacked : ∀ (s : Fin 16) (c : Fin 8),
    (Rect.unit (s := S16x256x1024) ![s.val, 32 * c.val, 0] S1x32x1024.size (agInb s c)).PackedRows (EltTy.packing .bf16) := by decide +kernel
theorem agWords : ∀ (s : Fin 16) (c : Fin 8),
    (Rect.unit (s := S16x256x1024) ![s.val, 32 * c.val, 0] S1x32x1024.size (agInb s c)).WholeWords (EltTy.packing .bf16) := by decide +kernel
theorem inb8 : ∀ c : Fin 8, ∀ a, (![c.val] : Fin 1 → Nat) a + S1.size a ≤ S8.size a := by decide +kernel
theorem inb64 : ∀ c : Fin 64, ∀ a, (![c.val] : Fin 1 → Nat) a + S1.size a ≤ S64.size a := by decide +kernel
theorem inb60 : ∀ c : Fin 60, ∀ a, (![c.val] : Fin 1 → Nat) a + S1.size a ≤ S60.size a := by decide +kernel

/-- The input on this device. -/
abbrev xM : Memref sig .tc .hbm S1x4096x2048 .f32 := Memref.whole main_arg0
/-- The result on this device. -/
abbrev outM : Memref sig .tc .hbm S4096x1024 .bf16 := Memref.whole main_v1
/-- The ring's sixteen slots. -/
abbrev agM : Memref sig .tc .vmem S16x256x1024 .bf16 := Memref.whole cc0_scratch0
/-- What the peer sent. -/
abbrev p0M : Memref sig .tc .vmem S256x1024 .bf16 := Memref.whole cc0_scratch1
/-- The half of the rows kept here. -/
abbrev keepM : Memref sig .tc .vmem S256x1024 .f32 := Memref.whole cc0_scratch2
/-- The half of the rows meant for the peer. -/
abbrev sendM : Memref sig .tc .vmem S256x1024 .f32 := Memref.whole cc0_scratch3
/-- That half rounded, as it is sent. -/
abbrev sbM : Memref sig .tc .vmem S256x1024 .bf16 := Memref.whole cc0_scratch4

/-- Chunk `c`'s 32 rows of a 256-row buffer. -/
abbrev rowR (c : Fin 8) : Rect S256x1024 := Rect.unit (s := S256x1024) ![32 * c.val, 0] S32x1024.size (rowInb c)
/-- Chunk `c` of slot `s`, as a box of the ring buffer. -/
abbrev agR (s : Fin 16) (c : Fin 8) : Rect S16x256x1024 :=
  Rect.unit (s := S16x256x1024) ![s.val, 32 * c.val, 0] S1x32x1024.size (agInb s c)
/-- Chunk `c` of slot `s` as a view. -/
abbrev agV (s : Fin 16) (c : Fin 8) : Memref sig .tc .vmem S32x1024 .bf16 :=
  (agM.slice (agR s c) (fun _ => rfl)).squeeze S32x1024 squeezes_S1x32x1024_S32x1024
abbrev p0V (c : Fin 8) : Memref sig .tc .vmem S32x1024 .bf16 := p0M.slice (rowR c) (fun _ => rfl)
abbrev sbV (c : Fin 8) : Memref sig .tc .vmem S32x1024 .bf16 := sbM.slice (rowR c) (fun _ => rfl)
abbrev keepV (c : Fin 8) : Memref sig .tc .vmem S32x1024 .f32 := keepM.slice (rowR c) (fun _ => rfl)
abbrev sendV (c : Fin 8) : Memref sig .tc .vmem S32x1024 .f32 := sendM.slice (rowR c) (fun _ => rfl)
/-- The view the load waits name as their source; only its size matters. -/
abbrev xV0 : Memref sig .tc .hbm S32x1024 .f32 :=
  (xM.slice (Rect.unit (s := S1x4096x2048) ![0, 0, 0] S1x32x1024.size inb_S1x4096x2048_S1x32x1024_0_0_0) (fun _ => rfl)).squeeze S32x1024
    squeezes_S1x32x1024_S32x1024

theorem agWE (s : Fin 16) (c : Fin 8) : (agV s c).view.WordExact :=
  ((Memref.isWhole_whole cc0_scratch0).wordExact_slice rfl _ (agWords s c)).reshape _ _

/-! ## Semaphores -/

abbrev p0sS : DmaSem sig := cc0_scratch5.sem
abbrev p0rS (c : Fin 8) : DmaSem sig := ((cc0_scratch6.slice (Rect.unit (s := S8) ![c.val] S1.size (inb8 c))).squeeze S_ squeezes_S1_S_).sem
abbrev ldkS (c : Fin 8) : DmaSem sig := ((cc0_scratch7.slice (Rect.unit (s := S8) ![c.val] S1.size (inb8 c))).squeeze S_ squeezes_S1_S_).sem
abbrev ldsS (c : Fin 8) : DmaSem sig := ((cc0_scratch8.slice (Rect.unit (s := S8) ![c.val] S1.size (inb8 c))).squeeze S_ squeezes_S1_S_).sem
abbrev cwsS : DmaSem sig := cc0_scratch9.sem
abbrev cwrS (e : Fin 60) : DmaSem sig :=
  ((cc0_scratch10.slice (Rect.unit (s := S64) ![e.val] S1.size (inb64 ⟨e.val, by omega⟩))).squeeze S_ squeezes_S1_S_).sem
abbrev ccwsS : DmaSem sig := cc0_scratch11.sem
abbrev ccwrS (e : Fin 60) : DmaSem sig := ((cc0_scratch12.slice (Rect.unit (s := S60) ![e.val] S1.size (inb60 e))).squeeze S_ squeezes_S1_S_).sem
abbrev osemS : DmaSem sig := cc0_scratch13.sem
abbrev barS : Sem sig := (SemArray.scalar (d := Fin.elim0) (sig.barrier 0 rfl)).sem

/-! ## Neighbours -/

/-- The device at the other `x`, at the same place of its ring. -/
def peer (d : Dev nD) : Dev nD := ⟨k0_dev1 d, k0_dev1_lt d⟩
/-- The device before this one on the ring. -/
def left (d : Dev nD) : Dev nD := ⟨k0_dev2 d, k0_dev2_lt d⟩
/-- The device after this one on the ring. -/
def right (d : Dev nD) : Dev nD := ⟨k0_dev3 d, k0_dev3_lt d⟩

/-! ## The edges of the ring

    Edge `e` of the clockwise ring carries one chunk from a slot to the next slot of the right neighbour; edge `e` of
    the other ring carries one chunk to the slot before, of the left neighbour. -/

def cwC (e : Fin 60) : Fin 8 := ⟨e.val % 8, by omega⟩
def cwSrc (e : Fin 60) : Fin 16 := ⟨e.val / 8, by omega⟩
def cwDst (e : Fin 60) : Fin 16 := ⟨e.val / 8 + 1, by omega⟩
def ccwC (e : Fin 60) : Fin 8 := ⟨if e.val < 56 then e.val % 8 else e.val - 52, by split <;> omega⟩
def ccwSrc (e : Fin 60) : Fin 16 := ⟨if e.val < 8 then 0 else 16 - e.val / 8, by split <;> omega⟩
def ccwDst (e : Fin 60) : Fin 16 := ⟨15 - e.val / 8, by omega⟩

/-! ## Steps -/

/-- `f 0; …; f (n - 1)`, from `f i` on. -/
def seqFrom {E : Type → Type} {n : Nat} (f : Fin n → Prog E PUnit) : (k i : Nat) → i + k = n → Prog E PUnit
  | 0, _, _ => pure ⟨⟩
  | k + 1, i, h => do f ⟨i, by omega⟩; seqFrom f k (i + 1) (by omega)

/-- `f 0; …; f (n - 1)`. -/
def seqFin {E : Type → Type} (n : Nat) (f : Fin n → Prog E PUnit) : Prog E PUnit := seqFrom f n 0 (by omega)

/-- The programs of this kernel. -/
abbrev KProg (F : FTy → Type) := Prog (TpuEff nD τ sig (Elt F) Λ₀ .tc)

/-- A rounded chunk. -/
def roundV (v : Vec F S32x1024 .f32) : FVec F S32x1024 .bf16 :=
  shapeCast S32x1024 (truncf .bf16 v bitsLt_bf16_f32) shapeCasts_S32x1024_S32x1024
/-- A kept chunk plus a received one, rounded. -/
def addV (v : Vec F S32x1024 .f32) (w : Vec F S32x1024 .bf16) : FVec F S1x32x1024 .bf16 :=
  shapeCast S1x32x1024 (truncf .bf16 (addf (v : FVec F S32x1024 .f32) (extf .f32 (w : FVec F S32x1024 .bf16) bitsLt_bf16_f32)) bitsLt_bf16_f32) shapeCasts_S32x1024_S1x32x1024

/-- Loads of trip `t` where `x = 0`: one chunk of each half. -/
def load1 (d : Dev nD) (h : k0_cond1 d = 1#1) (t : Fin k0_t1_loop.trips) : KProg F PUnit := do
  Prog.lift (.enqueueDma
    ((xM.slice (Rect.unit (s := S1x4096x2048) (k0_off3 d t) S1x32x1024.size (k0_off3_inb d t h)) (fun _ => rfl)).squeeze S32x1024 squeezes_S1x32x1024_S32x1024)
    (.here (keepM.slice (Rect.unit (s := S256x1024) (k0_off2 t) S32x1024.size (k0_off2_inb d t h)) (fun _ => rfl)))
    (.dma ((cc0_scratch7.slice (Rect.unit (s := S8) (k0_off1 t) S1.size (k0_off1_inb d t h))).squeeze S_ squeezes_S1_S_).sem)
    ((View.wordExact_bits rfl).reshape _ _) (View.wordExact_bits rfl) ⟨Or.inl rfl, trivial⟩)
  Prog.lift (.enqueueDma
    ((xM.slice (Rect.unit (s := S1x4096x2048) (k0_off4 d t) S1x32x1024.size (k0_off4_inb d t h)) (fun _ => rfl)).squeeze S32x1024 squeezes_S1x32x1024_S32x1024)
    (.here (sendM.slice (Rect.unit (s := S256x1024) (k0_off2 t) S32x1024.size (k0_off2_inb d t h)) (fun _ => rfl)))
    (.dma ((cc0_scratch8.slice (Rect.unit (s := S8) (k0_off1 t) S1.size (k0_off1_inb d t h))).squeeze S_ squeezes_S1_S_).sem)
    ((View.wordExact_bits rfl).reshape _ _) (View.wordExact_bits rfl) ⟨Or.inl rfl, trivial⟩)

/-- The same where `x = 1`. -/
def load2 (d : Dev nD) (h : k0_cond2 d = 1#1) (t : Fin k0_t2_loop.trips) : KProg F PUnit := do
  Prog.lift (.enqueueDma
    ((xM.slice (Rect.unit (s := S1x4096x2048) (k0_off7 d t) S1x32x1024.size (k0_off7_inb d t h)) (fun _ => rfl)).squeeze S32x1024 squeezes_S1x32x1024_S32x1024)
    (.here (keepM.slice (Rect.unit (s := S256x1024) (k0_off6 t) S32x1024.size (k0_off6_inb d t h)) (fun _ => rfl)))
    (.dma ((cc0_scratch7.slice (Rect.unit (s := S8) (k0_off5 t) S1.size (k0_off5_inb d t h))).squeeze S_ squeezes_S1_S_).sem)
    ((View.wordExact_bits rfl).reshape _ _) (View.wordExact_bits rfl) ⟨Or.inl rfl, trivial⟩)
  Prog.lift (.enqueueDma
    ((xM.slice (Rect.unit (s := S1x4096x2048) (k0_off8 d t) S1x32x1024.size (k0_off8_inb d t h)) (fun _ => rfl)).squeeze S32x1024 squeezes_S1x32x1024_S32x1024)
    (.here (sendM.slice (Rect.unit (s := S256x1024) (k0_off6 t) S32x1024.size (k0_off6_inb d t h)) (fun _ => rfl)))
    (.dma ((cc0_scratch8.slice (Rect.unit (s := S8) (k0_off5 t) S1.size (k0_off5_inb d t h))).squeeze S_ squeezes_S1_S_).sem)
    ((View.wordExact_bits rfl).reshape _ _) (View.wordExact_bits rfl) ⟨Or.inl rfl, trivial⟩)

def loads1 (d : Dev nD) : KProg F PUnit :=
  if h : k0_cond1 d = 1#1 then do
    Scf.Loop.for k0_t1_loop (k0_t1_ok d h) ⟨⟩ fun t _ => load1 d h t
    pure ⟨⟩
  else do
    pure ⟨⟩

def loads2 (d : Dev nD) : KProg F PUnit :=
  if h : k0_cond2 d = 1#1 then do
    Scf.Loop.for k0_t2_loop (k0_t2_ok d h) ⟨⟩ fun t _ => load2 d h t
    pure ⟨⟩
  else do
    pure ⟨⟩

/-- Chunk `c` of the half for the peer: once loaded, rounded and sent. -/
def sendStep (d : Dev nD) (c : Fin 8) : KProg F PUnit := do
  Prog.lift (.waitDma2 (ldsS c) xV0 (sendV c) ((View.wordExact_bits rfl).reshape _ _) (View.wordExact_bits rfl))
  let v : Vec F S32x1024 .f32 ← Prog.lift (.load sendM (rowR c).toLoadRect (View.loadsAt_vmem h_S32x1024))
  let _w : Vec F S32x1024 .bf16 ← Prog.lift (.load sbM (rowR c).toLoadRect (View.loadsAt_vmem h_S32x1024))
  Prog.lift (.store sbM (rowR c) (roundV v) Finset.univ
    (View.stores_vmem h_S32x1024 ((Memref.isWhole_whole cc0_scratch4).storeExact_slice rfl _ (rowPacked c)) (fun _ => rfl)) (.inl rfl))
  Prog.lift (.enqueueDma (sbV c) (.remote (Dev.tc (peer d)) (p0V c) (.dma p0sS)) (.dma (p0rS c))
    ((Memref.isWhole_whole cc0_scratch4).wordExact_slice rfl _ (rowWords c))
    ((Memref.isWhole_whole cc0_scratch1).wordExact_slice rfl _ (rowWords c)) ⟨⟨rfl, Or.inl rfl⟩, trivial⟩)

/-- A chunk sent along edge `e` of the clockwise ring. -/
def cwSend (d : Dev nD) (e : Fin 60) : KProg F PUnit :=
  Prog.lift (.enqueueDma (agV (cwSrc e) (cwC e)) (.remote (Dev.tc (right d)) (agV (cwDst e) (cwC e)) (.dma cwsS)) (.dma (cwrS e))
    (((Memref.isWhole_whole cc0_scratch0).wordExact_slice rfl _ (agWords _ _)).reshape _ _)
    (((Memref.isWhole_whole cc0_scratch0).wordExact_slice rfl _ (agWords _ _)).reshape _ _) ⟨⟨rfl, Or.inl rfl⟩, trivial⟩)
/-- A chunk sent along edge `e` of the other ring. -/
def ccwSend (d : Dev nD) (e : Fin 60) : KProg F PUnit :=
  Prog.lift (.enqueueDma (agV (ccwSrc e) (ccwC e)) (.remote (Dev.tc (left d)) (agV (ccwDst e) (ccwC e)) (.dma ccwsS)) (.dma (ccwrS e))
    (((Memref.isWhole_whole cc0_scratch0).wordExact_slice rfl _ (agWords _ _)).reshape _ _)
    (((Memref.isWhole_whole cc0_scratch0).wordExact_slice rfl _ (agWords _ _)).reshape _ _) ⟨⟨rfl, Or.inl rfl⟩, trivial⟩)
/-- The wait for what edge `e` of the clockwise ring brings here. -/
def cwWait (e : Fin 60) : KProg F PUnit :=
  Prog.lift (.waitDma2 (cwrS e) (agV (cwDst e) (cwC e)) (agV (cwDst e) (cwC e))
    (((Memref.isWhole_whole cc0_scratch0).wordExact_slice rfl _ (agWords _ _)).reshape _ _)
    (((Memref.isWhole_whole cc0_scratch0).wordExact_slice rfl _ (agWords _ _)).reshape _ _))
/-- The wait for what edge `e` of the other ring brings here. -/
def ccwWait (e : Fin 60) : KProg F PUnit :=
  Prog.lift (.waitDma2 (ccwrS e) (agV (ccwDst e) (ccwC e)) (agV (ccwDst e) (ccwC e))
    (((Memref.isWhole_whole cc0_scratch0).wordExact_slice rfl _ (agWords _ _)).reshape _ _)
    (((Memref.isWhole_whole cc0_scratch0).wordExact_slice rfl _ (agWords _ _)).reshape _ _))
/-- The wait for one of the clockwise sends to have been read. -/
def cwDrain (e : Fin 60) : KProg F PUnit :=
  Prog.lift (.waitDma2 cwsS (agV (cwDst e) (cwC e)) (agV (cwSrc e) (cwC e))
    (((Memref.isWhole_whole cc0_scratch0).wordExact_slice rfl _ (agWords _ _)).reshape _ _)
    (((Memref.isWhole_whole cc0_scratch0).wordExact_slice rfl _ (agWords _ _)).reshape _ _))
/-- The wait for one of the other sends to have been read. -/
def ccwDrain (e : Fin 60) : KProg F PUnit :=
  Prog.lift (.waitDma2 ccwsS (agV (ccwDst e) (ccwC e)) (agV (ccwSrc e) (ccwC e))
    (((Memref.isWhole_whole cc0_scratch0).wordExact_slice rfl _ (agWords _ _)).reshape _ _)
    (((Memref.isWhole_whole cc0_scratch0).wordExact_slice rfl _ (agWords _ _)).reshape _ _))

/-- Chunk `c` of the kept half plus the peer's, rounded into slot 0 and sent both ways. -/
def addStep (d : Dev nD) (c : Fin 8) : KProg F PUnit := do
  Prog.lift (.waitDma2 (ldkS c) xV0 (keepV c) ((View.wordExact_bits rfl).reshape _ _) (View.wordExact_bits rfl))
  Prog.lift (.waitDma2 (p0rS c) (sbV c) (p0V c) ((Memref.isWhole_whole cc0_scratch4).wordExact_slice rfl _ (rowWords c))
    ((Memref.isWhole_whole cc0_scratch1).wordExact_slice rfl _ (rowWords c)))
  let v : Vec F S32x1024 .f32 ← Prog.lift (.load keepM (rowR c).toLoadRect (View.loadsAt_vmem h_S32x1024))
  let w : Vec F S32x1024 .bf16 ← Prog.lift (.load p0M (rowR c).toLoadRect (View.loadsAt_vmem h_S32x1024))
  let _u : Vec F S1x32x1024 .bf16 ← Prog.lift (.load agM (agR 0 c).toLoadRect (View.loadsAt_vmem h_S1x32x1024))
  Prog.lift (.store agM (agR 0 c) (addV v w) Finset.univ
    (View.stores_vmem h_S1x32x1024 ((Memref.isWhole_whole cc0_scratch0).storeExact_slice rfl _ (agPacked 0 c)) (fun _ => rfl)) (.inl rfl))
  cwSend d ⟨c.val, by omega⟩
  ccwSend d ⟨c.val, by omega⟩

/-- One chunk of one step of the two rings: what has come is sent on, except past the middle. -/
def ringStep (d : Dev nD) (i : Fin 56) : KProg F PUnit := do
  cwWait ⟨i.val, by omega⟩
  if h : i.val < 52 then cwSend d ⟨i.val + 8, by omega⟩ else pure ⟨⟩
  ccwWait ⟨i.val, by omega⟩
  if h : i.val < 48 then ccwSend d ⟨i.val + 8, by omega⟩
  else if h' : 52 ≤ i.val then ccwSend d ⟨i.val + 4, by omega⟩ else pure ⟨⟩

/-- The copy of a finished slot to its block of the result. -/
def outStep (d : Dev nD) (t : Fin k0_t3_loop.trips) : KProg F PUnit :=
  Prog.lift (.enqueueDma
    ((agM.slice (Rect.unit (s := S16x256x1024) (k0_off10 t) S1x256x1024.size (k0_off10_inb t)) (fun _ => rfl)).squeeze S256x1024 squeezes_S1x256x1024_S256x1024)
    (.here (outM.slice (Rect.unit (s := S4096x1024) (k0_off9 d t) S256x1024.size (k0_off9_inb d t)) (fun _ => rfl)))
    (.dma osemS)
    (((Memref.isWhole_whole cc0_scratch0).wordExact_slice rfl _ (k0_off10_wordsbf16 t)).reshape _ _)
    ((Memref.isWhole_whole main_v1).wordExact_slice rfl _ (k0_off9_wordsbf16 d t)) ⟨Or.inl rfl, trivial⟩)

/-- The copy of the middle slot. -/
def outMid (d : Dev nD) : KProg F PUnit :=
  Prog.lift (.enqueueDma
    ((agM.slice (Rect.unit (s := S16x256x1024) ![8, 0, 0] S1x256x1024.size inb_S16x256x1024_S1x256x1024_8_0_0) (fun _ => rfl)).squeeze S256x1024
      squeezes_S1x256x1024_S256x1024)
    (.here (outM.slice (Rect.unit (s := S4096x1024) (k0_off11 d) S256x1024.size (k0_off11_inb d)) (fun _ => rfl)))
    (.dma osemS)
    (((Memref.isWhole_whole cc0_scratch0).wordExact_slice rfl _ wordsbf16_S16x256x1024_S1x256x1024_8_0_0).reshape _ _)
    ((Memref.isWhole_whole main_v1).wordExact_slice rfl _ (k0_off11_wordsbf16 d)) ⟨Or.inl rfl, trivial⟩)

/-- The wait for one copy out. -/
def outWait (d : Dev nD) (t : Fin k0_t4_loop.trips) : KProg F PUnit :=
  Prog.lift (.waitDma2 osemS
    ((agM.slice (Rect.unit (s := S16x256x1024) (k0_off13 t) S1x256x1024.size (k0_off13_inb t)) (fun _ => rfl)).squeeze S256x1024 squeezes_S1x256x1024_S256x1024)
    (outM.slice (Rect.unit (s := S4096x1024) (k0_off12 d t) S256x1024.size (k0_off12_inb d t)) (fun _ => rfl))
    (((Memref.isWhole_whole cc0_scratch0).wordExact_slice rfl _ (k0_off13_wordsbf16 t)).reshape _ _)
    ((Memref.isWhole_whole main_v1).wordExact_slice rfl _ (k0_off12_wordsbf16 d t)))

/-- The wait for one of the sends to the peer to have been read. -/
def p0Drain (c : Fin 8) : KProg F PUnit :=
  Prog.lift (.waitDma2 p0sS (p0V c) (sbV c) ((Memref.isWhole_whole cc0_scratch1).wordExact_slice rfl _ (rowWords c))
    ((Memref.isWhole_whole cc0_scratch4).wordExact_slice rfl _ (rowWords c)))

/-- Every neighbour told that this device's buffers may be written, and the same heard from each. -/
def handshake (d : Dev nD) : KProg F PUnit := do
  semSignalWord (peer d) barS 1#32
  semSignalWord (left d) barS 1#32
  semSignalWord (right d) barS 1#32
  semWaitWord barS 3#32

/-- The body, as device `d` runs it. -/
def bodyAt (d : Dev nD) : KProg F PUnit := do
  handshake d
  loads1 d
  loads2 d
  seqFin 8 (sendStep d)
  seqFin 8 (addStep d)
  seqFin 56 (ringStep d)
  Scf.Loop.for k0_t3_loop k0_t3_ok ⟨⟩ fun t _ => outStep d t
  seqFin 4 fun j => cwWait ⟨56 + j.val, by omega⟩
  seqFin 4 fun j => ccwWait ⟨56 + j.val, by omega⟩
  outMid d
  Scf.Loop.for k0_t4_loop k0_t4_ok ⟨⟩ fun t _ => outWait d t
  seqFin 56 fun e => do cwDrain ⟨e.val, by omega⟩; ccwDrain ⟨e.val, by omega⟩
  seqFin 4 fun j => cwDrain ⟨56 + j.val, by omega⟩
  seqFin 4 fun j => ccwDrain ⟨56 + j.val, by omega⟩
  seqFin 8 p0Drain

/-- The body: the device reads its number, then runs. -/
def body : KProg F PUnit := do
  let d ← Prog.lift .deviceId
  bodyAt d

end Cert.KernelIdeal

end
-- ==== Proof.Base.lean ====
module

public import proofs.«01_k».proof.Proof.Program
public import Idealize.ShloMosaic.Lib.Pipeline.Launch
public import Idealize.ShloMosaic.Lib.Pipeline.Kit
public import Idealize.ShloMosaic.Lib.Tactic

/-! The algebra the proof runs over, and the rule for a run of numbered steps.

    Ghost state is a pair: what the launch library keeps, and the rounds of this kernel's semaphores, whose duties are
    numbered below sixty, the greatest number of transfers any one semaphore of this kernel counts. -/

@[expose] public section

noncomputable section

namespace Cert.Ring
open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The number of a transfer among those its semaphore counts. -/
abbrev Duty : Type := Fin 60

abbrev UUr : Type := URounds (GSem nD τ sig) Duty
abbrev UU : Type := UR sig nD τ × UUr
/-- The resources of the proof. -/
abbrev MM (F : FTy → Type) : Type := MT nD τ sig Unit (Elt F) ℕ UU ℕ

abbrev EP : Emb (UR sig nD τ) (MM F) := embL
abbrev ER : Emb UUr (MM F) := embR

abbrev 𝒱₀ : Variants := Variants.none

/-- What it takes to run `p` on device `c` to `Q`. -/
abbrev run (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

/-- Running nothing. -/
theorem run_ret (c : Dev nD) {α : Type} (a : α) (Q : α → sProp (MM F)) : Q a ⊢ run c (Prog.ret a) Q := by
  show _ ⊢ wp _ _ _ (Prog.ret a) _
  rw [wp_ret]
  iintro H
  imodintro
  iexact H

/-- Running one program, then the next. -/
theorem run_bind (c : Dev nD) {α β : Type} (p : Prog (TpuEff nD τ sig (Elt F) Λ₀ .tc) α) (k : α → Prog (TpuEff nD τ sig (Elt F) Λ₀ .tc) β)
    (Q : β → sProp (MM F)) : run c (p >>= k) Q = run c p (fun a => run c (k a) Q) :=
  wp_bind _ _ _ _ _ _

/-- Running one program with `R` put by, then the next. -/
theorem run_seq (c : Dev nD) {β : Type} (p : KProg F PUnit) (k : KProg F β)
    {A B R : sProp (MM F)} {Q : β → sProp (MM F)} (hp : A ⊢ run c p (fun _ => B)) (hk : iprop(B ∗ R) ⊢ run c k Q) :
    iprop(A ∗ R) ⊢ run c (p >>= fun _ => k) Q := by
  rw [run_bind]
  exact (sep_mono_l hp).trans ((wp_frame_r _ _ _).trans (wp_mono _ _ _ fun _ => hk))

/-- Numbered steps: if each step takes the state from one number to the next, spending its own share of `P` and leaving
    its own share of `Q`, then the run of all of them spends all of `P` and leaves all of `Q`. -/
theorem run_seqFin (c : Dev nD) {n : ℕ} (f : Fin n → KProg F PUnit) (C : sProp (MM F)) [BI.Persistent C] (R : ℕ → sProp (MM F))
    (P Q : Fin n → sProp (MM F))
    (h : ∀ i : Fin n, iprop(C ∗ R i.val ∗ P i) ⊢ run c (f i) (fun _ => iprop(R (i.val + 1) ∗ Q i))) :
    iprop(C ∗ R 0 ∗ bigSep Finset.univ P) ⊢ run c (seqFin n f) (fun _ => iprop(R n ∗ bigSep Finset.univ Q)) := by
  have key : ∀ (k i : ℕ) (hi : i + k = n),
      iprop(C ∗ R i ∗ bigSep (Finset.univ.filter fun j : Fin n => i ≤ j.val) P)
        ⊢ run c (seqFrom f k i hi) (fun _ => iprop(R n ∗ bigSep (Finset.univ.filter fun j : Fin n => i ≤ j.val) Q)) := by
    intro k
    induction k with
    | zero =>
      intro i hi
      have he : (Finset.univ.filter fun j : Fin n => i ≤ j.val) = ∅ := by
        ext j; simp; omega
      rw [he, bigSep_empty, bigSep_empty]
      obtain rfl : i = n := by omega
      show _ ⊢ wp _ _ _ (Prog.ret PUnit.unit) _
      rw [wp_ret]
      iintro ⟨-, HR, -⟩
      imodintro
      isplitl [HR]; · iexact HR
      iempintro
    | succ k ih =>
      intro i hi
      have hin : i < n := by omega
      have hik : i + 1 + k = n := by omega
      have he : (Finset.univ.filter fun j : Fin n => i ≤ j.val)
          = insert (⟨i, hin⟩ : Fin n) (Finset.univ.filter fun j : Fin n => i + 1 ≤ j.val) := by
        ext j; simp [Fin.ext_iff]; omega
      have hn : (⟨i, hin⟩ : Fin n) ∉ (Finset.univ.filter fun j : Fin n => i + 1 ≤ j.val) := by simp
      rw [he, bigSep_insert (Φ := P) hn, bigSep_insert (Φ := Q) hn]
      show iprop(C ∗ R i ∗ P ⟨i, hin⟩ ∗ bigSep (Finset.univ.filter fun j : Fin n => i + 1 ≤ j.val) P) ⊢ run c (f ⟨i, hin⟩ >>= fun _ => seqFrom f k (i + 1) hik)
        (fun _ => iprop(R n ∗ Q ⟨i, hin⟩ ∗ bigSep (Finset.univ.filter fun j : Fin n => i + 1 ≤ j.val) Q))
      rw [run_bind]
      iintro ⟨#HC, HR, HP, HPs⟩
      iapply (wp_wand_r _ _ _ (Q := fun _ => iprop(R (i + 1) ∗ Q ⟨i, hin⟩)))
      isplitl [HR HP]
      · iapply (h ⟨i, hin⟩)
        isplitr; · iexact HC
        isplitl [HR]; · iexact HR
        iexact HP
      · iintro %u ⟨HR, HQ⟩
        iapply (wp_wand_r _ _ _ (Q := fun _ => iprop(R n ∗ bigSep (Finset.univ.filter fun j : Fin n => i + 1 ≤ j.val) Q)))
        isplitl [HR HPs]
        · iapply (ih (i + 1) hik)
          isplitr; · iexact HC
          isplitl [HR]; · iexact HR
          iexact HPs
        · iintro %u' ⟨HR, HQs⟩
          isplitl [HR]; · iexact HR
          isplitl [HQ]; · iexact HQ
          iexact HQs
  have h0 := key n 0 (by omega)
  rw [show (Finset.univ.filter fun j : Fin n => 0 ≤ j.val) = Finset.univ from by simp] at h0
  exact h0

/-- A counted loop that carries nothing is the run of its trips. -/
theorem for_eq_seqFin {w : ℕ} (l : Scf.Loop w) (ok : l.OK) (f : Fin l.trips → KProg F PUnit) :
    Scf.Loop.for l ok PUnit.unit (fun t _ => f t) = seqFin l.trips f := by
  have key : ∀ (k i : ℕ) (hi : i + k = l.trips),
      Scf.forFrom (fun t (_ : PUnit) => f t) ((List.finRange l.trips).drop i) ⟨⟩ = seqFrom f k i hi := by
    intro k
    induction k with
    | zero =>
      intro i hi
      rw [List.drop_eq_nil_of_le (by rw [List.length_finRange]; omega)]
      rfl
    | succ k ih =>
      intro i hi
      rw [List.drop_eq_getElem_cons (by rw [List.length_finRange]; omega), List.getElem_finRange]
      show (f ⟨i, _⟩ >>= fun _ => _) = (f ⟨i, _⟩ >>= fun _ => _)
      exact congrArg _ (funext fun _ => ih (i + 1) (by omega))
  rw [Scf.Loop.for, Scf.for_eq]
  have := key l.trips 0 (by omega)
  rw [List.drop_zero] at this
  exact this

end Cert.Ring

end
-- ==== Proof.Contents.lean ====
module

public import proofs.«01_k».proof.Proof.Base
public import Idealize.ShloMosaic.Lib.ValueIdxCore
public import Idealize.ShloMosaic.Lib.ValueLayout
public import Idealize.ShloMosaic.Lib.Pipeline.ValueKit.Geometry

/-! Where a device stands, what each of its buffers comes to hold, and how the views of this kernel read them.

    A device is at one of two values of `x` and at one of sixteen places of the ring of that `x`. Slot `s` of its ring
    buffer comes to hold the sum that the device `s` places before it computed. -/

@[expose] public section

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

open Facts₀ Facts

variable {F : FTy → Type} [FloatOps F]

/-! ## Places -/

/-- The place on its ring of a device, by its number within its half. -/
def posTab : Fin 16 → Fin 16 := ![0, 1, 2, 3, 15, 6, 5, 4, 14, 7, 8, 9, 13, 12, 11, 10]
/-- The number within its half of the device at a place. -/
def ringTab : Fin 16 → Fin 16 := ![0, 1, 2, 3, 7, 6, 5, 9, 10, 11, 15, 14, 13, 12, 8, 4]

/-- The device's `x`. -/
def xx (d : Dev nD) : Fin 2 := ⟨d.val / 16, by have h : d.val < 32 := d.isLt; omega⟩
/-- The device's place on its ring. -/
def pos (d : Dev nD) : Fin 16 := posTab ⟨d.val % 16, by omega⟩
/-- The device at place `j` of the ring of `x`. -/
def atPlace (x : Fin 2) (j : Fin 16) : Dev nD := ⟨16 * x.val + (ringTab j).val, by show _ < 32; omega⟩
/-- The device `s` places before `d`. -/
def back (d : Dev nD) (s : Fin 16) : Dev nD := atPlace (xx d) (pos d - s)

theorem xx_atPlace : ∀ x j, xx (atPlace x j) = x := by decide +kernel
theorem pos_atPlace : ∀ x j, pos (atPlace x j) = j := by decide +kernel
theorem atPlace_self : ∀ d, atPlace (xx d) (pos d) = d := by decide +kernel
theorem back_zero : ∀ d, back d 0 = d := by decide +kernel
theorem xx_peer : ∀ d, (xx (peer d)).val = 1 - (xx d).val := by decide +kernel
theorem pos_peer : ∀ d, pos (peer d) = pos d := by decide +kernel
theorem peer_peer : ∀ d, peer (peer d) = d := by decide +kernel
theorem left_right : ∀ d, left (right d) = d := by decide +kernel
theorem right_left : ∀ d, right (left d) = d := by decide +kernel
theorem back_right : ∀ d s, back (right d) (s + 1) = back d s := by decide +kernel
theorem back_left : ∀ d s, back (left d) (s - 1) = back d s := by decide +kernel
theorem cwDst_eq : ∀ e, cwDst e = cwSrc e + 1 := by decide +kernel
theorem ccwDst_eq : ∀ e, ccwDst e = ccwSrc e - 1 := by decide +kernel

/-! ## Contents -/

variable (m : (ℓ : Loc nD τ sig) → Buf (Elt F) ℓ)

/-- The device's input. -/
def xC (d : Dev nD) : S1x4096x2048.Idx → Elt F .f32 := m ((d : Thread nD τ).loc main_arg0)

/-- The rows the device sums: those of its place. -/
def rowOf (d : Dev nD) (r : Fin 256) : Fin 4096 := ⟨256 * (pos d).val + r.val, by omega⟩
/-- The columns it keeps: those of its `x`. -/
def colKeep (d : Dev nD) (q : Fin 1024) : Fin 2048 := ⟨1024 * (xx d).val + q.val, by omega⟩
/-- The columns it sends to its peer: the others. -/
def colSend (d : Dev nD) (q : Fin 1024) : Fin 2048 := ⟨1024 * (1 - (xx d).val) + q.val, by omega⟩

/-- The part kept. -/
def keepC (d : Dev nD) : S256x1024.Idx → Elt F .f32 := fun i => xC m d (ix3 0 (rowOf d (i 0)) (colKeep d (i 1)))
/-- The part for the peer. -/
def sendC (d : Dev nD) : S256x1024.Idx → Elt F .f32 := fun i => xC m d (ix3 0 (rowOf d (i 0)) (colSend d (i 1)))
/-- That part rounded. -/
def sbC (d : Dev nD) : S256x1024.Idx → Elt F .bf16 := fun i => FloatOps.truncf (F := F) (φ := .f32) .bf16 bitsLt_bf16_f32 (sendC m d i)
/-- The sum of the part kept and the peer's, rounded. -/
def sumC (d : Dev nD) : S256x1024.Idx → Elt F .bf16 := fun i =>
  FloatOps.truncf (F := F) (φ := .f32) .bf16 bitsLt_bf16_f32
    (FloatOps.addf (F := F) (φ := .f32) (keepC m d i) (FloatOps.extf (F := F) (φ := .bf16) .f32 bitsLt_bf16_f32 (sbC m (peer d) i)))
/-- The ring buffer at the end. -/
def agC (d : Dev nD) : S16x256x1024.Idx → Elt F .bf16 := fun i => sumC m (back d (i 0)) (ix2 (i 1) (i 2))
/-- The result at the end: block `j` is the sum of the device at place `j`. -/
def outC (d : Dev nD) : S4096x1024.Idx → Elt F .bf16 := fun i =>
  sumC m (atPlace (xx d) ⟨(i 0).val / 256, by have := idx2_lt0 i; omega⟩) (ix2 ⟨(i 0).val % 256, by omega⟩ (i 1))

/-! ## Reading through the views -/

theorem ag16Inb : ∀ s : Fin 16, ∀ a, (![s.val, 0, 0] : Fin 3 → Nat) a + S1x256x1024.size a ≤ S16x256x1024.size a := by decide +kernel
theorem outInb : ∀ j : Fin 16, ∀ a, (![256 * j.val, 0] : Fin 2 → Nat) a + S256x1024.size a ≤ S4096x1024.size a := by decide +kernel
theorem xInb (r : Fin 128) (q : Fin 2) : ∀ a, (![0, 32 * r.val, 1024 * q.val] : Fin 3 → Nat) a + S1x32x1024.size a ≤ S1x4096x2048.size a := by
  revert r q; decide +kernel

/-- Slot `s` of the ring buffer. -/
abbrev slotV (s : Fin 16) : Memref sig .tc .vmem S256x1024 .bf16 :=
  (agM.slice (Rect.unit (s := S16x256x1024) ![s.val, 0, 0] S1x256x1024.size (ag16Inb s)) (fun _ => rfl)).squeeze S256x1024 squeezes_S1x256x1024_S256x1024
/-- Block `j` of the result. -/
abbrev outV (j : Fin 16) : Memref sig .tc .hbm S256x1024 .bf16 :=
  outM.slice (Rect.unit (s := S4096x1024) ![256 * j.val, 0] S256x1024.size (outInb j)) (fun _ => rfl)
/-- Thirty-two rows and one half of the columns of the input. -/
abbrev xV (r : Fin 128) (q : Fin 2) : Memref sig .tc .hbm S32x1024 .f32 :=
  (xM.slice (Rect.unit (s := S1x4096x2048) ![0, 32 * r.val, 1024 * q.val] S1x32x1024.size (xInb r q)) (fun _ => rfl)).squeeze S32x1024
    squeezes_S1x32x1024_S32x1024

theorem row_emb (c : Fin 8) (r : Fin 32) (q : Fin 1024) :
    (rowR c).emb (ix2 r q) = (ix2 ⟨32 * c.val + r.val, by omega⟩ q : S256x1024.Idx) := by
  funext a
  refine Fin.ext ?_
  rw [ValueKit.rect_emb_unit_val]
  match a with
  | ⟨0, _⟩ => rfl
  | ⟨1, _⟩ => exact Nat.zero_add _

theorem ag_emb (s : Fin 16) (c : Fin 8) (r : Fin 32) (q : Fin 1024) :
    (agR s c).emb (ix3 0 r q) = (ix3 s ⟨32 * c.val + r.val, by omega⟩ q : S16x256x1024.Idx) := by
  funext a
  refine Fin.ext ?_
  rw [ValueKit.rect_emb_unit_val]
  match a with
  | ⟨0, _⟩ => rfl
  | ⟨1, _⟩ => rfl
  | ⟨2, _⟩ => exact Nat.zero_add _

theorem p0V_read (c : Fin 8) (f : S256x1024.Idx → Elt F .bf16) (r : Fin 32) (q : Fin 1024) :
    (p0V c).view.read (Elt F) f (ix2 r q) = f (ix2 ⟨32 * c.val + r.val, by omega⟩ q) := congrArg f (row_emb c r q)
theorem sbV_read (c : Fin 8) (f : S256x1024.Idx → Elt F .bf16) (r : Fin 32) (q : Fin 1024) :
    (sbV c).view.read (Elt F) f (ix2 r q) = f (ix2 ⟨32 * c.val + r.val, by omega⟩ q) := congrArg f (row_emb c r q)
theorem keepV_read (c : Fin 8) (f : S256x1024.Idx → Elt F .f32) (r : Fin 32) (q : Fin 1024) :
    (keepV c).view.read (Elt F) f (ix2 r q) = f (ix2 ⟨32 * c.val + r.val, by omega⟩ q) := congrArg f (row_emb c r q)
theorem sendV_read (c : Fin 8) (f : S256x1024.Idx → Elt F .f32) (r : Fin 32) (q : Fin 1024) :
    (sendV c).view.read (Elt F) f (ix2 r q) = f (ix2 ⟨32 * c.val + r.val, by omega⟩ q) := congrArg f (row_emb c r q)

theorem agV_read (s : Fin 16) (c : Fin 8) (f : S16x256x1024.Idx → Elt F .bf16) (r : Fin 32) (q : Fin 1024) :
    (agV s c).view.read (Elt F) f (ix2 r q) = f (ix3 s ⟨32 * c.val + r.val, by omega⟩ q) := by
  show f ((agR s c).emb (Shape.reshapeEquiv _ (ix2 r q))) = _
  rw [reshapeEquiv_ix2_1ab]
  exact congrArg f (ag_emb s c r q)

theorem slotV_read (s : Fin 16) (f : S16x256x1024.Idx → Elt F .bf16) (r : Fin 256) (q : Fin 1024) :
    (slotV s).view.read (Elt F) f (ix2 r q) = f (ix3 s r q) := by
  show f ((Rect.unit (s := S16x256x1024) ![s.val, 0, 0] S1x256x1024.size (ag16Inb s)).emb (Shape.reshapeEquiv _ (ix2 r q))) = _
  rw [reshapeEquiv_ix2_1ab]
  refine congrArg f (funext fun a => Fin.ext ?_)
  rw [ValueKit.rect_emb_unit_val]
  match a with
  | ⟨0, _⟩ => rfl
  | ⟨1, _⟩ => exact Nat.zero_add _
  | ⟨2, _⟩ => exact Nat.zero_add _

theorem outV_read (j : Fin 16) (f : S4096x1024.Idx → Elt F .bf16) (r : Fin 256) (q : Fin 1024) :
    (outV j).view.read (Elt F) f (ix2 r q) = f (ix2 ⟨256 * j.val + r.val, by omega⟩ q) := by
  refine congrArg f (funext fun a => Fin.ext ?_)
  refine (ValueKit.rect_emb_unit_val _ _ _ _ _).trans ?_
  match a with
  | ⟨0, _⟩ => rfl
  | ⟨1, _⟩ => exact Nat.zero_add _

theorem xV_read (k : Fin 128) (h : Fin 2) (f : S1x4096x2048.Idx → Elt F .f32) (r : Fin 32) (q : Fin 1024) :
    (xV k h).view.read (Elt F) f (ix2 r q) = f (ix3 0 ⟨32 * k.val + r.val, by omega⟩ ⟨1024 * h.val + q.val, by omega⟩) := by
  show f ((Rect.unit (s := S1x4096x2048) ![0, 32 * k.val, 1024 * h.val] S1x32x1024.size (xInb k h)).emb (Shape.reshapeEquiv _ (ix2 r q))) = _
  rw [reshapeEquiv_ix2_1ab]
  refine congrArg f (funext fun a => Fin.ext ?_)
  rw [ValueKit.rect_emb_unit_val]
  match a with
  | ⟨0, _⟩ => rfl
  | ⟨1, _⟩ => rfl
  | ⟨2, _⟩ => rfl

/-! ## What each transfer and each store brings

    Each is stated as: the source, read through its view, is the final contents of the destination read through its. -/

/-- Row chunk `c` of the device's rows, among the input's chunks of thirty-two rows. -/
def chunkOf (d : Dev nD) (c : Fin 8) : Fin 128 := ⟨8 * (pos d).val + c.val, by omega⟩
/-- The other `x`. -/
def xOther (d : Dev nD) : Fin 2 := ⟨1 - (xx d).val, by omega⟩

theorem read_keep (d : Dev nD) (c : Fin 8) :
    (xV (chunkOf d c) (xx d)).view.read (Elt F) (xC m d) = (keepV c).view.read (Elt F) (keepC m d) := by
  funext i
  rw [eq_ix2 i]
  refine (xV_read _ _ _ _ _).trans (Eq.trans ?_ (keepV_read _ _ _ _).symm)
  refine congrArg (xC m d) (congrArg₂ (fun a b => ix3 0 a b) (Fin.ext ?_) (Fin.ext ?_))
  · show 32 * (8 * (pos d).val + c.val) + (i 0).val = 256 * (pos d).val + (32 * c.val + (i 0).val); omega
  · rfl

theorem read_send (d : Dev nD) (c : Fin 8) :
    (xV (chunkOf d c) (xOther d)).view.read (Elt F) (xC m d) = (sendV c).view.read (Elt F) (sendC m d) := by
  funext i
  rw [eq_ix2 i]
  refine (xV_read _ _ _ _ _).trans (Eq.trans ?_ (sendV_read _ _ _ _).symm)
  refine congrArg (xC m d) (congrArg₂ (fun a b => ix3 0 a b) (Fin.ext ?_) (Fin.ext ?_))
  · show 32 * (8 * (pos d).val + c.val) + (i 0).val = 256 * (pos d).val + (32 * c.val + (i 0).val); omega
  · rfl

theorem roundV_eq (v : Vec F S32x1024 .f32) :
    roundV v = fun i => FloatOps.truncf (F := F) (φ := .f32) .bf16 bitsLt_bf16_f32 (v i) := by
  funext i
  unfold roundV shapeCast
  rw [Shape.reshapeEquiv_self]
  rfl

/-- The rounded chunk stored. -/
theorem read_round (d : Dev nD) (c : Fin 8) :
    roundV ((sendV c).view.read (Elt F) (sendC m d)) = (sbV c).view.read (Elt F) (sbC m d) := by
  rw [roundV_eq]; rfl

/-- The rounded chunk as the peer receives it. -/
theorem read_p0 (d : Dev nD) (c : Fin 8) :
    (sbV c).view.read (Elt F) (sbC m d) = (p0V c).view.read (Elt F) (sbC m (peer (peer d))) := by
  rw [peer_peer]; rfl

/-- The summed chunk stored. -/
theorem read_add (d : Dev nD) (c : Fin 8) :
    addV ((keepV c).view.read (Elt F) (keepC m d)) ((p0V c).view.read (Elt F) (sbC m (peer d)))
      = (agM.access (agR 0 c)).read (Elt F) (agC m d) := by
  suffices h : ∀ (r : Fin 32) (q : Fin 1024), addV ((keepV c).view.read (Elt F) (keepC m d)) ((p0V c).view.read (Elt F) (sbC m (peer d))) (ix3 0 r q)
      = agC m d ((agR 0 c).emb (ix3 0 r q)) by
    funext i
    have hi : i = ix3 (0 : Fin 1) (i 1 : Fin 32) (i 2 : Fin 1024) :=
      (eq_ix3 i).trans (congrArg (fun z : Fin 1 => ix3 z (i 1 : Fin 32) (i 2 : Fin 1024)) (Subsingleton.elim (α := Fin 1) _ _))
    rw [hi]
    exact h _ _
  intro r q
  rw [ag_emb]
  show _ = sumC m (back d 0) (ix2 _ _)
  rw [back_zero]
  unfold addV
  rw [shapeCast_ab_1ab_apply]
  show FloatOps.truncf _ _ (FloatOps.addf ((keepV c).view.read (Elt F) (keepC m d) (ix2 r q))
    (FloatOps.extf _ _ ((p0V c).view.read (Elt F) (sbC m (peer d)) (ix2 r q)))) = _
  rw [keepV_read, p0V_read]
  rfl

/-- A chunk sent to the right. -/
theorem read_cw (d : Dev nD) (e : Fin 60) :
    (agV (cwSrc e) (cwC e)).view.read (Elt F) (agC m d) = (agV (cwDst e) (cwC e)).view.read (Elt F) (agC m (right d)) := by
  funext i
  rw [eq_ix2 i]
  refine (agV_read _ _ _ _ _).trans (Eq.trans ?_ (agV_read _ _ _ _ _).symm)
  show sumC m (back d (cwSrc e)) _ = sumC m (back (right d) (cwDst e)) _
  rw [cwDst_eq, back_right]

/-- A chunk sent to the left. -/
theorem read_ccw (d : Dev nD) (e : Fin 60) :
    (agV (ccwSrc e) (ccwC e)).view.read (Elt F) (agC m d) = (agV (ccwDst e) (ccwC e)).view.read (Elt F) (agC m (left d)) := by
  funext i
  rw [eq_ix2 i]
  refine (agV_read _ _ _ _ _).trans (Eq.trans ?_ (agV_read _ _ _ _ _).symm)
  show sumC m (back d (ccwSrc e)) _ = sumC m (back (left d) (ccwDst e)) _
  rw [ccwDst_eq, back_left]

/-- A slot copied to its block of the result. -/
theorem read_out (d : Dev nD) (s : Fin 16) :
    (slotV s).view.read (Elt F) (agC m d) = (outV (pos d - s)).view.read (Elt F) (outC m d) := by
  funext i
  rw [eq_ix2 i]
  refine (slotV_read _ _ _ _).trans (Eq.trans ?_ (outV_read _ _ _ _).symm)
  have hi : (i 0).val < 256 := idx2_lt0 i
  show sumC m (atPlace (xx d) (pos d - s)) (ix2 (i 0) (i 1)) = sumC m (atPlace (xx d) ⟨(256 * (pos d - s).val + (i 0).val) / 256, _⟩)
    (ix2 ⟨(256 * (pos d - s).val + (i 0).val) % 256, _⟩ (i 1))
  congr 2
  · exact Fin.ext (by show (pos d - s).val = (256 * (pos d - s).val + (i 0).val) / 256; omega)
  · congr 1
    exact Fin.ext (by show (i 0).val = (256 * (pos d - s).val + (i 0).val) % 256; omega)

end Cert.Ring

end
-- ==== Proof.Pieces.lean ====
module

public import proofs.«01_k».proof.Proof.Contents

/-! Owning part of a buffer: one buffer as its chunks, slots or blocks, one piece as its shares, and a piece just
    written as the piece at its final contents. -/

@[expose] public section

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Device `d` owns the share `q` of what `M` covers, at contents `f`. -/
abbrev pts (d : Dev nD) {sp : Space} {s : Shape} {e : EltTy} (M : Memref sig .tc sp s e) (q : PosShare TreeShare)
    (f : Buf (Elt F) (M.view.loc (d : Thread nD τ))) : sProp (MM F) :=
  M.view.loc (d : Thread nD τ) ↦[M.view.set]{q} f

/-- A piece just written with what `G` reads there is the piece at `G`. -/
theorem pts_written (d : Dev nD) {sp : Space} {s : Shape} {e : EltTy} (M : Memref sig .tc sp s e) (q : PosShare TreeShare)
    (f G : Buf (Elt F) (M.view.loc (d : Thread nD τ))) (w : s.Idx → Elt F e) (h : w = M.view.read (Elt F) G) :
    (M.view.loc (d : Thread nD τ) ↦[M.view.set]{q} M.view.write (Elt F) f w Finset.univ : sProp (MM F)) = pts d M q G := by
  rw [h, View.write_read_eq_piecewise]
  exact pointsTo_congr fun i hi => Finset.piecewise_eq_of_mem _ _ _ hi

/-- The three shares of a piece: for the two sends and for the copy out. -/
abbrev qR : PosShare TreeShare := fullShare.left.left
abbrev qL : PosShare TreeShare := fullShare.left.right
abbrev qO : PosShare TreeShare := fullShare.right

theorem pts_three (d : Dev nD) {sp : Space} {s : Shape} {e : EltTy} (M : Memref sig .tc sp s e)
    (f : Buf (Elt F) (M.view.loc (d : Thread nD τ))) :
    (pts d M fullShare f : sProp (MM F)) ⊣⊢ iprop(pts d M qR f ∗ pts d M qL f ∗ pts d M qO f) := by
  constructor
  · refine (pointsTo_share (PosShare.mem_left_op_right fullShare)).1.trans ?_
    iintro ⟨H, HO⟩
    ihave H' := (pointsTo_share (PosShare.mem_left_op_right fullShare.left)).1 $$ H
    icases H' with ⟨H1, H2⟩
    isplitl [H1]; · iexact H1
    isplitl [H2]; · iexact H2
    iexact HO
  · iintro ⟨H1, H2, HO⟩
    iapply (pointsTo_share (PosShare.mem_left_op_right fullShare)).2
    isplitl [H1 H2]
    · iapply (pointsTo_share (PosShare.mem_left_op_right fullShare.left)).2
      isplitl [H1]; · iexact H1
      iexact H2
    · iexact HO

/-! ## Covers -/

/-- A set of elements as disjoint parts that make it up. -/
theorem split_parts {T : Type} [Fintype T] {ℓ : Loc nD τ sig} (S : Finset (Idx ℓ)) (K : T → Finset (Idx ℓ))
    (hS : ∀ i, i ∈ S ↔ ∃ t, i ∈ K t) (hd : ∀ t t', t ≠ t' → Disjoint (K t) (K t')) (q : PosShare TreeShare) (f : Buf (Elt F) ℓ) :
    (ℓ ↦[S]{q} f : sProp (MM F)) = bigSep Finset.univ fun t => ℓ ↦[K t]{q} f := by
  classical
  have h : S = Finset.univ.biUnion K := by
    ext i; rw [hS i]; simp only [Finset.mem_biUnion, Finset.mem_univ, true_and]
  subst h
  exact pointsTo_biUnion _ _ fun t _ t' _ => hd t t'

theorem rows_cover (i : S256x1024.Idx) : ∃ c, i ∈ (rowR c).set := by
  have h0 := idx2_lt0 i
  have h1 := idx2_lt1 i
  refine ⟨⟨(i 0).val / 32, by omega⟩, Rect.mem_set_unit.mpr fun a => ?_⟩
  match a with
  | ⟨0, _⟩ => show 32 * ((i 0).val / 32) ≤ (i 0).val ∧ (i 0).val < 32 * ((i 0).val / 32) + 32; omega
  | ⟨1, _⟩ => show 0 ≤ (i 1).val ∧ (i 1).val < 0 + 1024; omega

theorem rows_disjoint (c c' : Fin 8) (h : c ≠ c') : Disjoint (rowR c).set (rowR c').set := by
  rw [Finset.disjoint_left]
  intro i hi hi'
  have h0 : 32 * c.val ≤ (i 0).val ∧ (i 0).val < 32 * c.val + 32 := Rect.mem_set_unit.mp hi 0
  have h0' : 32 * c'.val ≤ (i 0).val ∧ (i 0).val < 32 * c'.val + 32 := Rect.mem_set_unit.mp hi' 0
  exact h (Fin.ext (by omega))

/-- A 256-row buffer as its eight chunks of rows. -/
theorem rows_split (d : Dev nD) {sp : Space} {e : EltTy} (M : Memref sig .tc sp S256x1024 e) (q : PosShare TreeShare)
    (f : Buf (Elt F) (M.view.loc (d : Thread nD τ))) :
    (pts d M q f : sProp (MM F)) = bigSep Finset.univ fun c : Fin 8 => pts d (M.slice (rowR c) (fun _ => rfl)) q f := by
  refine split_parts (ℓ := M.view.loc (d : Thread nD τ)) M.view.set (fun c => (M.view.slice (rowR c)).set) (fun y => ⟨fun hy => ?_, ?_⟩) (fun c c' h => ?_) q f
  · obtain ⟨i, -, rfl⟩ := Finset.mem_map.mp hy
    obtain ⟨c, hc⟩ := rows_cover i
    exact ⟨c, by rw [View.set_slice]; exact Finset.mem_map_of_mem _ hc⟩
  · rintro ⟨c, hc⟩
    exact View.set_slice_subset _ _ hc
  · rw [View.set_slice, View.set_slice]
    exact (Finset.disjoint_map _).mpr (rows_disjoint c c' h)

/-- One slot of the ring buffer. -/
abbrev slotR (s : Fin 16) : Rect S16x256x1024 := Rect.unit (s := S16x256x1024) ![s.val, 0, 0] S1x256x1024.size (ag16Inb s)
/-- One block of the result. -/
abbrev outR (j : Fin 16) : Rect S4096x1024 := Rect.unit (s := S4096x1024) ![256 * j.val, 0] S256x1024.size (outInb j)

theorem mem_slotR (s : Fin 16) (i : S16x256x1024.Idx) : i ∈ (slotR s).set ↔ i 0 = s := by
  have h1 : (i 1).val < 256 := (i 1).isLt
  have h2 : (i 2).val < 1024 := (i 2).isLt
  refine Rect.mem_set_unit.trans ⟨fun h => ?_, fun h a => ?_⟩
  · have h0 : s.val ≤ (i 0).val ∧ (i 0).val < s.val + 1 := h 0
    exact Fin.ext (by omega)
  · have h0 : (i 0).val = s.val := congrArg Fin.val h
    match a with
    | ⟨0, _⟩ => show s.val ≤ (i 0).val ∧ (i 0).val < s.val + 1; omega
    | ⟨1, _⟩ => show 0 ≤ (i 1).val ∧ (i 1).val < 0 + 256; omega
    | ⟨2, _⟩ => show 0 ≤ (i 2).val ∧ (i 2).val < 0 + 1024; omega

theorem mem_agR (s : Fin 16) (c : Fin 8) (i : S16x256x1024.Idx) : i ∈ (agR s c).set ↔ i 0 = s ∧ (i 1).val / 32 = c.val := by
  have h1 : (i 1).val < 256 := (i 1).isLt
  have h2 : (i 2).val < 1024 := (i 2).isLt
  refine Rect.mem_set_unit.trans ⟨fun h => ?_, fun h a => ?_⟩
  · have h0 : s.val ≤ (i 0).val ∧ (i 0).val < s.val + 1 := h 0
    have h3 : 32 * c.val ≤ (i 1).val ∧ (i 1).val < 32 * c.val + 32 := h 1
    exact ⟨Fin.ext (by omega), by omega⟩
  · have h0 : (i 0).val = s.val := congrArg Fin.val h.1
    have h3 := h.2
    match a with
    | ⟨0, _⟩ => show s.val ≤ (i 0).val ∧ (i 0).val < s.val + 1; omega
    | ⟨1, _⟩ => show 32 * c.val ≤ (i 1).val ∧ (i 1).val < 32 * c.val + 32; omega
    | ⟨2, _⟩ => show 0 ≤ (i 2).val ∧ (i 2).val < 0 + 1024; omega

theorem mem_outR (j : Fin 16) (i : S4096x1024.Idx) : i ∈ (outR j).set ↔ (i 0).val / 256 = j.val := by
  have h1 : (i 1).val < 1024 := (i 1).isLt
  refine Rect.mem_set_unit.trans ⟨fun h => ?_, fun h a => ?_⟩
  · have h0 : 256 * j.val ≤ (i 0).val ∧ (i 0).val < 256 * j.val + 256 := h 0
    omega
  · match a with
    | ⟨0, _⟩ => show 256 * j.val ≤ (i 0).val ∧ (i 0).val < 256 * j.val + 256; omega
    | ⟨1, _⟩ => show 0 ≤ (i 1).val ∧ (i 1).val < 0 + 1024; omega

theorem slotV_set (s : Fin 16) : (slotV s).view.set = (slotR s).set := by
  refine (View.set_reshape _ _).trans ?_
  exact View.set_slice_whole _ _
theorem agV_set (s : Fin 16) (c : Fin 8) : (agV s c).view.set = (agR s c).set := by
  refine (View.set_reshape _ _).trans ?_
  exact View.set_slice_whole _ _
theorem outV_set (j : Fin 16) : (outV j).view.set = (outR j).set := View.set_slice_whole _ _

theorem mem_slotV (s : Fin 16) (i : S16x256x1024.Idx) : i ∈ (slotV s).view.set ↔ i 0 = s := by
  rw [slotV_set]; exact mem_slotR s i
theorem mem_agV (s : Fin 16) (c : Fin 8) (i : S16x256x1024.Idx) : i ∈ (agV s c).view.set ↔ i 0 = s ∧ (i 1).val / 32 = c.val := by
  rw [agV_set]; exact mem_agR s c i
theorem mem_outV (j : Fin 16) (i : S4096x1024.Idx) : i ∈ (outV j).view.set ↔ (i 0).val / 256 = j.val := by
  rw [outV_set]; exact mem_outR j i

theorem slot_mem_chunk (s : Fin 16) (i : S16x256x1024.Idx) (h : i ∈ (slotV s).view.set) : ∃ c, i ∈ (agV s c).view.set := by
  have h1 : (i 1).val < 256 := (i 1).isLt
  exact ⟨⟨(i 1).val / 32, by omega⟩, (mem_agV _ _ i).mpr ⟨(mem_slotV _ i).mp h, rfl⟩⟩
theorem out_mem_block (i : S4096x1024.Idx) : ∃ j, i ∈ (outV j).view.set := by
  have h0 : (i 0).val < 4096 := (i 0).isLt
  exact ⟨⟨(i 0).val / 256, by omega⟩, (mem_outV _ i).mpr rfl⟩

/-- The ring buffer as its slots. -/
theorem ag_split (d : Dev nD) (q : PosShare TreeShare) (f : Buf (Elt F) (agM.view.loc (d : Thread nD τ))) :
    (pts d agM q f : sProp (MM F)) = bigSep Finset.univ fun s : Fin 16 => pts d (slotV s) q f := by
  refine split_parts (ℓ := agM.view.loc (d : Thread nD τ)) agM.view.set (fun s => (slotV s).view.set) (fun y => ⟨fun _ => ⟨_, (mem_slotV _ y).mpr rfl⟩, fun _ => ?_⟩)
    (fun s s' h => ?_) q f
  · exact View.emb_mem_set (View.whole cc0_scratch0) y
  · exact Finset.disjoint_left.mpr fun i hi hi' => h (((mem_slotV _ i).mp hi).symm.trans ((mem_slotV _ i).mp hi'))

/-- A slot as its chunks. -/
theorem slot_split (d : Dev nD) (s : Fin 16) (q : PosShare TreeShare) (f : Buf (Elt F) (agM.view.loc (d : Thread nD τ))) :
    (pts d (slotV s) q f : sProp (MM F)) = bigSep Finset.univ fun c : Fin 8 => pts d (agV s c) q f := by
  refine split_parts (ℓ := agM.view.loc (d : Thread nD τ)) (slotV s).view.set (fun c => (agV s c).view.set) (fun y => ⟨fun h => ?_, ?_⟩) (fun c c' h => ?_) q f
  · exact slot_mem_chunk s y h
  · rintro ⟨c, hc⟩
    exact (mem_slotV _ y).mpr ((mem_agV _ _ y).mp hc).1
  · exact Finset.disjoint_left.mpr fun i hi hi' => h (Fin.ext (((mem_agV _ _ i).mp hi).2.symm.trans ((mem_agV _ _ i).mp hi').2))

/-- The result as its blocks. -/
theorem out_split (d : Dev nD) (q : PosShare TreeShare) (f : Buf (Elt F) (outM.view.loc (d : Thread nD τ))) :
    (pts d outM q f : sProp (MM F)) = bigSep Finset.univ fun j : Fin 16 => pts d (outV j) q f := by
  refine split_parts (ℓ := outM.view.loc (d : Thread nD τ)) outM.view.set (fun j => (outV j).view.set) (fun y => ⟨fun _ => ?_, fun _ => ?_⟩) (fun c c' h => ?_) q f
  · exact out_mem_block y
  · exact View.emb_mem_set (View.whole main_v1) y
  · exact Finset.disjoint_left.mpr fun i hi hi' => h (Fin.ext (((mem_outV _ i).mp hi).symm.trans ((mem_outV _ i).mp hi')))

theorem sub_sub_self16 : ∀ p s : Fin 16, p - (p - s) = s := by decide

/-- Slot `s` of device `d` goes to block `pos d - s`, and the other way about. -/
def slotBlock (d : Dev nD) : Fin 16 ≃ Fin 16 := ⟨fun s => pos d - s, fun s => pos d - s, sub_sub_self16 _, sub_sub_self16 _⟩

/-- The blocks of the result in the order of the slots they come from. -/
theorem out_split_slots (d : Dev nD) (q : PosShare TreeShare) (f : Buf (Elt F) (outM.view.loc (d : Thread nD τ))) :
    (pts d outM q f : sProp (MM F)) = bigSep Finset.univ fun s : Fin 16 => pts d (outV (pos d - s)) q f := by
  rw [out_split]
  exact bigSep_univ_equiv (slotBlock d) _

end Cert.Ring

end
-- ==== Proof.Proto.lean ====
module

public import proofs.«01_k».proof.Proof.Pieces
public import Idealize.ShloMosaic.Lib.Decide

/-! The protocol.

    Every semaphore of a device has one round, in which each transfer or signal that raises it is one duty. What a duty
    hands to the waiter is stated here with its contents:

    * the barrier: from the peer, the buffer the peer receives in; from the right neighbour, the chunks of its ring buffer
      that this device writes; from the left neighbour, likewise;
    * the loads: the loaded chunk;
    * the exchange with the peer: the chunk sent, back, and the chunk received;
    * the ring: of each send, the share of the chunk it read, back; of each receive, the chunk;
    * the copies out: the block of the result, and the share of the slot it was read from. -/

@[expose] public section

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Which semaphore is which -/

/-- What a semaphore of a device counts. -/
inductive Use where
  | bar | p0s | p0r (k : Fin 8) | ldk (k : Fin 8) | lds (k : Fin 8) | cws | cwr (e : Fin 60) | ccws | ccwr (e : Fin 60) | osem | idle
  deriving DecidableEq

def useOf (q : ℕ) : Use :=
  if q = 0 then .p0s
  else if h : q < 9 then .p0r ⟨q - 1, by omega⟩
  else if h : q < 17 then .ldk ⟨q - 9, by omega⟩
  else if h : q < 25 then .lds ⟨q - 17, by omega⟩
  else if q = 25 then .cws
  else if h : q < 86 then .cwr ⟨q - 26, by omega⟩
  else if q < 90 then .idle
  else if q = 90 then .ccws
  else if h : q < 151 then .ccwr ⟨q - 91, by omega⟩
  else .osem

def use : SemLoc sig → Use
  | .reg _ => .bar
  | .dma q => useOf q.val

theorem use_p0s : use (.dma p0sS) = .p0s := by rfl
theorem p0rS_val : ∀ k, (p0rS k).val = 1 + k.val := by decide +kernel
theorem ldkS_val : ∀ k, (ldkS k).val = 9 + k.val := by decide +kernel
theorem ldsS_val : ∀ k, (ldsS k).val = 17 + k.val := by decide +kernel
theorem cwrS_val : ∀ e, (cwrS e).val = 26 + e.val := by decide +kernel
theorem ccwrS_val : ∀ e, (ccwrS e).val = 91 + e.val := by decide +kernel

theorem use_p0r (k : Fin 8) : use (.dma (p0rS k)) = .p0r k := by
  show useOf (p0rS k).val = _
  rw [p0rS_val]; revert k; decide +kernel
theorem use_ldk (k : Fin 8) : use (.dma (ldkS k)) = .ldk k := by
  show useOf (ldkS k).val = _
  rw [ldkS_val]; revert k; decide +kernel
theorem use_lds (k : Fin 8) : use (.dma (ldsS k)) = .lds k := by
  show useOf (ldsS k).val = _
  rw [ldsS_val]; revert k; decide +kernel
theorem use_cws : use (.dma cwsS) = .cws := by rfl
theorem use_cwr (e : Fin 60) : use (.dma (cwrS e)) = .cwr e := by
  show useOf (cwrS e).val = _
  rw [cwrS_val]; revert e; decide +kernel
theorem use_ccws : use (.dma ccwsS) = .ccws := by rfl
theorem use_ccwr (e : Fin 60) : use (.dma (ccwrS e)) = .ccwr e := by
  show useOf (ccwrS e).val = _
  rw [ccwrS_val]; revert e; decide +kernel
theorem use_osem : use (.dma osemS) = .osem := by rfl
theorem use_bar : use (.reg barS) = .bar := rfl

/-! ## The schedule -/

/-- Chunk `j` and slot `j`, of a duty number. -/
def chunk (j : Duty) : Fin 8 := ⟨j.val % 8, by omega⟩
def slot (j : Duty) : Fin 16 := ⟨j.val % 16, by omega⟩

def dutiesOf : Use → Finset Duty
  | .bar => Finset.univ.filter (·.val < 3)
  | .p0s => Finset.univ.filter (·.val < 8)
  | .cws => Finset.univ
  | .ccws => Finset.univ
  | .osem => Finset.univ.filter (·.val < 16)
  | .idle => ∅
  | _ => {0}

def amountOf : Use → ℕ
  | .bar => 1
  | .ldk _ => 4096
  | .lds _ => 4096
  | .osem => 16384
  | _ => 2048

variable (m : (ℓ : Loc nD τ sig) → Buf (Elt F) ℓ)

/-- Chunk `c` of slot `s` at its final contents. -/
abbrev agP (d : Dev nD) (q : PosShare TreeShare) (s : Fin 16) (c : Fin 8) : sProp (MM F) := pts d (agV s c) q (agC m d)
/-- The same chunk, at whatever contents. -/
abbrev agAny (d : Dev nD) (s : Fin 16) (c : Fin 8) : sProp (MM F) := iprop(∃ f, pts d (agV s c) fullShare f)
/-- Chunk `k` of the receive buffer, at whatever contents. -/
abbrev p0Any (d : Dev nD) (k : Fin 8) : sProp (MM F) := iprop(∃ f, pts d (p0V k) fullShare f)

/-- What duty `j` of the semaphore of device `d` used for `u` hands over. -/
def pay (d : Dev nD) : Use → Duty → sProp (MM F)
  | .bar, j =>
    if j.val = 0 then bigSep Finset.univ fun k : Fin 8 => p0Any (peer d) k
    else if j.val = 1 then bigSep Finset.univ fun e : Fin 60 => agAny (right d) (cwDst e) (cwC e)
    else bigSep Finset.univ fun e : Fin 60 => agAny (left d) (ccwDst e) (ccwC e)
  | .p0s, j => pts d (sbV (chunk j)) fullShare (sbC m d)
  | .p0r k, _ => pts d (p0V k) fullShare (sbC m (peer d))
  | .ldk k, _ => pts d (keepV k) fullShare (keepC m d)
  | .lds k, _ => pts d (sendV k) fullShare (sendC m d)
  | .cws, e => agP m d qR (cwSrc e) (cwC e)
  | .cwr e, _ => agP m d fullShare (cwDst e) (cwC e)
  | .ccws, e => agP m d qL (ccwSrc e) (ccwC e)
  | .ccwr e, _ => agP m d fullShare (ccwDst e) (ccwC e)
  | .osem, j => iprop(pts d (outV (pos d - slot j)) fullShare (outC m d) ∗ pts d (slotV (slot j)) qO (agC m d))
  | .idle, _ => iprop(emp)

instance pay_storable (d : Dev nD) (u : Use) (j : Duty) : BI.Storable (upEmb : UEmb _ (MM F)) (pay m d u j) := by
  cases u <;> unfold pay <;> (repeat' split) <;> infer_instance

/-- The schedule of every cell: one round. -/
def Rd : Rounds.Schedule (GSem nD τ sig) Duty (MM F) where
  duties g r := if r = 0 ∧ g.1.2 = .tc then dutiesOf (use g.2) else ∅
  unitless _ := False
  amount g _ _ := amountOf (use g.2)
  payload g _ j := pay m g.1.1 (use g.2) j
  amount_pos g _ _ _ := by
    show 0 < amountOf (use g.2)
    unfold amountOf; split <;> decide

instance Rd_payload_storable (g : GSem nD τ sig) (r : ℕ) (j : Duty) :
    BI.Storable (upEmb : UEmb _ (MM F)) ((Rd m).payload g r j) := pay_storable m _ _ _

/-- The cell of device `d` at semaphore `sm`. -/
abbrev cell (d : Dev nD) (sm : SemLoc sig) : GSem nD τ sig := ((d : Thread nD τ), sm)

theorem duties_eq (d : Dev nD) (sm : SemLoc sig) {u : Use} (hu : use sm = u) : (Rd (F := F) m).duties (cell d sm) 0 = dutiesOf u := by
  subst hu; dsimp only [Rd]; exact if_pos ⟨rfl, rfl⟩
theorem duties_later (g : GSem nD τ sig) : ∀ r, 1 ≤ r → (Rd (F := F) m).duties g r = ∅ :=
  fun r hr => by dsimp only [Rd]; exact if_neg fun h => by omega
theorem amount_eq (d : Dev nD) (sm : SemLoc sig) {u : Use} (hu : use sm = u) (j : Duty) : (Rd (F := F) m).amount (cell d sm) 0 j = amountOf u := by
  subst hu; rfl
theorem payload_eq (d : Dev nD) (sm : SemLoc sig) {u : Use} (hu : use sm = u) (j : Duty) : (Rd (F := F) m).payload (cell d sm) 0 j = pay m d u j := by
  subst hu; rfl
theorem expect_eq (d : Dev nD) (sm : SemLoc sig) {u : Use} (hu : use sm = u) :
    (Rd (F := F) m).expect (cell d sm) 0 = (dutiesOf u).card * amountOf u := by
  unfold Schedule.expect Schedule.amountOf
  rw [duties_eq m d sm hu, Finset.sum_congr rfl fun j _ => amount_eq m d sm hu j, Finset.sum_const, smul_eq_mul]

/-! ## The persistent record -/

/-- A device's semaphores: its barrier semaphore and its DMA semaphores. -/
abbrev SemIx : Type := Option (DmaSem sig)
abbrev semOf : SemIx → SemLoc sig := fun | none => .reg barS | some q => .dma q
abbrev kcell (x : Dev nD × SemIx) : GSem nD τ sig := cell x.1 (semOf x.2)

def L (g : GSem nD τ sig) : Finset Unit := if g.1.2 = .tc then {()} else ∅
/-- How late a semaphore's signals may come: those of the barrier before those of the exchange, those of the exchange
    before those of the ring, the ring's in the order of its edges. -/
def levOf : Use → ℕ
  | .bar => 2
  | .p0r _ => 5
  | .cwr e => 10 + e.val
  | .ccwr e => 10 + e.val
  | _ => 0
def lv (g : GSem nD τ sig) (_ : Unit) : ℕ := levOf (use g.2)

/-- The levels. -/
def levs : sProp (MM F) := levAts L lv

instance levs_persistent : BI.Persistent (levs (F := F)) := by unfold levs; infer_instance

/-- Every cell's invariant, that every cell has begun, and the levels. -/
def ctx (K : Dev nD × SemIx → ℕ) : sProp (MM F) :=
  iprop((bigSep Finset.univ fun x => cellInv ER (Rd m) (K x) (kcell x)) ∗ (bigSep Finset.univ fun x => reached ER (kcell x) 0) ∗ levs (F := F))

instance ctx_persistent (K : Dev nD × SemIx → ℕ) : BI.Persistent (ctx m K) := by unfold ctx; infer_instance

theorem ctx_inv (K : Dev nD × SemIx → ℕ) (d : Dev nD) (q : SemIx) : ctx m K ⊢ cellInv ER (Rd m) (K (d, q)) (cell d (semOf q)) := by
  unfold ctx
  iintro ⟨H, -, -⟩
  iapply (show (bigSep Finset.univ fun x => cellInv ER (Rd m) (K x) (kcell x)) ⊢ cellInv ER (Rd m) (K (d, q)) (kcell (d, q)) from
    bigSep_elim (Finset.mem_univ (d, q)))
  iexact H
theorem ctx_reached (K : Dev nD × SemIx → ℕ) (d : Dev nD) (q : SemIx) : ctx m K ⊢ reached ER (cell d (semOf q)) 0 := by
  unfold ctx
  iintro ⟨-, H, -⟩
  iapply (show (bigSep Finset.univ fun x => (reached ER (kcell x) 0 : sProp (MM F))) ⊢ reached ER (kcell (d, q)) 0 from
    bigSep_elim (Finset.mem_univ (d, q)))
  iexact H
theorem ctx_lev (K : Dev nD × SemIx → ℕ) : ctx m K ⊢ levs (F := F) := by
  unfold ctx
  iintro ⟨-, -, H⟩
  iexact H

end Cert.Ring

end
-- ==== Proof.Owed.lean ====
module

public import proofs.«01_k».proof.Proof.Proto

/-! What a device still owes its neighbours: the chunks it has yet to send to the peer, to the right and to the left. A
    wait is allowed when everything owed comes later than what is waited for. -/

@[expose] public section

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The cells a device's sends raise at its neighbours. -/
abbrev p0rCell (d : Dev nD) (k : Fin 8) : GSem nD τ sig := cell (peer d) (.dma (p0rS k))
abbrev cwrCell (d : Dev nD) (e : Fin 60) : GSem nD τ sig := cell (right d) (.dma (cwrS e))
abbrev ccwrCell (d : Dev nD) (e : Fin 60) : GSem nD τ sig := cell (left d) (.dma (ccwrS e))

/-- The numbers from `a` on. -/
def from' (n a : ℕ) : Finset (Fin n) := Finset.univ.filter fun e => a ≤ e.val

theorem mem_from (n a : ℕ) (e : Fin n) : e ∈ from' n a ↔ a ≤ e.val := by simp [from']
theorem from_zero (n : ℕ) : from' n 0 = Finset.univ := by ext e; simp [mem_from]
theorem from_end (n : ℕ) : from' n n = ∅ := by ext e; simp [mem_from]
theorem from_step {n : ℕ} (e : Fin n) : from' n e.val = insert e (from' n (e.val + 1)) := by
  ext e'; rw [Finset.mem_insert, mem_from, mem_from, Fin.ext_iff]; omega
theorem not_mem_from {n : ℕ} (e : Fin n) : e ∉ from' n (e.val + 1) := by rw [mem_from]; omega

def owedP (d : Dev nD) (p : ℕ) : CellTallies nD τ sig Unit := ∑ k ∈ from' 8 p, tallyAt (p0rCell d k) () 2048
def owedCw (d : Dev nD) (a : ℕ) : CellTallies nD τ sig Unit := ∑ e ∈ from' 60 a, tallyAt (cwrCell d e) () 2048
def owedCcw (d : Dev nD) (b : ℕ) : CellTallies nD τ sig Unit := ∑ e ∈ from' 60 b, tallyAt (ccwrCell d e) () 2048

/-- What is owed once `p` chunks have gone to the peer, `a` to the right and `b` to the left. -/
def owed (d : Dev nD) (p a b : ℕ) : CellTallies nD τ sig Unit := owedP d p + owedCw d a + owedCcw d b

theorem owed_p (d : Dev nD) (k : Fin 8) (a b : ℕ) : owed d k.val a b = owed d (k.val + 1) a b + tallyAt (p0rCell d k) () 2048 := by
  unfold owed owedP
  rw [from_step k, Finset.sum_insert (not_mem_from k)]; ac_rfl
theorem owed_cw (d : Dev nD) (p : ℕ) (e : Fin 60) (b : ℕ) : owed d p e.val b = owed d p (e.val + 1) b + tallyAt (cwrCell d e) () 2048 := by
  unfold owed owedCw
  rw [from_step e, Finset.sum_insert (not_mem_from e)]; ac_rfl
theorem owed_ccw (d : Dev nD) (p a : ℕ) (e : Fin 60) : owed d p a e.val = owed d p a (e.val + 1) + tallyAt (ccwrCell d e) () 2048 := by
  unfold owed owedCcw
  rw [from_step e, Finset.sum_insert (not_mem_from e)]; ac_rfl
theorem owed_done (d : Dev nD) : owed d 8 60 60 = 0 := by
  unfold owed owedP owedCw owedCcw
  rw [from_end, from_end, Finset.sum_empty, Finset.sum_empty, Finset.sum_empty, add_zero, add_zero]

/-- A positive sum of tallies is positive at one of them. -/
theorem sum_tally_pos {n : ℕ} (s : Finset (Fin n)) (c : Fin n → GSem nD τ sig) {g : GSem nD τ sig} {u : Unit}
    (h : 0 < (∑ e ∈ s, tallyAt (c e) () 2048 : CellTallies nD τ sig Unit) g u) : ∃ e ∈ s, g = c e := by
  classical
  by_contra hn
  refine absurd h ?_
  have hz : (∑ e ∈ s, tallyAt (c e) () 2048 : CellTallies nD τ sig Unit) g u = 0 := by
    induction s using Finset.induction_on with
    | empty => rfl
    | insert e s he ih =>
      rw [Finset.sum_insert he, Pi.add_apply, Finsupp.add_apply, tallyAt_apply, if_neg, Nat.zero_add]
      · refine Nat.eq_zero_of_not_pos fun hp => ?_
        refine hn ?_
        obtain ⟨e', he', hg⟩ := Classical.byContradiction fun hc => absurd (ih hp hc) (by omega)
        exact ⟨e', Finset.mem_insert_of_mem he', hg⟩
      · rintro ⟨hg, -⟩
        exact hn ⟨e, Finset.mem_insert_self _ _, hg⟩
  omega

theorem owed_pos {d : Dev nD} {p a b : ℕ} {g : GSem nD τ sig} {u : Unit} (h : 0 < owed d p a b g u) :
    (∃ k : Fin 8, p ≤ k.val ∧ g = p0rCell d k) ∨ (∃ e : Fin 60, a ≤ e.val ∧ g = cwrCell d e) ∨ (∃ e : Fin 60, b ≤ e.val ∧ g = ccwrCell d e) := by
  unfold owed at h
  rw [Pi.add_apply, Finsupp.add_apply, Pi.add_apply, Finsupp.add_apply] at h
  have h3 : 0 < owedP d p g u ∨ 0 < owedCw d a g u ∨ 0 < owedCcw d b g u := by omega
  rcases h3 with h | h | h
  · obtain ⟨e, he, hg⟩ := sum_tally_pos _ _ h
    exact .inl ⟨e, (mem_from _ _ _).mp he, hg⟩
  · obtain ⟨e, he, hg⟩ := sum_tally_pos _ _ h
    exact .inr (.inl ⟨e, (mem_from _ _ _).mp he, hg⟩)
  · obtain ⟨e, he, hg⟩ := sum_tally_pos _ _ h
    exact .inr (.inr ⟨e, (mem_from _ _ _).mp he, hg⟩)

theorem L_tc (d : Dev nD) (sm : SemLoc sig) : L (cell d sm) = {()} := if_pos rfl

theorem lv_p0r (d : Dev nD) (k : Fin 8) : lv (p0rCell d k) () = 5 := by
  show levOf (use (.dma (p0rS k))) = 5; rw [use_p0r]; rfl
theorem lv_cwr (d : Dev nD) (e : Fin 60) : lv (cwrCell d e) () = 10 + e.val := by
  show levOf (use (.dma (cwrS e))) = _; rw [use_cwr]; rfl
theorem lv_ccwr (d : Dev nD) (e : Fin 60) : lv (ccwrCell d e) () = 10 + e.val := by
  show levOf (use (.dma (ccwrS e))) = _; rw [use_ccwr]; rfl

/-- A wait is allowed when all that is owed comes later. -/
theorem mayWait (d : Dev nD) (sm : SemLoc sig) {p a b : ℕ} (hp : levOf (use sm) < 5 ∨ 8 ≤ p) (ha : levOf (use sm) < 10 + a)
    (hb : levOf (use sm) < 10 + b) : levs (F := F) ⊢ MayWait (d : Thread nD τ) sm () (owed d p a b) := by
  unfold levs
  exact MayOwe.of_cut (L := L) (lev := lv) (levOf (use sm))
    (fun p hp => by rw [Finset.mem_singleton.mp hp, L_tc]; exact Finset.mem_singleton_self _)
    (fun g u hg => by
      rcases owed_pos hg with ⟨k, -, rfl⟩ | ⟨e, -, rfl⟩ | ⟨e, -, rfl⟩ <;> exact Finset.mem_singleton_self _)
    (fun p hp => by rw [Finset.mem_singleton.mp hp]; exact le_refl _)
    (fun g u hg => by
      rcases owed_pos hg with ⟨k, hk, rfl⟩ | ⟨e, he, rfl⟩ | ⟨e, he, rfl⟩
      · have := k.isLt
        rw [show u = () from rfl, lv_p0r]; omega
      · rw [show u = () from rfl, lv_cwr]; omega
      · rw [show u = () from rfl, lv_ccwr]; omega)

end Cert.Ring

end
-- ==== Proof.Rules.lean ====
module

public import proofs.«01_k».proof.Proof.Owed

/-! The rules of the kernel's effects, stated for this protocol: a wait for a cell of one duty, a send to a neighbour, a
    copy on the device itself. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × SemIx → ℕ)

/-- A cell not yet waited for; a cell whose round is over. -/
abbrev At (d : Dev nD) (q : SemIx) : sProp (MM F) := atPos ER (cell d (semOf q)) 0 ∅ 0
abbrev Done (d : Dev nD) (q : SemIx) : sProp (MM F) := atPos ER (cell d (semOf q)) 1 ∅ 0
/-- The right to raise a cell as its duty `j`. -/
abbrev Tok (d : Dev nD) (q : SemIx) (j : Duty) : sProp (MM F) := dutyTok ER (cell d (semOf q)) 0 j
/-- The knowledge that `n` units of a cell will come. -/
abbrev Cr (d : Dev nD) (q : SemIx) (n : ℕ) : sProp (MM F) := cred (tallyAt (cell d (semOf q)) () n)
/-- What the device owes. -/
abbrev Ow (d : Dev nD) (O : CellTallies nD τ sig Unit) : sProp (MM F) := iprop(∃ W, owes (d : Thread nD τ) O W)

/-- A wait for the one duty of a cell. -/
theorem wait1 (d : Dev nD) (q : SemIx) {u : Use} (hu : use (semOf q) = u) (hd : dutiesOf u = {0})
    {w : TpuEff nD τ sig (Elt F) Λ₀ .tc PUnit} {k' : ℕ}
    (hw : ∀ Kt : PUnit → sProp (MM F), wpE (defs₀ (F := F)) 𝒱₀ (d : Thread nD τ) none Set.univ w Kt = waitSpec (d : Thread nD τ) Set.univ (semOf q) k' Kt)
    (hk : k' = amountOf u) {p a b : ℕ} (hp : levOf u < 5 ∨ 8 ≤ p) (ha : levOf u < 10 + a) (hb : levOf u < 10 + b)
    {α : Type} (k : PUnit → KProg F α) (Q : α → sProp (MM F)) :
    iprop(ctx m K ∗ Cr d q k' ∗ Ow d (owed d p a b) ∗ At d q)
      ⊢ iprop(((Ow d (owed d p a b) ∗ Done d q ∗ pay m d u 0) -∗ run d (k ⟨⟩) Q) -∗ run d (.op w k) Q) := by
  subst hu
  have hmw : ctx m K ⊢ MayWait (d : Thread nD τ) (semOf q) () (owed d p a b) := (ctx_lev m K).trans (mayWait d (semOf q) hp ha hb)
  have he : 0 + k' = (Rd (F := F) m).expect (cell d (semOf q)) 0 := by
    rw [expect_eq m d (semOf q) rfl, hd, Finset.card_singleton, Nat.one_mul, Nat.zero_add]; exact hk
  have hr : (bigSep ((Rd (F := F) m).duties (cell d (semOf q)) 0 \ ∅) fun j => (Rd m).payload (cell d (semOf q)) 0 j) = pay m d (use (semOf q)) 0 := by
    rw [duties_eq m d (semOf q) rfl, hd, Finset.sdiff_empty, bigSep_singleton, payload_eq m d (semOf q) rfl]
  iintro ⟨#HC, Hc, ⟨%W, HO⟩, Hat⟩ Hk
  iapply (Rounds.wp_wait_rest_token 𝒱₀ ER (Rd m) (d : Thread nD τ) none (κ := K (d, q)) hw (Set.mem_univ _) () (O := owed d p a b)
      (W := W) (R := 0) (m := 0) (T := ∅) he) $$ [Hc HO Hat]
  · isplitr; · iapply (ctx_inv m K d q); iexact HC
    isplitl [Hc]; · iexact Hc
    isplitl [HO]; · iexact HO
    isplitr; · iapply hmw; iexact HC
    iexact Hat
  iintro ⟨HO, Hat, -, Hp⟩
  ihave Hp := (Entails.of_eq hr) $$ Hp
  iapply Hk
  isplitl [HO]; · iexists _; iexact HO
  isplitl [Hat]; · iexact Hat
  iexact Hp

/-- A send from device `d` to device `d'`: the share of the source comes back through `d`'s cell, the destination goes to
    `d'` through its own. -/
theorem send1 (d d' : Dev nD) {sp sp' : Space} {s : Shape} {e : EltTy} (src : Memref sig .tc sp s e) (dst : Memref sig .tc sp' s e)
    (qS qR : DmaSem sig) {uS uR : Use} {jS jR : Duty} (huS : use (.dma qS) = uS) (huR : use (.dma qR) = uR)
    (hjS : jS ∈ dutiesOf uS) (hjR : jR ∈ dutiesOf uR) (haS : amountOf uS = 2048) (haR : amountOf uR = 2048)
    {q : PosShare TreeShare} (fs : Buf (Elt F) (src.view.loc (d : Thread nD τ))) (G : Buf (Elt F) (dst.view.loc (d' : Thread nD τ)))
    (hpS : pay m d uS jS = pts d src q fs) (hpR : pay m d' uR jR = pts d' dst fullShare G)
    (hread : src.view.read (Elt F) fs = dst.view.read (Elt F) G) (hN : dst.view.amount (.dma qR) = 2048)
    {hsc : dst.view.ref.isScScratch = false} {hsrc : src.view.WordExact} {hdst : dst.view.WordExact}
    {hsem : DmaTarget.Typed sp (.dma qR) (.remote (p := (d : Thread nD τ).2) (Dev.tc d') dst (.dma qS) hsc)}
    {O₀ : CellTallies nD τ sig Unit} (O : CellTallies nD τ sig Unit) (hO : O₀ = O + tallyAt (cell d' (.dma qR)) () 2048)
    {α : Type} (k : PUnit → KProg F α) (Q : α → sProp (MM F)) :
    iprop(ctx m K ∗ pts d src q fs ∗ (∃ f, pts d' dst fullShare f) ∗ Ow d O₀ ∗ Tok d (some qS) jS ∗ Tok d' (some qR) jR)
      ⊢ iprop(((Cr d (some qS) 2048 ∗ Ow d O) -∗ run d (k ⟨⟩) Q)
        -∗ run d (.op (.enqueueDma src (.remote (Dev.tc d') dst (.dma qS) hsc) (.dma qR) hsrc hdst hsem) k) Q) := by
  iintro ⟨#HC, Hs, ⟨%f, Hd⟩, ⟨%W, HO⟩, Ht1, Ht2⟩ Hk
  iapply (Rounds.wp_send_pointsTo 𝒱₀ ER (Rd m) (d : Thread nD τ) none (c' := (d' : Thread nD τ)) (κ₁ := K (d, some qS)) (κ₂ := K (d', some qR))
      (src := src) (dst := dst) (sS := .dma qS) (sem := .dma qR)
      (r₁ := 0) (r₂ := 0) (d₁ := jS) (d₂ := jR) (fd := f)
      (by rw [duties_eq m d _ huS]; exact hjS) (by rw [duties_eq m d' _ huR]; exact hjR)
      () () 2048 hN ((amount_eq m d _ huS jS).trans haS) ((amount_eq m d' _ huR jR).trans haR) O hO (W := W)
      (by rw [payload_eq m d _ huS, hpS])
      (by rw [payload_eq m d' _ huR, hpR]; exact Entails.of_eq (pts_written d' dst fullShare f G _ hread))) $$ [Hs Hd HO Ht1 Ht2]
  · isplitr; · iapply (ctx_inv m K d (some qS)); iexact HC
    isplitr; · iapply (ctx_inv m K d' (some qR)); iexact HC
    isplitl [Hs]; · iexact Hs
    isplitl [Hd]; · iexact Hd
    isplitl [HO]; · iexact HO
    isplitl [Ht1]; · iexact Ht1
    isplitr; · iapply (ctx_reached m K d (some qS)); iexact HC
    isplitl [Ht2]; · iexact Ht2
    iapply (ctx_reached m K d' (some qR)); iexact HC
  iintro ⟨Hc, HO⟩
  iapply Hk
  isplitl [Hc]; · iexact Hc
  iexists _; iexact HO

/-- A copy on device `d` itself: the destination, and what the duty keeps of the source, come back through its cell. -/
theorem copy1 (d : Dev nD) {sp sp' : Space} {s : Shape} {e : EltTy} (src : Memref sig .tc sp s e) (dst : Memref sig .tc sp' s e)
    (qS : DmaSem sig) {u : Use} {j : Duty} (hu : use (.dma qS) = u) (hj : j ∈ dutiesOf u) {N : ℕ} (ha : amountOf u = N)
    {q : PosShare TreeShare} (fs : Buf (Elt F) (src.view.loc (d : Thread nD τ))) (G : Buf (Elt F) (dst.view.loc (d : Thread nD τ)))
    (hpay : iprop(pts d dst fullShare G ∗ pts d src q fs) ⊢ pay m d u j)
    (hread : src.view.read (Elt F) fs = dst.view.read (Elt F) G) (hN : dst.view.amount (.dma qS) = N)
    {hsrc : src.view.WordExact} {hdst : dst.view.WordExact} {hsem : DmaTarget.Typed (nD := nD) sp (.dma qS) (.here (p := (d : Thread nD τ).2) dst)}
    {α : Type} (k : PUnit → KProg F α) (Q : α → sProp (MM F)) :
    iprop(ctx m K ∗ pts d src q fs ∗ (∃ f, pts d dst fullShare f) ∗ Tok d (some qS) j)
      ⊢ iprop((Cr d (some qS) N -∗ run d (k ⟨⟩) Q) -∗ run d (.op (.enqueueDma src (.here dst) (.dma qS) hsrc hdst hsem) k) Q) := by
  iintro ⟨#HC, Hs, ⟨%f, Hd⟩, Ht⟩ Hk
  iapply (Rounds.wp_copy_pointsTo 𝒱₀ ER (Rd m) (d : Thread nD τ) none (κ := K (d, some qS)) (src := src) (dst := dst) (sem := .dma qS)
      (r := 0) (d := j) (fd := f) (by rw [duties_eq m d _ hu]; exact hj) () N hN ((amount_eq m d _ hu j).trans ha)
      (by rw [payload_eq m d _ hu]; exact (sep_mono_l (Entails.of_eq (pts_written d dst fullShare f G _ hread))).trans hpay)) $$ [Hs Hd Ht]
  · isplitr; · iapply (ctx_inv m K d (some qS)); iexact HC
    isplitl [Hs]; · iexact Hs
    isplitl [Hd]; · iexact Hd
    isplitl [Ht]; · iexact Ht
    iapply (ctx_reached m K d (some qS)); iexact HC
  iintro Hc
  iapply Hk
  iexact Hc

end Cert.Ring

end
-- ==== Proof.Steps.lean ====
module

public import proofs.«01_k».proof.Proof.Rules

/-! The steps that send: the exchange with the peer, the sum, and the two rings.

    `St d p a b` is what a device carries through them: what it owes, the rights and the destinations of the sends still to
    come, and the knowledge that those already made will be read. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × SemIx → ℕ)

/-- The duty numbered by a chunk, and by a slot. -/
abbrev dn8 (k : Fin 8) : Duty := ⟨k.val, by omega⟩
abbrev dn16 (s : Fin 16) : Duty := ⟨s.val, by omega⟩
theorem chunk_dn8 (k : Fin 8) : chunk (dn8 k) = k := Fin.ext (Nat.mod_eq_of_lt k.isLt)
theorem slot_dn16 (s : Fin 16) : slot (dn16 s) = s := Fin.ext (Nat.mod_eq_of_lt s.isLt)

/-! ## The amounts of the transfers -/

theorem amount_ag (s : Fin 16) (c : Fin 8) (q : DmaSem sig) : (agV s c).view.amount (.dma q) = 2048 := by rfl
theorem amount_p0 (c : Fin 8) (q : DmaSem sig) : (p0V c).view.amount (.dma q) = 2048 := by rfl

/-! ## The sends to come -/

abbrev todoP (d : Dev nD) (k : Fin 8) : sProp (MM F) :=
  iprop(Tok d (some p0sS) (dn8 k) ∗ Tok (peer d) (some (p0rS k)) 0 ∗ p0Any (peer d) k)
abbrev todoCw (d : Dev nD) (e : Fin 60) : sProp (MM F) :=
  iprop(Tok d (some cwsS) e ∗ Tok (right d) (some (cwrS e)) 0 ∗ agAny (right d) (cwDst e) (cwC e))
abbrev todoCcw (d : Dev nD) (e : Fin 60) : sProp (MM F) :=
  iprop(Tok d (some ccwsS) e ∗ Tok (left d) (some (ccwrS e)) 0 ∗ agAny (left d) (ccwDst e) (ccwC e))

/-- The numbers below `a`. -/
def upTo (n a : ℕ) : Finset (Fin n) := Finset.univ.filter fun e => e.val < a
theorem mem_upTo (n a : ℕ) (e : Fin n) : e ∈ upTo n a ↔ e.val < a := by simp [upTo]
theorem upTo_zero (n : ℕ) : upTo n 0 = ∅ := by ext e; simp [mem_upTo]
theorem upTo_end (n : ℕ) : upTo n n = Finset.univ := by ext e; simp [mem_upTo]
theorem upTo_step {n : ℕ} (e : Fin n) : upTo n (e.val + 1) = insert e (upTo n e.val) := by
  ext e'; rw [Finset.mem_insert, mem_upTo, mem_upTo, Fin.ext_iff]; omega
theorem not_mem_upTo {n : ℕ} (e : Fin n) : e ∉ upTo n e.val := by rw [mem_upTo]; omega

/-- The state once `p` chunks have gone to the peer, `a` to the right and `b` to the left. -/
def St (d : Dev nD) (p a b : ℕ) : sProp (MM F) :=
  iprop(Ow d (owed d p a b)
    ∗ (bigSep (from' 8 p) (todoP d) ∗ bigSep (from' 60 a) (todoCw d) ∗ bigSep (from' 60 b) (todoCcw d))
    ∗ (bigSep (upTo 8 p) fun _ => Cr d (some p0sS) 2048) ∗ (bigSep (upTo 60 a) fun _ => Cr d (some cwsS) 2048)
    ∗ (bigSep (upTo 60 b) fun _ => Cr d (some ccwsS) 2048))

/-- One of the numbered pieces still to come, taken out. -/
theorem from_pull {n : ℕ} (e : Fin n) (Φ : Fin n → sProp (MM F)) :
    bigSep (from' n e.val) Φ ⊢ iprop(Φ e ∗ bigSep (from' n (e.val + 1)) Φ) := by
  rw [from_step e, bigSep_insert (Φ := Φ) (not_mem_from e)]
  exact BI.Entails.refl _
/-- One more of the numbered pieces, put in. -/
theorem upTo_push {n : ℕ} (e : Fin n) (Φ : Fin n → sProp (MM F)) :
    iprop(Φ e ∗ bigSep (upTo n e.val) Φ) ⊢ bigSep (upTo n (e.val + 1)) Φ := by
  rw [upTo_step e, bigSep_insert (Φ := Φ) (not_mem_upTo e)]
  exact BI.Entails.refl _

/-! ## The sends along the rings -/

theorem cwSend_step (d : Dev nD) (p : ℕ) (e : Fin 60) (b : ℕ) :
    iprop(ctx m K ∗ St d p e.val b ∗ agP m d qR (cwSrc e) (cwC e)) ⊢ run d (cwSend d e) (fun _ => St d p (e.val + 1) b) := by
  unfold cwSend St
  simp only [Prog.lift]
  iintro ⟨#HC, ⟨HO, ⟨HtP, HtCw, HtCcw⟩, HcP, HcCw, HcCcw⟩, Hs⟩
  ihave HtCw := (from_pull e (todoCw d)) $$ HtCw
  icases HtCw with ⟨⟨HtS, HtR, Hd⟩, HtCw⟩
  iapply (send1 m K d (right d) (agV (cwSrc e) (cwC e)) (agV (cwDst e) (cwC e)) cwsS (cwrS e) (jS := e) (jR := 0) use_cws (use_cwr e)
    (Finset.mem_univ _) (Finset.mem_singleton_self _) rfl rfl (agC m d) (agC m (right d)) rfl rfl (read_cw m d e) (amount_ag _ _ _)
    (owed d p (e.val + 1) b) (owed_cw d p e b)) $$ [HO HtS HtR Hd Hs]
  · isplitr; · iexact HC
    isplitl [Hs]; · iexact Hs
    isplitl [Hd]; · iexact Hd
    isplitl [HO]; · iexact HO
    isplitl [HtS]; · iexact HtS
    iexact HtR
  iintro ⟨Hc, HO⟩
  iapply (run_ret d PUnit.unit)
  isplitl [HO]; · iexact HO
  isplitl [HtP HtCw HtCcw]
  · isplitl [HtP]; · iexact HtP
    isplitl [HtCw]; · iexact HtCw
    iexact HtCcw
  isplitl [HcP]; · iexact HcP
  isplitr [HcCcw]
  · iapply (upTo_push e (fun _ => Cr d (some cwsS) 2048))
    isplitl [Hc]; · iexact Hc
    iexact HcCw
  iexact HcCcw

theorem ccwSend_step (d : Dev nD) (p a : ℕ) (e : Fin 60) :
    iprop(ctx m K ∗ St d p a e.val ∗ agP m d qL (ccwSrc e) (ccwC e)) ⊢ run d (ccwSend d e) (fun _ => St d p a (e.val + 1)) := by
  unfold ccwSend St
  simp only [Prog.lift]
  iintro ⟨#HC, ⟨HO, ⟨HtP, HtCw, HtCcw⟩, HcP, HcCw, HcCcw⟩, Hs⟩
  ihave HtCcw := (from_pull e (todoCcw d)) $$ HtCcw
  icases HtCcw with ⟨⟨HtS, HtR, Hd⟩, HtCcw⟩
  iapply (send1 m K d (left d) (agV (ccwSrc e) (ccwC e)) (agV (ccwDst e) (ccwC e)) ccwsS (ccwrS e) (jS := e) (jR := 0) use_ccws (use_ccwr e)
    (Finset.mem_univ _) (Finset.mem_singleton_self _) rfl rfl (agC m d) (agC m (left d)) rfl rfl (read_ccw m d e) (amount_ag _ _ _)
    (owed d p a (e.val + 1)) (owed_ccw d p a e)) $$ [HO HtS HtR Hd Hs]
  · isplitr; · iexact HC
    isplitl [Hs]; · iexact Hs
    isplitl [Hd]; · iexact Hd
    isplitl [HO]; · iexact HO
    isplitl [HtS]; · iexact HtS
    iexact HtR
  iintro ⟨Hc, HO⟩
  iapply (run_ret d PUnit.unit)
  isplitl [HO]; · iexact HO
  isplitl [HtP HtCw HtCcw]
  · isplitl [HtP]; · iexact HtP
    isplitl [HtCw]; · iexact HtCw
    iexact HtCcw
  isplitl [HcP]; · iexact HcP
  isplitl [HcCw]; · iexact HcCw
  iapply (upTo_push e (fun _ => Cr d (some ccwsS) 2048))
  isplitl [Hc]; · iexact Hc
  iexact HcCcw

/-! ## The receives along the rings -/

abbrev waitCw (d : Dev nD) (e : Fin 60) : sProp (MM F) := iprop(Cr d (some (cwrS e)) 2048 ∗ At d (some (cwrS e)))
abbrev waitCcw (d : Dev nD) (e : Fin 60) : sProp (MM F) := iprop(Cr d (some (ccwrS e)) 2048 ∗ At d (some (ccwrS e)))

theorem cwWait_step (d : Dev nD) (p a b : ℕ) (e : Fin 60) (hp : 8 ≤ p) (ha : e.val < a) (hb : e.val < b) :
    iprop(ctx m K ∗ St d p a b ∗ waitCw d e)
      ⊢ run d (cwWait e) (fun _ => iprop(St d p a b ∗ Done d (some (cwrS e)) ∗ agP m d fullShare (cwDst e) (cwC e))) := by
  unfold cwWait St
  simp only [Prog.lift]
  iintro ⟨#HC, ⟨HO, Hrest⟩, Hc, Hat⟩
  iapply (wait1 m K d (some (cwrS e)) (use_cwr e) rfl (wpE_waitDma2_eq 𝒱₀ (d : Thread nD τ) none Set.univ) (by rfl) (p := p) (a := a) (b := b)
    (.inr hp) (by show 10 + e.val < 10 + a; omega) (by show 10 + e.val < 10 + b; omega)) $$ [HO Hc Hat]
  · isplitr; · iexact HC
    isplitl [Hc]; · iexact Hc
    isplitl [HO]; · iexact HO
    iexact Hat
  iintro ⟨HO, Hat, Hp⟩
  iapply (run_ret d PUnit.unit)
  isplitl [HO Hrest]
  · isplitl [HO]; · iexact HO
    iexact Hrest
  isplitl [Hat]; · iexact Hat
  iapply (Entails.of_eq (show pay m d (.cwr e) 0 = agP m d fullShare (cwDst e) (cwC e) from rfl)); iexact Hp

theorem ccwWait_step (d : Dev nD) (p a b : ℕ) (e : Fin 60) (hp : 8 ≤ p) (ha : e.val < a) (hb : e.val < b) :
    iprop(ctx m K ∗ St d p a b ∗ waitCcw d e)
      ⊢ run d (ccwWait e) (fun _ => iprop(St d p a b ∗ Done d (some (ccwrS e)) ∗ agP m d fullShare (ccwDst e) (ccwC e))) := by
  unfold ccwWait St
  simp only [Prog.lift]
  iintro ⟨#HC, ⟨HO, Hrest⟩, Hc, Hat⟩
  iapply (wait1 m K d (some (ccwrS e)) (use_ccwr e) rfl (wpE_waitDma2_eq 𝒱₀ (d : Thread nD τ) none Set.univ) (by rfl) (p := p) (a := a) (b := b)
    (.inr hp) (by show 10 + e.val < 10 + a; omega) (by show 10 + e.val < 10 + b; omega)) $$ [HO Hc Hat]
  · isplitr; · iexact HC
    isplitl [Hc]; · iexact Hc
    isplitl [HO]; · iexact HO
    iexact Hat
  iintro ⟨HO, Hat, Hp⟩
  iapply (run_ret d PUnit.unit)
  isplitl [HO Hrest]
  · isplitl [HO]; · iexact HO
    iexact Hrest
  isplitl [Hat]; · iexact Hat
  iapply (Entails.of_eq (show pay m d (.ccwr e) 0 = agP m d fullShare (ccwDst e) (ccwC e) from rfl)); iexact Hp

end Cert.Ring

end
-- ==== Proof.Exchange.lean ====
module

public import proofs.«01_k».proof.Proof.Steps

/-! The exchange with the peer, the sum, and one step of the rings. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × SemIx → ℕ)

/-! ## The exchange -/

abbrev sendPre (d : Dev nD) (c : Fin 8) : sProp (MM F) :=
  iprop(Cr d (some (ldsS c)) 4096 ∗ At d (some (ldsS c)) ∗ ∃ f, pts d (sbV c) fullShare f)
abbrev sendPost (d : Dev nD) (c : Fin 8) : sProp (MM F) :=
  iprop(Done d (some (ldsS c)) ∗ pts d (sendV c) fullShare (sendC m d))

theorem sendStep_run (d : Dev nD) (c : Fin 8) :
    iprop(ctx m K ∗ St d c.val 0 0 ∗ sendPre d c) ⊢ run d (sendStep d c) (fun _ => iprop(St d (c.val + 1) 0 0 ∗ sendPost m d c)) := by
  unfold sendStep St
  simp only [Prog.lift, Prog.bind_op, Prog.bind_ret]
  iintro ⟨#HC, ⟨HO, ⟨HtP, HtR⟩, HcP, HcR⟩, Hc, Hat, ⟨%f, Hb⟩⟩
  iapply (wait1 m K d (some (ldsS c)) (use_lds c) rfl (wpE_waitDma2_eq 𝒱₀ (d : Thread nD τ) none Set.univ) (by rfl) (p := c.val) (a := 0) (b := 0)
    (.inl (by show 0 < 5; decide)) (by show 0 < 10; omega) (by show 0 < 10; omega)) $$ [HO Hc Hat]
  · isplitr; · iexact HC
    isplitl [Hc]; · iexact Hc
    isplitl [HO]; · iexact HO
    iexact Hat
  iintro ⟨HO, Hat, Hp⟩
  ihave Hp := (Entails.of_eq (show pay m d (.lds c) 0 = pts d (sendV c) fullShare (sendC m d) from rfl)) $$ Hp
  iapply (wp_load_rect 𝒱₀ (d : Thread nD τ) none Set.univ (m := sendM) (r := rowR c) (Finset.Subset.refl _)) $$ Hp; iintro Hp
  iapply (wp_load_rect 𝒱₀ (d : Thread nD τ) none Set.univ (m := sbM) (r := rowR c) (Finset.Subset.refl _)) $$ Hb; iintro Hb
  iapply (wp_store 𝒱₀ (d : Thread nD τ) none Set.univ (m := sbM) (r := rowR c) (Mk := Finset.univ) (S := (sbM.access (rowR c)).set) (Finset.Subset.refl _)) $$ Hb; iintro Hb
  ihave Hb := (Entails.of_eq (pts_written d (sbV c) fullShare f (sbC m d) _ (read_round m d c))) $$ Hb
  ihave HtP := (from_pull c (todoP d)) $$ HtP
  icases HtP with ⟨⟨HtS, HtQ, Hd⟩, HtP⟩
  iapply (send1 m K d (peer d) (sbV c) (p0V c) p0sS (p0rS c) (jS := dn8 c) (jR := 0) use_p0s (use_p0r c)
    (Finset.mem_filter.mpr ⟨Finset.mem_univ _, c.isLt⟩) (Finset.mem_singleton_self _) rfl rfl (sbC m d) (sbC m (peer (peer d)))
    (by show pts d (sbV (chunk (dn8 c))) fullShare (sbC m d) = _; rw [chunk_dn8]) rfl (read_p0 m d c) (amount_p0 _ _)
    (owed d (c.val + 1) 0 0) (owed_p d c 0 0)) $$ [HO HtS HtQ Hd Hb]
  · isplitr; · iexact HC
    isplitl [Hb]; · iexact Hb
    isplitl [Hd]; · iexact Hd
    isplitl [HO]; · iexact HO
    isplitl [HtS]; · iexact HtS
    iexact HtQ
  iintro ⟨Hc, HO⟩
  iapply (run_ret d PUnit.unit)
  isplitr [Hat Hp]
  · isplitl [HO]; · iexact HO
    isplitl [HtP HtR]
    · isplitl [HtP]; · iexact HtP
      iexact HtR
    isplitr [HcR]
    · iapply (upTo_push c (fun _ => Cr d (some p0sS) 2048))
      isplitl [Hc]; · iexact Hc
      iexact HcP
    iexact HcR
  isplitl [Hat]; · iexact Hat
  iexact Hp

/-! ## The sum -/

/-- Chunk `c` of slot `s`, as the box a load or store names. -/
theorem pts_box (d : Dev nD) (s : Fin 16) (c : Fin 8) (q : PosShare TreeShare) (f : Buf (Elt F) (agM.view.loc (d : Thread nD τ))) :
    (pts d (agV s c) q f : sProp (MM F)) = pts d (agM.slice (agR s c) (fun _ => rfl)) q f := by
  show (agM.view.loc (d : Thread nD τ) ↦[(agV s c).view.set]{q} f : sProp (MM F)) = (agM.view.loc (d : Thread nD τ) ↦[(agM.slice (agR s c) (fun _ => rfl)).view.set]{q} f)
  rw [agV_set]
  exact congrArg (fun S => (agM.view.loc (d : Thread nD τ) ↦[S]{q} f : sProp (MM F))) (View.set_slice_whole _ _).symm

abbrev addPre (d : Dev nD) (c : Fin 8) : sProp (MM F) :=
  iprop((Cr d (some (ldkS c)) 4096 ∗ At d (some (ldkS c))) ∗ (Cr d (some (p0rS c)) 2048 ∗ At d (some (p0rS c))) ∗ agAny d 0 c)
abbrev addPost (d : Dev nD) (c : Fin 8) : sProp (MM F) :=
  iprop((Done d (some (ldkS c)) ∗ pts d (keepV c) fullShare (keepC m d)) ∗ (Done d (some (p0rS c)) ∗ pts d (p0V c) fullShare (sbC m (peer d)))
    ∗ agP m d qO 0 c)

theorem cwFirst : ∀ c : Fin 8, cwSrc ⟨c.val, by omega⟩ = 0 ∧ cwC ⟨c.val, by omega⟩ = c := by decide +kernel
theorem ccwFirst : ∀ c : Fin 8, ccwSrc ⟨c.val, by omega⟩ = 0 ∧ ccwC ⟨c.val, by omega⟩ = c := by decide +kernel

theorem addStep_run (d : Dev nD) (c : Fin 8) :
    iprop(ctx m K ∗ St d 8 c.val c.val ∗ addPre d c) ⊢ run d (addStep d c) (fun _ => iprop(St d 8 (c.val + 1) (c.val + 1) ∗ addPost m d c)) := by
  have hc : c.val < 60 := by omega
  unfold addStep
  simp only [Prog.lift, Prog.bind_op, Prog.bind_ret]
  iintro ⟨#HC, HS, ⟨Hck, Hak⟩, ⟨Hcp, Hap⟩, ⟨%f, Hg⟩⟩
  unfold St
  icases HS with ⟨HO, HS⟩
  iapply (wait1 m K d (some (ldkS c)) (use_ldk c) rfl (wpE_waitDma2_eq 𝒱₀ (d : Thread nD τ) none Set.univ) (by rfl) (p := 8) (a := c.val) (b := c.val)
    (.inl (by show 0 < 5; decide)) (by show 0 < 10 + c.val; omega) (by show 0 < 10 + c.val; omega)) $$ [HO Hck Hak]
  · isplitr; · iexact HC
    isplitl [Hck]; · iexact Hck
    isplitl [HO]; · iexact HO
    iexact Hak
  iintro ⟨HO, Hak, Hk⟩
  iapply (wait1 m K d (some (p0rS c)) (use_p0r c) rfl (wpE_waitDma2_eq 𝒱₀ (d : Thread nD τ) none Set.univ) (by rfl) (p := 8) (a := c.val) (b := c.val)
    (.inr (by decide)) (by show 5 < 10 + c.val; omega) (by show 5 < 10 + c.val; omega)) $$ [HO Hcp Hap]
  · isplitr; · iexact HC
    isplitl [Hcp]; · iexact Hcp
    isplitl [HO]; · iexact HO
    iexact Hap
  iintro ⟨HO, Hap, Hp⟩
  ihave Hk := (Entails.of_eq (show pay m d (.ldk c) 0 = pts d (keepV c) fullShare (keepC m d) from rfl)) $$ Hk
  ihave Hp := (Entails.of_eq (show pay m d (.p0r c) 0 = pts d (p0V c) fullShare (sbC m (peer d)) from rfl)) $$ Hp
  ihave Hg := (Entails.of_eq (pts_box d 0 c fullShare f)) $$ Hg
  iapply (wp_load_rect 𝒱₀ (d : Thread nD τ) none Set.univ (m := keepM) (r := rowR c) (Finset.Subset.refl _)) $$ Hk; iintro Hk
  iapply (wp_load_rect 𝒱₀ (d : Thread nD τ) none Set.univ (m := p0M) (r := rowR c) (Finset.Subset.refl _)) $$ Hp; iintro Hp
  iapply (wp_load_rect 𝒱₀ (d : Thread nD τ) none Set.univ (m := agM) (r := agR 0 c) (Finset.Subset.refl _)) $$ Hg; iintro Hg
  iapply (wp_store 𝒱₀ (d : Thread nD τ) none Set.univ (m := agM) (r := agR 0 c) (Mk := Finset.univ) (S := (agM.access (agR 0 c)).set) (Finset.Subset.refl _)) $$ Hg; iintro Hg
  ihave Hg := (Entails.of_eq (pts_written d (agM.slice (agR 0 c) (fun _ => rfl)) fullShare f (agC m d) _ (read_add m d c))) $$ Hg
  ihave Hg := (Entails.of_eq (pts_box d 0 c fullShare (agC m d)).symm) $$ Hg
  ihave Hg := (pts_three d (agV 0 c) (agC m d)).1 $$ Hg
  icases Hg with ⟨HgR, HgL, HgO⟩
  iapply (Entails.of_eq (run_bind (F := F) d (cwSend d ⟨c.val, hc⟩) (fun _ => ccwSend d ⟨c.val, hc⟩) _).symm)
  iapply (wp_wand_r _ _ _ (Q := fun _ => St d 8 (c.val + 1) c.val))
  isplitl [HO HS HgR]
  · iapply (cwSend_step m K d 8 ⟨c.val, hc⟩ c.val)
    isplitr; · iexact HC
    isplitl [HO HS]
    · unfold St
      isplitl [HO]; · iexact HO
      iexact HS
    rw [(cwFirst c).1, (cwFirst c).2]
    iexact HgR
  iintro %_u HS
  iapply (wp_wand_r _ _ _ (Q := fun _ => St d 8 (c.val + 1) (c.val + 1)))
  isplitl [HS HgL]
  · iapply (ccwSend_step m K d 8 (c.val + 1) ⟨c.val, hc⟩)
    isplitr; · iexact HC
    isplitl [HS]; · iexact HS
    rw [(ccwFirst c).1, (ccwFirst c).2]
    iexact HgL
  iintro %_v HS
  isplitl [HS]; · unfold St; iexact HS
  isplitl [Hak Hk]
  · isplitl [Hak]; · iexact Hak
    iexact Hk
  isplitl [Hap Hp]
  · isplitl [Hap]; · iexact Hap
    iexact Hp
  iexact HgO

end Cert.Ring

end
-- ==== Proof.RingStep.lean ====
module

public import proofs.«01_k».proof.Proof.Exchange

/-! One step of the two rings: a chunk is waited for on either side, and sent on except past the middle. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × SemIx → ℕ)

/-- How many chunks have been sent either way when step `i` begins. -/
def cwN (i : ℕ) : ℕ := if i < 52 then i + 8 else 60
def ccwN (i : ℕ) : ℕ := if i < 48 then i + 8 else if i < 52 then 56 else i + 4

/-- What a received chunk leaves once it has been sent on, or not. -/
abbrev gotCw (d : Dev nD) (e : Fin 60) : sProp (MM F) :=
  iprop(Done d (some (cwrS e)) ∗ agP m d qL (cwDst e) (cwC e) ∗ agP m d qO (cwDst e) (cwC e)
    ∗ if e.val < 52 then iprop(emp) else agP m d qR (cwDst e) (cwC e))
abbrev gotCcw (d : Dev nD) (e : Fin 60) : sProp (MM F) :=
  iprop(Done d (some (ccwrS e)) ∗ agP m d qR (ccwDst e) (ccwC e) ∗ agP m d qO (ccwDst e) (ccwC e)
    ∗ if e.val < 48 ∨ 52 ≤ e.val ∧ e.val < 56 then iprop(emp) else agP m d qL (ccwDst e) (ccwC e))

theorem cwNext : ∀ i : Fin 52, cwSrc ⟨i.val + 8, by omega⟩ = cwDst ⟨i.val, by omega⟩ ∧ cwC ⟨i.val + 8, by omega⟩ = cwC ⟨i.val, by omega⟩ := by
  decide +kernel
theorem ccwNext : ∀ i : Fin 48, ccwSrc ⟨i.val + 8, by omega⟩ = ccwDst ⟨i.val, by omega⟩ ∧ ccwC ⟨i.val + 8, by omega⟩ = ccwC ⟨i.val, by omega⟩ := by
  decide +kernel
theorem ccwNext' : ∀ i : Fin 4, ccwSrc ⟨i.val + 56, by omega⟩ = ccwDst ⟨i.val + 52, by omega⟩ ∧ ccwC ⟨i.val + 56, by omega⟩ = ccwC ⟨i.val + 52, by omega⟩ := by
  decide +kernel

/-- The clockwise half of a step. -/
theorem cwHalf (d : Dev nD) (i : Fin 56) (b : ℕ) (hb : i.val < b) :
    iprop(ctx m K ∗ St d 8 (cwN i.val) b ∗ waitCw d ⟨i.val, by omega⟩)
      ⊢ run d (cwWait ⟨i.val, by omega⟩ >>= fun _ => if h : i.val < 52 then cwSend d ⟨i.val + 8, by omega⟩ else pure ⟨⟩)
        (fun _ => iprop(St d 8 (cwN (i.val + 1)) b ∗ gotCw m d ⟨i.val, by omega⟩)) := by
  have hi : i.val < 60 := by omega
  rw [run_bind]
  iintro ⟨#HC, HS, Hw⟩
  iapply (wp_wand_r _ _ _ (Q := fun _ => iprop(St d 8 (cwN i.val) b ∗ Done d (some (cwrS ⟨i.val, hi⟩)) ∗ agP m d fullShare (cwDst ⟨i.val, hi⟩) (cwC ⟨i.val, hi⟩))))
  isplitl [HS Hw]
  · iapply (cwWait_step m K d 8 (cwN i.val) b ⟨i.val, hi⟩ (le_refl _) (by show i.val < cwN i.val; unfold cwN; split <;> omega) hb)
    isplitr; · iexact HC
    isplitl [HS]; · iexact HS
    iexact Hw
  iintro %_u ⟨HS, Hat, Hg⟩
  ihave Hg := (pts_three d (agV (cwDst ⟨i.val, hi⟩) (cwC ⟨i.val, hi⟩)) (agC m d)).1 $$ Hg
  icases Hg with ⟨HgR, HgL, HgO⟩
  by_cases h : i.val < 52
  · have hn : i.val + 8 < 60 := by omega
    rw [dif_pos h, show cwN i.val = (⟨i.val + 8, hn⟩ : Fin 60).val from by show cwN i.val = i.val + 8; unfold cwN; rw [if_pos h]]
    rw [show cwN (i.val + 1) = i.val + 8 + 1 from by unfold cwN; split <;> omega]
    iapply (wp_wand_r _ _ _ (Q := fun _ => St d 8 (i.val + 8 + 1) b))
    isplitl [HS HgR]
    · iapply (cwSend_step m K d 8 ⟨i.val + 8, hn⟩ b)
      isplitr; · iexact HC
      isplitl [HS]; · iexact HS
      rw [(cwNext ⟨i.val, h⟩).1, (cwNext ⟨i.val, h⟩).2]
      iexact HgR
    iintro %_v HS
    isplitl [HS]; · iexact HS
    isplitl [Hat]; · iexact Hat
    isplitl [HgL]; · iexact HgL
    isplitl [HgO]; · iexact HgO
    rw [if_pos h]
    iempintro
  · rw [dif_neg h, show cwN (i.val + 1) = cwN i.val from by unfold cwN; rw [if_neg h, if_neg (by omega)]]
    iapply (run_ret d PUnit.unit)
    isplitl [HS]; · iexact HS
    isplitl [Hat]; · iexact Hat
    isplitl [HgL]; · iexact HgL
    isplitl [HgO]; · iexact HgO
    rw [if_neg h]
    iexact HgR

/-- The other half. -/
theorem ccwHalf (d : Dev nD) (i : Fin 56) (a : ℕ) (ha : i.val < a) :
    iprop(ctx m K ∗ St d 8 a (ccwN i.val) ∗ waitCcw d ⟨i.val, by omega⟩)
      ⊢ run d (ccwWait ⟨i.val, by omega⟩ >>= fun _ => if h : i.val < 48 then ccwSend d ⟨i.val + 8, by omega⟩
          else if h' : 52 ≤ i.val then ccwSend d ⟨i.val + 4, by omega⟩ else pure ⟨⟩)
        (fun _ => iprop(St d 8 a (ccwN (i.val + 1)) ∗ gotCcw m d ⟨i.val, by omega⟩)) := by
  have hi : i.val < 60 := by omega
  have h56 : i.val < 56 := i.isLt
  rw [run_bind]
  iintro ⟨#HC, HS, Hw⟩
  iapply (wp_wand_r _ _ _ (Q := fun _ => iprop(St d 8 a (ccwN i.val) ∗ Done d (some (ccwrS ⟨i.val, hi⟩)) ∗ agP m d fullShare (ccwDst ⟨i.val, hi⟩) (ccwC ⟨i.val, hi⟩))))
  isplitl [HS Hw]
  · iapply (ccwWait_step m K d 8 a (ccwN i.val) ⟨i.val, hi⟩ (le_refl _) ha (by show i.val < ccwN i.val; unfold ccwN; split <;> (try split) <;> omega))
    isplitr; · iexact HC
    isplitl [HS]; · iexact HS
    iexact Hw
  iintro %_u ⟨HS, Hat, Hg⟩
  ihave Hg := (pts_three d (agV (ccwDst ⟨i.val, hi⟩) (ccwC ⟨i.val, hi⟩)) (agC m d)).1 $$ Hg
  icases Hg with ⟨HgR, HgL, HgO⟩
  by_cases h : i.val < 48
  · have hn : i.val + 8 < 60 := by omega
    rw [dif_pos h, show ccwN i.val = (⟨i.val + 8, hn⟩ : Fin 60).val from by show ccwN i.val = i.val + 8; unfold ccwN; rw [if_pos h]]
    rw [show ccwN (i.val + 1) = i.val + 8 + 1 from by unfold ccwN; split <;> (try split) <;> omega]
    iapply (wp_wand_r _ _ _ (Q := fun _ => St d 8 a (i.val + 8 + 1)))
    isplitl [HS HgL]
    · iapply (ccwSend_step m K d 8 a ⟨i.val + 8, hn⟩)
      isplitr; · iexact HC
      isplitl [HS]; · iexact HS
      rw [(ccwNext ⟨i.val, h⟩).1, (ccwNext ⟨i.val, h⟩).2]
      iexact HgL
    iintro %_v HS
    isplitl [HS]; · iexact HS
    isplitl [Hat]; · iexact Hat
    isplitl [HgR]; · iexact HgR
    isplitl [HgO]; · iexact HgO
    rw [if_pos (.inl h)]
    iempintro
  · rw [dif_neg h]
    by_cases h' : 52 ≤ i.val
    · have hn : i.val + 4 < 60 := by omega
      have hk : i.val - 52 < 4 := by omega
      have hx := ccwNext' ⟨i.val - 52, hk⟩
      simp only [show i.val - 52 + 56 = i.val + 4 from by omega, show i.val - 52 + 52 = i.val from by omega] at hx
      rw [dif_pos h', show ccwN i.val = (⟨i.val + 4, hn⟩ : Fin 60).val from by show ccwN i.val = i.val + 4; unfold ccwN; rw [if_neg h, if_neg (by omega)]]
      rw [show ccwN (i.val + 1) = i.val + 4 + 1 from by unfold ccwN; split <;> (try split) <;> omega]
      iapply (wp_wand_r _ _ _ (Q := fun _ => St d 8 a (i.val + 4 + 1)))
      isplitl [HS HgL]
      · iapply (ccwSend_step m K d 8 a ⟨i.val + 4, hn⟩)
        isplitr; · iexact HC
        isplitl [HS]; · iexact HS
        rw [hx.1, hx.2]
        iexact HgL
      iintro %_v HS
      isplitl [HS]; · iexact HS
      isplitl [Hat]; · iexact Hat
      isplitl [HgR]; · iexact HgR
      isplitl [HgO]; · iexact HgO
      rw [if_pos (.inr ⟨h', h56⟩)]
      iempintro
    · rw [dif_neg h', show ccwN (i.val + 1) = ccwN i.val from by unfold ccwN; (repeat' split) <;> omega]
      iapply (run_ret d PUnit.unit)
      isplitl [HS]; · iexact HS
      isplitl [Hat]; · iexact Hat
      isplitl [HgR]; · iexact HgR
      isplitl [HgO]; · iexact HgO
      rw [if_neg (by show ¬(i.val < 48 ∨ 52 ≤ i.val ∧ i.val < 56); omega)]
      iexact HgL

theorem ringStep_eq (d : Dev nD) (i : Fin 56) :
    (ringStep d i : KProg F PUnit)
      = (cwWait ⟨i.val, by omega⟩ >>= fun _ => if h : i.val < 52 then cwSend d ⟨i.val + 8, by omega⟩ else pure ⟨⟩) >>= fun _ =>
        (ccwWait ⟨i.val, by omega⟩ >>= fun _ => if h : i.val < 48 then ccwSend d ⟨i.val + 8, by omega⟩
          else if h' : 52 ≤ i.val then ccwSend d ⟨i.val + 4, by omega⟩ else pure ⟨⟩) := by
  unfold ringStep
  by_cases h : i.val < 52
  · simp only [dif_pos h, bind_assoc]
  · simp only [dif_neg h, bind_assoc, pure_bind]

theorem ringStep_run (d : Dev nD) (i : Fin 56) :
    iprop(ctx m K ∗ St d 8 (cwN i.val) (ccwN i.val) ∗ (waitCw d ⟨i.val, by omega⟩ ∗ waitCcw d ⟨i.val, by omega⟩))
      ⊢ run d (ringStep d i) (fun _ => iprop(St d 8 (cwN (i.val + 1)) (ccwN (i.val + 1)) ∗ (gotCw m d ⟨i.val, by omega⟩ ∗ gotCcw m d ⟨i.val, by omega⟩))) := by
  have hi : i.val < 60 := by omega
  have h56 : i.val < 56 := i.isLt
  rw [ringStep_eq, run_bind]
  iintro ⟨#HC, HS, Hw1, Hw2⟩
  iapply (wp_wand_r _ _ _ (Q := fun _ => iprop(St d 8 (cwN (i.val + 1)) (ccwN i.val) ∗ gotCw m d ⟨i.val, hi⟩)))
  isplitl [HS Hw1]
  · iapply (cwHalf m K d i (ccwN i.val) (by unfold ccwN; split <;> (try split) <;> omega))
    isplitr; · iexact HC
    isplitl [HS]; · iexact HS
    iexact Hw1
  iintro %_u ⟨HS, H1⟩
  iapply (wp_wand_r _ _ _ (Q := fun _ => iprop(St d 8 (cwN (i.val + 1)) (ccwN (i.val + 1)) ∗ gotCcw m d ⟨i.val, hi⟩)))
  isplitl [HS Hw2]
  · iapply (ccwHalf m K d i (cwN (i.val + 1)) (by unfold cwN; split <;> omega))
    isplitr; · iexact HC
    isplitl [HS]; · iexact HS
    iexact Hw2
  iintro %_v ⟨HS, H2⟩
  isplitl [HS]; · iexact HS
  isplitl [H1]; · iexact H1
  iexact H2

end Cert.Ring

end
-- ==== Proof.Loads.lean ====
module

public import proofs.«01_k».proof.Proof.RingStep

/-! The loads: eight chunks of the kept half and eight of the half for the peer, each by a copy with its own semaphore. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ) (K : Dev nD × SemIx → ℕ)

/-! ## The loads as one family -/

/-- A load into the kept half, wherever it reads and writes. -/
def ldKeep (o : Fin 3 → ℕ) (h : ∀ a, o a + S1x32x1024.size a ≤ S1x4096x2048.size a) (o' : Fin 2 → ℕ) (h' : ∀ a, o' a + S32x1024.size a ≤ S256x1024.size a)
    (o'' : Fin 1 → ℕ) (h'' : ∀ a, o'' a + S1.size a ≤ S8.size a) : KProg F PUnit :=
  Prog.lift (.enqueueDma
    ((xM.slice (Rect.unit (s := S1x4096x2048) o S1x32x1024.size h) (fun _ => rfl)).squeeze S32x1024 squeezes_S1x32x1024_S32x1024)
    (.here (keepM.slice (Rect.unit (s := S256x1024) o' S32x1024.size h') (fun _ => rfl)))
    (.dma ((cc0_scratch7.slice (Rect.unit (s := S8) o'' S1.size h'')).squeeze S_ squeezes_S1_S_).sem)
    ((View.wordExact_bits rfl).reshape _ _) (View.wordExact_bits rfl) ⟨Or.inl rfl, trivial⟩)
/-- A load into the half for the peer. -/
def ldSend (o : Fin 3 → ℕ) (h : ∀ a, o a + S1x32x1024.size a ≤ S1x4096x2048.size a) (o' : Fin 2 → ℕ) (h' : ∀ a, o' a + S32x1024.size a ≤ S256x1024.size a)
    (o'' : Fin 1 → ℕ) (h'' : ∀ a, o'' a + S1.size a ≤ S8.size a) : KProg F PUnit :=
  Prog.lift (.enqueueDma
    ((xM.slice (Rect.unit (s := S1x4096x2048) o S1x32x1024.size h) (fun _ => rfl)).squeeze S32x1024 squeezes_S1x32x1024_S32x1024)
    (.here (sendM.slice (Rect.unit (s := S256x1024) o' S32x1024.size h') (fun _ => rfl)))
    (.dma ((cc0_scratch8.slice (Rect.unit (s := S8) o'' S1.size h'')).squeeze S_ squeezes_S1_S_).sem)
    ((View.wordExact_bits rfl).reshape _ _) (View.wordExact_bits rfl) ⟨Or.inl rfl, trivial⟩)

theorem ldKeep_congr {o p : Fin 3 → ℕ} {o' p' : Fin 2 → ℕ} {o'' p'' : Fin 1 → ℕ} (e : o = p) (e' : o' = p') (e'' : o'' = p'') {h h' h'' g g' g''} :
    (ldKeep o h o' h' o'' h'' : KProg F PUnit) = ldKeep p g p' g' p'' g'' := by
  subst e e' e''; rfl
theorem ldSend_congr {o p : Fin 3 → ℕ} {o' p' : Fin 2 → ℕ} {o'' p'' : Fin 1 → ℕ} (e : o = p) (e' : o' = p') (e'' : o'' = p'') {h h' h'' g g' g''} :
    (ldSend o h o' h' o'' h'' : KProg F PUnit) = ldSend p g p' g' p'' g'' := by
  subst e e' e''; rfl

/-- The two loads of chunk `c`. -/
def loadStep (d : Dev nD) (c : Fin 8) : KProg F PUnit :=
  ldKeep ![0, 32 * (chunkOf d c).val, 1024 * (xx d).val] (xInb (chunkOf d c) (xx d)) ![32 * c.val, 0] (rowInb c) ![c.val] (inb8 c) >>= fun _ =>
  ldSend ![0, 32 * (chunkOf d c).val, 1024 * (xOther d).val] (xInb (chunkOf d c) (xOther d)) ![32 * c.val, 0] (rowInb c) ![c.val] (inb8 c)

theorem trips1 : k0_t1_loop.trips = 8 := by decide +kernel
theorem trips2 : k0_t2_loop.trips = 8 := by decide +kernel

theorem off1_eq : ∀ t : Fin k0_t1_loop.trips, k0_off1 t = ![t.val] ∧ k0_off2 t = ![32 * t.val, 0] := by decide +kernel
theorem off5_eq : ∀ t : Fin k0_t2_loop.trips, k0_off5 t = ![t.val] ∧ k0_off6 t = ![32 * t.val, 0] := by decide +kernel
theorem off3_eq : ∀ d : Dev nD, k0_cond1 d = 1#1 → ∀ t : Fin k0_t1_loop.trips,
    k0_off3 d t = ![0, 32 * (chunkOf d (t.cast trips1)).val, 1024 * (xx d).val]
      ∧ k0_off4 d t = ![0, 32 * (chunkOf d (t.cast trips1)).val, 1024 * (xOther d).val] := by decide +kernel
theorem off7_eq : ∀ d : Dev nD, k0_cond2 d = 1#1 → ∀ t : Fin k0_t2_loop.trips,
    k0_off7 d t = ![0, 32 * (chunkOf d (t.cast trips2)).val, 1024 * (xx d).val]
      ∧ k0_off8 d t = ![0, 32 * (chunkOf d (t.cast trips2)).val, 1024 * (xOther d).val] := by decide +kernel
theorem cond_cases : ∀ d : Dev nD, k0_cond1 d = 1#1 ∧ ¬k0_cond2 d = 1#1 ∨ ¬k0_cond1 d = 1#1 ∧ k0_cond2 d = 1#1 := by decide +kernel

theorem load1_eq (d : Dev nD) (h : k0_cond1 d = 1#1) (t : Fin k0_t1_loop.trips) :
    (load1 d h t : KProg F PUnit) = loadStep d (t.cast trips1) := by
  show (ldKeep _ _ _ _ _ _ >>= fun _ => ldSend _ _ _ _ _ _ : KProg F PUnit) = _
  unfold loadStep
  exact congrArg₂ (fun a b => (a >>= fun _ => b : KProg F PUnit)) (ldKeep_congr (off3_eq d h t).1 (off1_eq t).2 (off1_eq t).1)
    (ldSend_congr (off3_eq d h t).2 (off1_eq t).2 (off1_eq t).1)
theorem load2_eq (d : Dev nD) (h : k0_cond2 d = 1#1) (t : Fin k0_t2_loop.trips) :
    (load2 d h t : KProg F PUnit) = loadStep d (t.cast trips2) := by
  show (ldKeep _ _ _ _ _ _ >>= fun _ => ldSend _ _ _ _ _ _ : KProg F PUnit) = _
  unfold loadStep
  exact congrArg₂ (fun a b => (a >>= fun _ => b : KProg F PUnit)) (ldKeep_congr (off7_eq d h t).1 (off5_eq t).2 (off5_eq t).1)
    (ldSend_congr (off7_eq d h t).2 (off5_eq t).2 (off5_eq t).1)

theorem seqFin_cast {n n' : ℕ} (e : n = n') (f : Fin n' → KProg F PUnit) : seqFin n (fun i => f (i.cast e)) = seqFin n' f := by
  subst e; rfl

/-- Whichever half is kept, the loads are the same family. -/
theorem loads_eq (d : Dev nD) {α : Type} (k : KProg F α) :
    ((loads1 d >>= fun _ => loads2 d >>= fun _ => k) : KProg F α) = seqFin 8 (loadStep d) >>= fun _ => k := by
  have e1 : ∀ h : k0_cond1 d = 1#1, (Scf.Loop.for k0_t1_loop (k0_t1_ok d h) PUnit.unit fun t _ => load1 d h t : KProg F PUnit) = seqFin 8 (loadStep d) := fun h => by
    rw [for_eq_seqFin, ← seqFin_cast trips1]
    exact congrArg _ (funext fun t => load1_eq d h t)
  have e2 : ∀ h : k0_cond2 d = 1#1, (Scf.Loop.for k0_t2_loop (k0_t2_ok d h) PUnit.unit fun t _ => load2 d h t : KProg F PUnit) = seqFin 8 (loadStep d) := fun h => by
    rw [for_eq_seqFin, ← seqFin_cast trips2]
    exact congrArg _ (funext fun t => load2_eq d h t)
  unfold loads1 loads2
  rcases cond_cases d with ⟨h1, h2⟩ | ⟨h1, h2⟩
  · rw [dif_pos h1, dif_neg h2, e1 h1]
    simp only [bind_assoc, pure_bind]
  · rw [dif_neg h1, dif_pos h2, e2 h2]
    simp only [bind_assoc, pure_bind]

/-! ## One pair of loads -/

theorem amount_keep (c : Fin 8) (q : DmaSem sig) : (keepV c).view.amount (.dma q) = 4096 := by rfl
theorem amount_send (c : Fin 8) (q : DmaSem sig) : (sendV c).view.amount (.dma q) = 4096 := by rfl

/-- Some share of the input. -/
def xHold (d : Dev nD) : sProp (MM F) := iprop(∃ q, pts d xM q (xC m d))

/-- From a share of the input, a share of what one load reads and a share of the input. -/
theorem xHold_split (d : Dev nD) (r : Fin 128) (h : Fin 2) : xHold m d ⊢ iprop((∃ q, pts d (xV r h) q (xC m d)) ∗ xHold m d) := by
  unfold xHold
  iintro ⟨%q, H⟩
  ihave H := (pointsTo_share (PosShare.mem_left_op_right q)).1 $$ H
  icases H with ⟨H1, H2⟩
  isplitl [H1]
  · iexists q.left
    ihave H1 := (pointsTo_split_subset (I := (xV r h).view.set) (by exact View.set_whole _ ▸ Finset.subset_univ _)).1 $$ H1
    icases H1 with ⟨H1, -⟩
    iexact H1
  · iexists q.right
    iexact H2

abbrev loadPre (d : Dev nD) (c : Fin 8) : sProp (MM F) :=
  iprop(((∃ f, pts d (keepV c) fullShare f) ∗ Tok d (some (ldkS c)) 0) ∗ ((∃ f, pts d (sendV c) fullShare f) ∗ Tok d (some (ldsS c)) 0))
abbrev loadPost (d : Dev nD) (c : Fin 8) : sProp (MM F) := iprop(Cr d (some (ldkS c)) 4096 ∗ Cr d (some (ldsS c)) 4096)

theorem first_of (A B : sProp (MM F)) : iprop(A ∗ B) ⊢ A := by
  iintro ⟨H, -⟩; iexact H

theorem loadStep_run (d : Dev nD) (c : Fin 8) :
    iprop(ctx m K ∗ xHold m d ∗ loadPre d c) ⊢ run d (loadStep d c) (fun _ => iprop(xHold m d ∗ loadPost d c)) := by
  unfold loadStep ldKeep ldSend
  simp only [Prog.lift, Prog.bind_op, Prog.bind_ret]
  iintro ⟨#HC, HX, ⟨Hk, Htk⟩, ⟨Hs, Hts⟩⟩
  ihave HX := (xHold_split m d (chunkOf d c) (xx d)) $$ HX
  icases HX with ⟨⟨%q1, H1⟩, HX⟩
  ihave HX := (xHold_split m d (chunkOf d c) (xOther d)) $$ HX
  icases HX with ⟨⟨%q2, H2⟩, HX⟩
  iapply (copy1 m K d (xV (chunkOf d c) (xx d)) (keepV c) (ldkS c) (u := .ldk c) (j := 0) (use_ldk c) (Finset.mem_singleton_self _) (N := 4096) rfl
    (q := q1) (xC m d) (keepC m d) (first_of _ _) (read_keep m d c) (amount_keep _ _)) $$ [H1 Hk Htk]
  · isplitr; · iexact HC
    isplitl [H1]; · iexact H1
    isplitl [Hk]; · iexact Hk
    iexact Htk
  iintro Hck
  iapply (copy1 m K d (xV (chunkOf d c) (xOther d)) (sendV c) (ldsS c) (u := .lds c) (j := 0) (use_lds c) (Finset.mem_singleton_self _) (N := 4096) rfl
    (q := q2) (xC m d) (sendC m d) (first_of _ _) (read_send m d c) (amount_send _ _)) $$ [H2 Hs Hts]
  · isplitr; · iexact HC
    isplitl [H2]; · iexact H2
    isplitl [Hs]; · iexact Hs
    iexact Hts
  iintro Hcs
  iapply (run_ret d PUnit.unit)
  isplitl [HX]; · iexact HX
  isplitl [Hck]; · iexact Hck
  iexact Hcs

end Cert.Ring

end
-- ==== Proof.Outs.lean ====
module

public import proofs.«01_k».proof.Proof.Loads

/-! The copies of finished slots to the result, and the waits for everything a semaphore still counts. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ) (K : Dev nD × SemIx → ℕ)

/-! ## The copies out as one family -/

/-- A copy from a slot to a block, wherever they are. -/
def outCp (o : Fin 3 → ℕ) (h : ∀ a, o a + S1x256x1024.size a ≤ S16x256x1024.size a) (o' : Fin 2 → ℕ) (h' : ∀ a, o' a + S256x1024.size a ≤ S4096x1024.size a)
    (hw : ((agM.slice (Rect.unit (s := S16x256x1024) o S1x256x1024.size h) (fun _ => rfl)).squeeze S256x1024 squeezes_S1x256x1024_S256x1024).view.WordExact)
    (hw' : (outM.slice (Rect.unit (s := S4096x1024) o' S256x1024.size h') (fun _ => rfl)).view.WordExact) : KProg F PUnit :=
  Prog.lift (.enqueueDma
    ((agM.slice (Rect.unit (s := S16x256x1024) o S1x256x1024.size h) (fun _ => rfl)).squeeze S256x1024 squeezes_S1x256x1024_S256x1024)
    (.here (outM.slice (Rect.unit (s := S4096x1024) o' S256x1024.size h') (fun _ => rfl)))
    (.dma osemS) hw hw' ⟨Or.inl rfl, trivial⟩)

theorem outCp_congr {o p : Fin 3 → ℕ} {o' p' : Fin 2 → ℕ} (e : o = p) (e' : o' = p') {h h' g g' hw hw' gw gw'} :
    (outCp o h o' h' hw hw' : KProg F PUnit) = outCp p g p' g' gw gw' := by
  subst e e'; rfl

theorem slotWords : ∀ s : Fin 16, (Rect.unit (s := S16x256x1024) ![s.val, 0, 0] S1x256x1024.size (ag16Inb s)).WholeWords (EltTy.packing .bf16) := by
  decide +kernel
theorem outWords : ∀ j : Fin 16, (Rect.unit (s := S4096x1024) ![256 * j.val, 0] S256x1024.size (outInb j)).WholeWords (EltTy.packing .bf16) := by
  decide +kernel

/-- The copy of slot `s`. -/
def slotCp (d : Dev nD) (s : Fin 16) : KProg F PUnit :=
  outCp ![s.val, 0, 0] (ag16Inb s) ![256 * (pos d - s).val, 0] (outInb (pos d - s))
    (((Memref.isWhole_whole cc0_scratch0).wordExact_slice rfl _ (slotWords s)).reshape _ _)
    ((Memref.isWhole_whole main_v1).wordExact_slice rfl _ (outWords (pos d - s)))

theorem trips3 : k0_t3_loop.trips = 15 := by decide +kernel
theorem trips4 : k0_t4_loop.trips = 16 := by decide +kernel

/-- The slots other than the middle one. -/
def slot15 (t : Fin 15) : Fin 16 := ⟨if t.val < 8 then t.val else t.val + 1, by split <;> omega⟩

theorem off9_eq : ∀ (d : Dev nD) (t : Fin k0_t3_loop.trips), k0_off9 d t = ![256 * (pos d - slot15 (t.cast trips3)).val, 0] := by decide +kernel
theorem off10_eq : ∀ t : Fin k0_t3_loop.trips, k0_off10 t = ![(slot15 (t.cast trips3)).val, 0, 0] := by decide +kernel
theorem off11_eq : ∀ d : Dev nD, k0_off11 d = ![256 * (pos d - 8).val, 0] := by decide +kernel

theorem outStep_eq (d : Dev nD) (t : Fin k0_t3_loop.trips) : (outStep d t : KProg F PUnit) = slotCp d (slot15 (t.cast trips3)) :=
  outCp_congr (off10_eq t) (off9_eq d t)
theorem outMid_eq (d : Dev nD) : (outMid d : KProg F PUnit) = slotCp d 8 := outCp_congr rfl (off11_eq d)

theorem outs_eq (d : Dev nD) :
    (Scf.Loop.for k0_t3_loop k0_t3_ok PUnit.unit fun t _ => outStep d t : KProg F PUnit) = seqFin 15 fun t => slotCp d (slot15 t) := by
  rw [for_eq_seqFin, ← seqFin_cast trips3]
  exact congrArg _ (funext fun t => outStep_eq d t)
theorem outWaits_eq (d : Dev nD) :
    (Scf.Loop.for k0_t4_loop k0_t4_ok PUnit.unit fun t _ => outWait d t : KProg F PUnit) = seqFin 16 fun t => outWait d (t.cast trips4.symm) := by
  rw [for_eq_seqFin, ← seqFin_cast trips4]
  exact congrArg _ (funext fun t => rfl)

theorem amount_out (j : Fin 16) (q : DmaSem sig) : (outV j).view.amount (.dma q) = 16384 := by rfl

abbrev outPre (d : Dev nD) (s : Fin 16) : sProp (MM F) :=
  iprop(pts d (slotV s) qO (agC m d) ∗ (∃ f, pts d (outV (pos d - s)) fullShare f) ∗ Tok d (some osemS) (dn16 s))

theorem slotCp_run (d : Dev nD) (s : Fin 16) :
    iprop(ctx m K ∗ outPre m d s) ⊢ run d (slotCp d s) (fun _ => Cr d (some osemS) 16384) := by
  unfold slotCp outCp
  simp only [Prog.lift]
  iintro ⟨#HC, Hs, Ho, Ht⟩
  iapply (copy1 m K d (slotV s) (outV (pos d - s)) osemS (u := .osem) (j := dn16 s) use_osem
    (Finset.mem_filter.mpr ⟨Finset.mem_univ _, s.isLt⟩) (N := 16384) rfl (q := qO) (agC m d) (outC m d)
    (Entails.of_eq (by
      show _ = iprop(pts d (outV (pos d - slot (dn16 s))) fullShare (outC m d) ∗ pts d (slotV (slot (dn16 s))) qO (agC m d))
      rw [slot_dn16])) (read_out m d s) (amount_out _ _)) $$ [Hs Ho Ht]
  · isplitr; · iexact HC
    isplitl [Hs]; · iexact Hs
    isplitl [Ho]; · iexact Ho
    iexact Ht
  iintro Hc
  iapply (run_ret d PUnit.unit)
  iexact Hc

/-! ## Draining a semaphore -/

/-- What a semaphore has handed over once `j` of its `n` transfers, of `N` units each, have been waited for. -/
def Dr (d : Dev nD) (q : SemIx) (u : Use) (n N j : ℕ) : sProp (MM F) :=
  if j < n then iprop(∃ S : Finset Duty, ⌜S ⊆ dutiesOf u⌝ ∗ atPos ER (cell d (semOf q)) 0 S (j * N) ∗ bigSep S (pay m d u))
  else iprop(Done d q ∗ bigSep (dutiesOf u) (pay m d u))

theorem Dr_start (d : Dev nD) (q : SemIx) (u : Use) (n N : ℕ) (hn : 0 < n) : At d q ⊢ Dr m d q u n N 0 := by
  unfold Dr
  rw [if_pos hn, Nat.zero_mul]
  iintro H
  iexists ∅
  isplitr; · ipureintro; exact Finset.empty_subset _
  isplitl [H]; · iexact H
  rw [bigSep_empty]
  iempintro

theorem Dr_end (d : Dev nD) (q : SemIx) (u : Use) (n N : ℕ) : Dr m d q u n N n ⊢ iprop(Done d q ∗ bigSep (dutiesOf u) (pay m d u)) := by
  unfold Dr
  rw [if_neg (lt_irrefl n)]

/-- What was handed over before and what is handed over now. -/
theorem pay_join (d : Dev nD) (sm : SemLoc sig) {S S' : Finset Duty} (h : S ⊆ S') :
    iprop((bigSep S (pay m d (use sm))) ∗ bigSep (S' \ S) fun i => (Rd m).payload (cell d sm) 0 i) ⊢ bigSep S' (pay m d (use sm)) := by
  rw [show (fun i => (Rd (F := F) m).payload (cell d sm) 0 i) = pay m d (use sm) from funext fun i => payload_eq m d sm rfl i]
  exact Entails.of_eq (bigSep_sdiff_split (Φ := pay m d (use sm)) h).symm

theorem drain1 (d : Dev nD) (q : SemIx) {u : Use} (hu : use (semOf q) = u) {n N j : ℕ} (hn : (dutiesOf u).card = n) (hN : amountOf u = N) (hj : j < n)
    {w : TpuEff nD τ sig (Elt F) Λ₀ .tc PUnit} {k' : ℕ}
    (hw : ∀ Kt : PUnit → sProp (MM F), wpE (defs₀ (F := F)) 𝒱₀ (d : Thread nD τ) none Set.univ w Kt = waitSpec (d : Thread nD τ) Set.univ (semOf q) k' Kt)
    (hk : k' = N) {α : Type} (k : PUnit → KProg F α) (Q : α → sProp (MM F)) :
    iprop(ctx m K ∗ Cr d q N ∗ Ow d 0 ∗ Dr m d q u n N j)
      ⊢ iprop(((Ow d 0 ∗ Dr m d q u n N (j + 1)) -∗ run d (k ⟨⟩) Q) -∗ run d (.op w k) Q) := by
  subst hu hk
  have he : (Rd (F := F) m).expect (cell d (semOf q)) 0 = n * k' := by rw [expect_eq m d (semOf q) rfl, hn, hN]
  have hd : (Rd (F := F) m).duties (cell d (semOf q)) 0 = dutiesOf (use (semOf q)) := duties_eq m d (semOf q) rfl
  unfold Dr
  rw [if_pos hj]
  iintro ⟨#HC, Hc, ⟨%W, HO⟩, ⟨%S, %hS, Hat, HS⟩⟩ Hk
  by_cases hl : j + 1 < n
  · rw [if_pos hl]
    iapply (Rounds.wp_wait 𝒱₀ ER (Rd m) (d : Thread nD τ) none (sm := semOf q) (w := w) (k' := k') (κ := K (d, q)) hw (Set.mem_univ _)
      (cr := Finsupp.single () k') (O := 0) (W := W) {(semOf q, ())} (R := 0) (m := j * k') (T := S) (Util.total_single _ _)
      (image_single_subset (semOf q) () k')) $$ [Hc HO Hat]
    · isplitr; · iapply (ctx_inv m K d q); iexact HC
      isplitl [Hc]; · iexact Hc
      isplitl [HO]; · iexact HO
      isplitr
      · iapply (Entails.of_eq (MayWait_zero (d : Thread nD τ) (semOf q) ()).symm)
        iempintro
      iexact Hat
    iintro %S' ⟨%h, HO, Hat, Hp⟩
    iapply Hk
    isplitl [HO]; · iexists _; iexact HO
    iexists S'
    isplitr; · ipureintro; exact hd ▸ h.2.1
    isplitl [Hat]
    · rw [show (j + 1) * k' = j * k' + k' from Nat.succ_mul _ _]
      iexact Hat
    iapply (pay_join m d (semOf q) h.1)
    isplitl [HS]; · iexact HS
    iexact Hp
  · have hjn : j + 1 = n := by omega
    rw [if_neg hl]
    iapply (Rounds.wp_wait_rest_token 𝒱₀ ER (Rd m) (d : Thread nD τ) none (sm := semOf q) (w := w) (k' := k') (κ := K (d, q)) hw (Set.mem_univ _) ()
      (O := 0) (W := W) (R := 0) (m := j * k') (T := S) (by rw [he, ← hjn, Nat.succ_mul])) $$ [Hc HO Hat]
    · isplitr; · iapply (ctx_inv m K d q); iexact HC
      isplitl [Hc]; · iexact Hc
      isplitl [HO]; · iexact HO
      isplitr
      · iapply (Entails.of_eq (MayWait_zero (d : Thread nD τ) (semOf q) ()).symm)
        iempintro
      iexact Hat
    iintro ⟨HO, Hat, -, Hp⟩
    iapply Hk
    isplitl [HO]; · iexists _; iexact HO
    isplitl [Hat]; · iexact Hat
    ihave Hp := (Entails.of_eq (congrArg (fun D => bigSep (D \ S) fun i => (Rd m).payload (cell d (semOf q)) 0 i) hd)) $$ Hp
    iapply (pay_join m d (semOf q) hS)
    isplitl [HS]; · iexact HS
    iexact Hp

/-! ## The drains of this kernel -/

abbrev DrO (d : Dev nD) (j : ℕ) : sProp (MM F) := Dr m d (some osemS) .osem 16 16384 j
abbrev DrCw (d : Dev nD) (j : ℕ) : sProp (MM F) := Dr m d (some cwsS) .cws 60 2048 j
abbrev DrCcw (d : Dev nD) (j : ℕ) : sProp (MM F) := Dr m d (some ccwsS) .ccws 60 2048 j
abbrev DrP (d : Dev nD) (j : ℕ) : sProp (MM F) := Dr m d (some p0sS) .p0s 8 2048 j

theorem credit_out (o : Fin 2 → ℕ) (h : ∀ a, o a + S256x1024.size a ≤ S4096x1024.size a) :
    (outM.slice (Rect.unit (s := S4096x1024) o S256x1024.size h) (fun _ => rfl)).view.dmaCredit = 16384 :=
  (show _ = (outV 0).view.dmaCredit from rfl).trans (amount_out 0 osemS)

theorem outWait_run (d : Dev nD) (t : Fin 16) :
    iprop(ctx m K ∗ (Ow d 0 ∗ DrO m d t.val) ∗ Cr d (some osemS) 16384)
      ⊢ run d (outWait d (t.cast trips4.symm)) (fun _ => iprop((Ow d 0 ∗ DrO m d (t.val + 1)) ∗ emp)) := by
  unfold outWait
  simp only [Prog.lift]
  iintro ⟨#HC, ⟨HO, Hd⟩, Hc⟩
  iapply (drain1 m K d (some osemS) (u := .osem) (n := 16) (N := 16384) (j := t.val) use_osem (by decide +kernel) rfl t.isLt
    (wpE_waitDma2_eq 𝒱₀ (d : Thread nD τ) none Set.univ) (credit_out _ _)) $$ [HO Hd Hc]
  · isplitr; · iexact HC
    isplitl [Hc]; · iexact Hc
    isplitl [HO]; · iexact HO
    iexact Hd
  iintro H
  iapply (run_ret d PUnit.unit)
  isplitl [H]; · iexact H
  iempintro

theorem cwDrain_run (d : Dev nD) (e : Fin 60) :
    iprop(ctx m K ∗ (Ow d 0 ∗ DrCw m d e.val) ∗ Cr d (some cwsS) 2048) ⊢ run d (cwDrain e) (fun _ => iprop((Ow d 0 ∗ DrCw m d (e.val + 1)) ∗ emp)) := by
  unfold cwDrain
  simp only [Prog.lift]
  iintro ⟨#HC, ⟨HO, Hd⟩, Hc⟩
  iapply (drain1 m K d (some cwsS) (u := .cws) (n := 60) (N := 2048) (j := e.val) use_cws (by decide +kernel) rfl e.isLt
    (wpE_waitDma2_eq 𝒱₀ (d : Thread nD τ) none Set.univ) (by rfl)) $$ [HO Hd Hc]
  · isplitr; · iexact HC
    isplitl [Hc]; · iexact Hc
    isplitl [HO]; · iexact HO
    iexact Hd
  iintro H
  iapply (run_ret d PUnit.unit)
  isplitl [H]; · iexact H
  iempintro

theorem ccwDrain_run (d : Dev nD) (e : Fin 60) :
    iprop(ctx m K ∗ (Ow d 0 ∗ DrCcw m d e.val) ∗ Cr d (some ccwsS) 2048) ⊢ run d (ccwDrain e) (fun _ => iprop((Ow d 0 ∗ DrCcw m d (e.val + 1)) ∗ emp)) := by
  unfold ccwDrain
  simp only [Prog.lift]
  iintro ⟨#HC, ⟨HO, Hd⟩, Hc⟩
  iapply (drain1 m K d (some ccwsS) (u := .ccws) (n := 60) (N := 2048) (j := e.val) use_ccws (by decide +kernel) rfl e.isLt
    (wpE_waitDma2_eq 𝒱₀ (d : Thread nD τ) none Set.univ) (by rfl)) $$ [HO Hd Hc]
  · isplitr; · iexact HC
    isplitl [Hc]; · iexact Hc
    isplitl [HO]; · iexact HO
    iexact Hd
  iintro H
  iapply (run_ret d PUnit.unit)
  isplitl [H]; · iexact H
  iempintro

/-- One drain of either ring. -/
theorem bothDrain_run (d : Dev nD) (e : Fin 60) :
    iprop(ctx m K ∗ (Ow d 0 ∗ DrCw m d e.val ∗ DrCcw m d e.val) ∗ (Cr d (some cwsS) 2048 ∗ Cr d (some ccwsS) 2048))
      ⊢ run d (cwDrain e >>= fun _ => ccwDrain e) (fun _ => iprop((Ow d 0 ∗ DrCw m d (e.val + 1) ∗ DrCcw m d (e.val + 1)) ∗ emp)) := by
  rw [run_bind]
  iintro ⟨#HC, ⟨HO, H1, H2⟩, Hc1, Hc2⟩
  iapply (wp_wand_r _ _ _ (Q := fun _ => iprop((Ow d 0 ∗ DrCw m d (e.val + 1)) ∗ emp)))
  isplitl [HO H1 Hc1]
  · iapply (cwDrain_run m K d e)
    isplitr; · iexact HC
    isplitl [HO H1]
    · isplitl [HO]; · iexact HO
      iexact H1
    iexact Hc1
  iintro %_u ⟨⟨HO, H1⟩, -⟩
  iapply (wp_wand_r _ _ _ (Q := fun _ => iprop((Ow d 0 ∗ DrCcw m d (e.val + 1)) ∗ emp)))
  isplitl [HO H2 Hc2]
  · iapply (ccwDrain_run m K d e)
    isplitr; · iexact HC
    isplitl [HO H2]
    · isplitl [HO]; · iexact HO
      iexact H2
    iexact Hc2
  iintro %_v ⟨⟨HO, H2⟩, -⟩
  isplitl
  · isplitl [HO]; · iexact HO
    isplitl [H1]; · iexact H1
    iexact H2
  iempintro

theorem p0Drain_run (d : Dev nD) (c : Fin 8) :
    iprop(ctx m K ∗ (Ow d 0 ∗ DrP m d c.val) ∗ Cr d (some p0sS) 2048) ⊢ run d (p0Drain c) (fun _ => iprop((Ow d 0 ∗ DrP m d (c.val + 1)) ∗ emp)) := by
  unfold p0Drain
  simp only [Prog.lift]
  iintro ⟨#HC, ⟨HO, Hd⟩, Hc⟩
  iapply (drain1 m K d (some p0sS) (u := .p0s) (n := 8) (N := 2048) (j := c.val) use_p0s (by decide +kernel) rfl c.isLt
    (wpE_waitDma2_eq 𝒱₀ (d : Thread nD τ) none Set.univ) (by rfl)) $$ [HO Hd Hc]
  · isplitr; · iexact HC
    isplitl [Hc]; · iexact Hc
    isplitl [HO]; · iexact HO
    iexact Hd
  iintro H
  iapply (run_ret d PUnit.unit)
  isplitl [H]; · iexact H
  iempintro

end Cert.Ring

end
-- ==== Proof.Handshake.lean ====
module

public import proofs.«01_k».proof.Proof.Outs

/-! The handshake: each neighbour is told that the buffers it writes here are free, and the same is heard from each. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × SemIx → ℕ)

/-- The barrier cell of a device. -/
abbrev barCell (d : Dev nD) : GSem nD τ sig := cell d (.reg barS)

/-- What a device owes at the start: a signal to each neighbour, and every chunk. -/
def owed₂ (d : Dev nD) : CellTallies nD τ sig Unit := owed d 0 0 0 + tallyAt (barCell (right d)) () 1
def owed₁ (d : Dev nD) : CellTallies nD τ sig Unit := owed₂ d + tallyAt (barCell (left d)) () 1
def owed₀ (d : Dev nD) : CellTallies nD τ sig Unit := owed₁ d + tallyAt (barCell (peer d)) () 1

/-- A signal to a neighbour's barrier, as its duty `j`. -/
theorem signal1 (d d' : Dev nD) (j : Duty) (hj : j ∈ dutiesOf .bar) {k' : ℕ} (hk : k' = 1)
    {O₀ : CellTallies nD τ sig Unit} (O : CellTallies nD τ sig Unit) (hO : O₀ = O + tallyAt (barCell d') () 1)
    {α : Type} (k : PUnit → KProg F α) (Q : α → sProp (MM F)) :
    iprop(ctx m K ∗ Ow d O₀ ∗ Tok d' none j ∗ pay m d' .bar j)
      ⊢ iprop((Ow d O -∗ run d (k ⟨⟩) Q) -∗ run d (.op (.semSignal (d' : Thread nD τ) barS k') k) Q) := by
  subst hk
  iintro ⟨#HC, ⟨%W, HO⟩, Ht, Hp⟩ Hk
  iapply (Rounds.wp_signal 𝒱₀ ER (Rd m) (d : Thread nD τ) none (dst := (d' : Thread nD τ)) (sem := barS) (r := 0) (d := j) (k' := 1) (κ := K (d', none))
      (by rw [duties_eq m d' _ use_bar]; exact hj) (amount_eq m d' _ use_bar j) () O hO (W := W)) $$ [HO Ht Hp]
  · isplitr; · iapply (ctx_inv m K d' none); iexact HC
    isplitl [HO]; · iexact HO
    isplitl [Ht]; · iexact Ht
    isplitl [Hp]; · iapply (Entails.of_eq (payload_eq m d' (.reg barS) use_bar j).symm); iexact Hp
    iapply (ctx_reached m K d' none); iexact HC
  iintro HO
  iapply Hk
  iexists W
  iexact HO

abbrev shakePre (d : Dev nD) : sProp (MM F) :=
  iprop(Ow d (owed₀ d) ∗ (Tok (peer d) none 0 ∗ Tok (left d) none 1 ∗ Tok (right d) none 2) ∗ (Cr d none 3 ∗ At d none)
    ∗ (bigSep Finset.univ fun k : Fin 8 => p0Any d k) ∗ (bigSep Finset.univ fun e : Fin 60 => agAny d (cwDst e) (cwC e))
    ∗ (bigSep Finset.univ fun e : Fin 60 => agAny d (ccwDst e) (ccwC e)))
abbrev shakePost (d : Dev nD) : sProp (MM F) :=
  iprop(Ow d (owed d 0 0 0) ∗ Done d none ∗ (bigSep Finset.univ fun k : Fin 8 => p0Any (peer d) k)
    ∗ (bigSep Finset.univ fun e : Fin 60 => agAny (right d) (cwDst e) (cwC e))
    ∗ (bigSep Finset.univ fun e : Fin 60 => agAny (left d) (ccwDst e) (ccwC e)))

theorem dutiesBar : dutiesOf .bar = {0, 1, 2} := by decide +kernel

theorem payBar0 (d : Dev nD) : pay m d .bar 0 = bigSep Finset.univ fun k : Fin 8 => p0Any (F := F) (peer d) k := rfl
theorem payBar1 (d : Dev nD) : pay m d .bar 1 = bigSep Finset.univ fun e : Fin 60 => agAny (F := F) (right d) (cwDst e) (cwC e) := rfl
theorem payBar2 (d : Dev nD) : pay m d .bar 2 = bigSep Finset.univ fun e : Fin 60 => agAny (F := F) (left d) (ccwDst e) (ccwC e) := rfl

theorem handshake_run (d : Dev nD) : iprop(ctx m K ∗ shakePre d) ⊢ run d (handshake d) (fun _ => shakePost d) := by
  unfold handshake
  simp only [semSignalWord, semWaitWord, Prog.bind_op, Prog.bind_ret]
  iintro ⟨#HC, HO, ⟨Ht0, Ht1, Ht2⟩, ⟨Hc, Hat⟩, Hp, Hcw, Hccw⟩
  iapply (signal1 m K d (peer d) 0 (by rw [dutiesBar]; decide) (by decide) (owed₁ d) rfl) $$ [HO Ht0 Hp]
  · isplitr; · iexact HC
    isplitl [HO]; · iexact HO
    isplitl [Ht0]; · iexact Ht0
    rw [payBar0, peer_peer]
    iexact Hp
  iintro HO
  iapply (signal1 m K d (left d) 1 (by rw [dutiesBar]; decide) (by decide) (owed₂ d) rfl) $$ [HO Ht1 Hcw]
  · isplitr; · iexact HC
    isplitl [HO]; · iexact HO
    isplitl [Ht1]; · iexact Ht1
    rw [payBar1, right_left]
    iexact Hcw
  iintro HO
  iapply (signal1 m K d (right d) 2 (by rw [dutiesBar]; decide) (by decide) (owed d 0 0 0) rfl) $$ [HO Ht2 Hccw]
  · isplitr; · iexact HC
    isplitl [HO]; · iexact HO
    isplitl [Ht2]; · iexact Ht2
    rw [payBar2, left_right]
    iexact Hccw
  iintro ⟨%W, HO⟩
  have he : 0 + 3 = (Rd (F := F) m).expect (cell d (semOf none)) 0 := by
    rw [expect_eq m d (semOf none) use_bar, dutiesBar]; decide
  have hmw : ctx m K ⊢ MayWait (d : Thread nD τ) (.reg barS) () (owed d 0 0 0) :=
    (ctx_lev m K).trans (mayWait d (.reg barS) (.inl (by decide)) (by decide) (by decide))
  have hr : (bigSep ((Rd (F := F) m).duties (barCell d) 0 \ ∅) fun j => (Rd m).payload (barCell d) 0 j)
      = iprop(pay m d .bar 0 ∗ pay m d .bar 1 ∗ pay m d .bar 2) := by
    rw [duties_eq m d _ use_bar, dutiesBar, Finset.sdiff_empty, show (fun j => (Rd (F := F) m).payload (barCell d) 0 j) = pay m d .bar from
        funext fun j => payload_eq m d _ use_bar j, bigSep_insert (Φ := pay m d .bar) (by decide), bigSep_insert (Φ := pay m d .bar) (by decide),
      bigSep_singleton]
    rfl
  iapply (Rounds.wp_wait_rest_token 𝒱₀ ER (Rd m) (d : Thread nD τ) none (sm := .reg barS) (k' := 3) (κ := K (d, none))
      (wpE_semWait_eq 𝒱₀ (d : Thread nD τ) none Set.univ) (Set.mem_univ _) () (O := owed d 0 0 0) (W := W) (R := 0) (m := 0) (T := ∅) he) $$ [Hc HO Hat]
  · isplitr; · iapply (ctx_inv m K d none); iexact HC
    isplitl [Hc]; · iexact Hc
    isplitl [HO]; · iexact HO
    isplitr; · iapply hmw; iexact HC
    iexact Hat
  iintro ⟨HO, Hat, -, Hp⟩
  ihave Hp := (Entails.of_eq hr) $$ Hp
  icases Hp with ⟨H0, H1, H2⟩
  iapply (run_ret d PUnit.unit)
  isplitl [HO]; · iexists _; iexact HO
  isplitl [Hat]; · iexact Hat
  isplitl [H0]; · rw [← payBar0 m]; iexact H0
  isplitl [H1]; · rw [← payBar1 m]; iexact H1
  rw [← payBar2 m]; iexact H2

end Cert.Ring

end
-- ==== Proof.Regroup.lean ====
module

public import proofs.«01_k».proof.Proof.Handshake

/-! The 128 chunks of the ring buffer, counted by slot or by the transfers that brought or took them. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## Families -/

/-- One resource for each number. -/
abbrev each {n : ℕ} (Φ : Fin n → sProp (MM F)) : sProp (MM F) := bigSep Finset.univ Φ

theorem each_sep {n : ℕ} (Φ Ψ : Fin n → sProp (MM F)) : (each fun i => iprop(Φ i ∗ Ψ i)) = iprop(each Φ ∗ each Ψ) := bigSep_sep' _ _ _

theorem each_mono {n : ℕ} {Φ Ψ : Fin n → sProp (MM F)} (h : ∀ i, Φ i ⊢ Ψ i) : each Φ ⊢ each Ψ := bigSep_mono fun i _ => h i

/-- A family in two runs of numbers. -/
theorem each_split (a b : ℕ) {n : ℕ} (h : a + b = n) (Φ : Fin n → sProp (MM F)) :
    each Φ = iprop((each fun i : Fin a => Φ ⟨i.val, by omega⟩) ∗ each fun j : Fin b => Φ ⟨a + j.val, by omega⟩) := by
  subst h
  unfold each
  rw [bigSep_univ_equiv finSumFinEquiv Φ, bigSep_univ_sum]
  rfl

theorem each_swap {a b : ℕ} (Φ : Fin a → Fin b → sProp (MM F)) :
    (bigSep Finset.univ fun p : Fin a × Fin b => Φ p.1 p.2) = each fun i => each fun j => Φ i j := bigSep_univ_prod _

/-- A family counted by three others that together meet each of its members once. -/
theorem regroup3 {A B C T : Type} [Fintype A] [Fintype B] [Fintype C] [Fintype T] (f : A → T) (g : B → T) (h : C → T)
    (hb : Function.Bijective (Sum.elim f (Sum.elim g h))) (Φ : T → sProp (MM F)) :
    bigSep Finset.univ Φ = iprop((bigSep Finset.univ fun a => Φ (f a)) ∗ (bigSep Finset.univ fun b => Φ (g b)) ∗ bigSep Finset.univ fun c => Φ (h c)) := by
  rw [bigSep_univ_equiv (Equiv.ofBijective _ hb) Φ, bigSep_univ_sum, bigSep_univ_sum]
  rfl

theorem regroup2 {A B T : Type} [Fintype A] [Fintype B] [Fintype T] (f : A → T) (g : B → T)
    (hb : Function.Bijective (Sum.elim f g)) (Φ : T → sProp (MM F)) :
    bigSep Finset.univ Φ = iprop((bigSep Finset.univ fun a => Φ (f a)) ∗ bigSep Finset.univ fun b => Φ (g b)) := by
  rw [bigSep_univ_equiv (Equiv.ofBijective _ hb) Φ, bigSep_univ_sum]
  rfl

/-- The first 56 transfers of a ring, the last four, and the last eight. -/
abbrev lo56 (i : Fin 56) : Fin 60 := ⟨i.val, by omega⟩
abbrev hi4 (j : Fin 4) : Fin 60 := ⟨56 + j.val, by omega⟩
abbrev hi8 (j : Fin 8) : Fin 60 := ⟨52 + j.val, by omega⟩

/-- A chunk, at given contents of the ring buffer. -/
abbrev agQ (d : Dev nD) (q : PosShare TreeShare) (f : Buf (Elt F) (agM.view.loc (d : Thread nD τ))) (s : Fin 16) (c : Fin 8) : sProp (MM F) :=
  pts d (agV s c) q f

/-! ## The chunks by transfer -/

/-- The chunks received from the left, those received from the right, and the device's own. -/
theorem byArrival : Function.Bijective (Sum.elim (fun e : Fin 60 => (cwDst e, cwC e)) (Sum.elim (fun e : Fin 60 => (ccwDst e, ccwC e)) (fun c : Fin 8 => ((0 : Fin 16), c)))) :=
  (Fintype.bijective_iff_injective_and_card _).mpr ⟨by decide +kernel, by decide +kernel⟩

/-- The chunks sent to the right, those received from the right, and the last received from the left. -/
theorem byRight : Function.Bijective (Sum.elim (fun e : Fin 60 => (cwSrc e, cwC e)) (Sum.elim (fun e : Fin 60 => (ccwDst e, ccwC e))
    (fun j : Fin 8 => (cwDst (hi8 j), cwC (hi8 j))))) :=
  (Fintype.bijective_iff_injective_and_card _).mpr ⟨by decide +kernel, by decide +kernel⟩

/-- The transfers from the right whose chunks are not sent on. -/
def ccwLast (j : Fin 8) : Fin 60 := ⟨if j.val < 4 then 48 + j.val else 52 + j.val, by split <;> omega⟩

/-- The chunks sent to the left, those received from the left, and those received from the right and not sent on. -/
theorem byLeft : Function.Bijective (Sum.elim (fun e : Fin 60 => (ccwSrc e, ccwC e)) (Sum.elim (fun e : Fin 60 => (cwDst e, cwC e))
    (fun j : Fin 8 => (ccwDst (ccwLast j), ccwC (ccwLast j))))) :=
  (Fintype.bijective_iff_injective_and_card _).mpr ⟨by decide +kernel, by decide +kernel⟩

/-- Of fifteen slots, those filled in whole from the left, from the right, and the device's own. -/
def cwPlace (i : Fin 56) : Fin 15 × Fin 8 := (⟨i.val / 8 + 1, by omega⟩, ⟨i.val % 8, by omega⟩)
def ccwPlace (i : Fin 56) : Fin 15 × Fin 8 := (⟨14 - i.val / 8, by omega⟩, ⟨i.val % 8, by omega⟩)
theorem byPlace : Function.Bijective (Sum.elim cwPlace (Sum.elim ccwPlace (fun c : Fin 8 => ((0 : Fin 15), c)))) :=
  (Fintype.bijective_iff_injective_and_card _).mpr ⟨by decide +kernel, by decide +kernel⟩
theorem cwPlace_eq : ∀ i : Fin 56, slot15 (cwPlace i).1 = cwDst (lo56 i) ∧ (cwPlace i).2 = cwC (lo56 i) := by decide +kernel
theorem ccwPlace_eq : ∀ i : Fin 56, slot15 (ccwPlace i).1 = ccwDst (lo56 i) ∧ (ccwPlace i).2 = ccwC (lo56 i) := by decide +kernel

/-- The middle slot: half from the left and half from the right. -/
theorem byHalf : Function.Bijective (Sum.elim (fun j : Fin 4 => cwC (hi4 j)) (fun j : Fin 4 => ccwC (hi4 j))) :=
  (Fintype.bijective_iff_injective_and_card _).mpr ⟨by decide +kernel, by decide +kernel⟩
theorem cwHalf_eq : ∀ j : Fin 4, cwDst (hi4 j) = 8 := by decide +kernel
theorem ccwHalf_eq : ∀ j : Fin 4, ccwDst (hi4 j) = 8 := by decide +kernel

/-- All slots: fifteen and the middle one. -/
theorem bySlot : Function.Bijective (Sum.elim slot15 (fun _ : Fin 1 => (8 : Fin 16))) :=
  (Fintype.bijective_iff_injective_and_card _).mpr ⟨by decide +kernel, by decide +kernel⟩

theorem each_one (Φ : Fin 1 → sProp (MM F)) : each Φ = Φ 0 := by
  show bigSep Finset.univ Φ = _
  rw [show (Finset.univ : Finset (Fin 1)) = {0} from rfl, bigSep_singleton]

theorem slots_split (Φ : Fin 16 → sProp (MM F)) : each Φ = iprop((each fun t => Φ (slot15 t)) ∗ Φ 8) :=
  (regroup2 slot15 (fun _ : Fin 1 => (8 : Fin 16)) bySlot Φ).trans (congrArg (fun X => iprop((each fun t => Φ (slot15 t)) ∗ X)) (each_one _))

/-! ## The ring buffer by transfer -/

/-- The whole ring buffer, as its chunks. -/
theorem ag_chunks (d : Dev nD) (q : PosShare TreeShare) (f : Buf (Elt F) (agM.view.loc (d : Thread nD τ))) :
    (pts d agM q f : sProp (MM F)) = bigSep Finset.univ fun p : Fin 16 × Fin 8 => agQ d q f p.1 p.2 := by
  rw [ag_split, bigSep_univ_prod]
  exact congrArg _ (funext fun s => slot_split d s q f)

theorem ag_arrival (d : Dev nD) (q : PosShare TreeShare) (f : Buf (Elt F) (agM.view.loc (d : Thread nD τ))) :
    (pts d agM q f : sProp (MM F)) = iprop((each fun e => agQ d q f (cwDst e) (cwC e)) ∗ (each fun e => agQ d q f (ccwDst e) (ccwC e))
      ∗ each fun c => agQ d q f 0 c) :=
  (ag_chunks d q f).trans (regroup3 _ _ _ byArrival fun p : Fin 16 × Fin 8 => agQ d q f p.1 p.2)

theorem ag_right (d : Dev nD) (q : PosShare TreeShare) (f : Buf (Elt F) (agM.view.loc (d : Thread nD τ))) :
    (pts d agM q f : sProp (MM F)) = iprop((each fun e => agQ d q f (cwSrc e) (cwC e)) ∗ (each fun e => agQ d q f (ccwDst e) (ccwC e))
      ∗ each fun j : Fin 8 => agQ d q f (cwDst (hi8 j)) (cwC (hi8 j))) :=
  (ag_chunks d q f).trans (regroup3 _ _ _ byRight fun p : Fin 16 × Fin 8 => agQ d q f p.1 p.2)

theorem ag_left (d : Dev nD) (q : PosShare TreeShare) (f : Buf (Elt F) (agM.view.loc (d : Thread nD τ))) :
    (pts d agM q f : sProp (MM F)) = iprop((each fun e => agQ d q f (ccwSrc e) (ccwC e)) ∗ (each fun e => agQ d q f (cwDst e) (cwC e))
      ∗ each fun j : Fin 8 => agQ d q f (ccwDst (ccwLast j)) (ccwC (ccwLast j))) :=
  (ag_chunks d q f).trans (regroup3 _ _ _ byLeft fun p : Fin 16 × Fin 8 => agQ d q f p.1 p.2)

/-- The fifteen slots that are whole before the last waits. -/
theorem ag_fifteen (d : Dev nD) (q : PosShare TreeShare) (f : Buf (Elt F) (agM.view.loc (d : Thread nD τ))) :
    (each fun t => pts d (slotV (slot15 t)) q f : sProp (MM F))
      = iprop((each fun i : Fin 56 => agQ d q f (cwDst (lo56 i)) (cwC (lo56 i)))
        ∗ (each fun i : Fin 56 => agQ d q f (ccwDst (lo56 i)) (ccwC (lo56 i))) ∗ each fun c => agQ d q f 0 c) := by
  have h1 : (each fun t => pts d (slotV (slot15 t)) q f : sProp (MM F)) = bigSep Finset.univ fun p : Fin 15 × Fin 8 => agQ d q f (slot15 p.1) p.2 := by
    rw [bigSep_univ_prod]
    exact congrArg _ (funext fun s => slot_split d _ q f)
  have h2 : (fun i : Fin 56 => pts d (agV (slot15 (cwPlace i).1) (cwPlace i).2) q f : Fin 56 → sProp (MM F))
      = fun i : Fin 56 => agQ d q f (cwDst (lo56 i)) (cwC (lo56 i)) := funext fun i => by
    rw [(cwPlace_eq i).1, (cwPlace_eq i).2]
  have h3 : (fun i : Fin 56 => pts d (agV (slot15 (ccwPlace i).1) (ccwPlace i).2) q f : Fin 56 → sProp (MM F))
      = fun i : Fin 56 => agQ d q f (ccwDst (lo56 i)) (ccwC (lo56 i)) := funext fun i => by
    rw [(ccwPlace_eq i).1, (ccwPlace_eq i).2]
  rw [h1, regroup3 _ _ _ byPlace fun p : Fin 15 × Fin 8 => agQ d q f (slot15 p.1) p.2, h2, h3]
  rfl

/-- The middle slot. -/
theorem ag_middle (d : Dev nD) (q : PosShare TreeShare) (f : Buf (Elt F) (agM.view.loc (d : Thread nD τ))) :
    (pts d (slotV 8) q f : sProp (MM F))
      = iprop((each fun j : Fin 4 => agQ d q f (cwDst (hi4 j)) (cwC (hi4 j)))
        ∗ each fun j : Fin 4 => agQ d q f (ccwDst (hi4 j)) (ccwC (hi4 j))) := by
  have h1 : (fun j : Fin 4 => agQ d q f 8 (cwC (hi4 j)) : Fin 4 → sProp (MM F)) = fun j => agQ d q f (cwDst (hi4 j)) (cwC (hi4 j)) := funext fun j => by
    rw [cwHalf_eq j]
  have h2 : (fun j : Fin 4 => agQ d q f 8 (ccwC (hi4 j)) : Fin 4 → sProp (MM F)) = fun j => agQ d q f (ccwDst (hi4 j)) (ccwC (hi4 j)) := funext fun j => by
    rw [ccwHalf_eq j]
  rw [slot_split, regroup2 _ _ byHalf fun c => agQ d q f 8 c, h1, h2]

/-- A semaphore's transfers numbered below `n`, as a family of `n`. -/
theorem duties_each (n : ℕ) (hn : n ≤ 60) (Φ : Duty → sProp (MM F)) :
    bigSep (Finset.univ.filter fun j : Duty => j.val < n) Φ = each fun i : Fin n => Φ ⟨i.val, by omega⟩ := by
  have h : (Finset.univ.filter fun j : Duty => j.val < n) = (Finset.univ : Finset (Fin n)).map (Fin.castLEEmb hn) := by
    ext j
    simp only [Finset.mem_filter, Finset.mem_univ, true_and, Finset.mem_map]
    exact ⟨fun h => ⟨⟨j.val, h⟩, rfl⟩, fun ⟨i, hi⟩ => by rw [← hi]; exact i.isLt⟩
  rw [h, bigSep_map]
  rfl

/-- The members left over where the rest are empty: the last eight from the left. -/
theorem each_if_cw (Φ : Fin 60 → sProp (MM F)) :
    (each fun e : Fin 60 => if e.val < 52 then iprop(emp) else Φ e) ⊢ each fun j : Fin 8 => Φ ⟨52 + j.val, by omega⟩ := by
  rw [each_split 52 8 rfl]
  iintro ⟨-, H⟩
  iapply (each_mono (Φ := fun j : Fin 8 => if 52 + j.val < 52 then iprop(emp) else Φ ⟨52 + j.val, by omega⟩) fun j => by
    rw [if_neg (by omega)])
  iexact H

/-- The same for those from the right: four and four. -/
theorem each_if_ccw (Φ : Fin 60 → sProp (MM F)) :
    (each fun e : Fin 60 => if e.val < 48 ∨ 52 ≤ e.val ∧ e.val < 56 then iprop(emp) else Φ e) ⊢ each fun j : Fin 8 => Φ (ccwLast j) := by
  rw [each_split 48 12 rfl, each_split 4 8 (n := 12) rfl, each_split 4 4 (n := 8) rfl, each_split 4 4 (n := 8) rfl]
  iintro ⟨-, H1, -, H2⟩
  isplitl [H1]
  · iapply (each_mono (Φ := fun j : Fin 4 => if 48 + j.val < 48 ∨ 52 ≤ 48 + j.val ∧ 48 + j.val < 56 then iprop(emp) else Φ ⟨48 + j.val, by omega⟩) fun j => by
      rw [if_neg (by omega), show ccwLast ⟨j.val, by omega⟩ = ⟨48 + j.val, by omega⟩ from Fin.ext (if_pos j.isLt)])
    iexact H1
  · iapply (each_mono (Φ := fun j : Fin 4 => if 48 + (4 + (4 + j.val)) < 48 ∨ 52 ≤ 48 + (4 + (4 + j.val)) ∧ 48 + (4 + (4 + j.val)) < 56 then iprop(emp) else Φ ⟨48 + (4 + (4 + j.val)), by omega⟩) fun j => by
      rw [if_neg (by omega), show ccwLast ⟨4 + j.val, by omega⟩ = ⟨48 + (4 + (4 + j.val)), by omega⟩ from
        Fin.ext ((if_neg (by show ¬ 4 + j.val < 4; omega)).trans (by show 52 + (4 + j.val) = 48 + (4 + (4 + j.val)); omega))])
    iexact H2

end Cert.Ring

end
-- ==== Proof.BodyRun.lean ====
module

public import proofs.«01_k».proof.Proof.Regroup

/-! The body of one device, in three stages: the exchange with the peer, the rings with the copies out, and the drains. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ) (K : Dev nD × SemIx → ℕ)

/-- One program, then the next from what it leaves. -/
theorem step_then (d : Dev nD) {β : Type} (p : KProg F PUnit) (k : KProg F β) {A B : sProp (MM F)} (hp : A ⊢ run d p (fun _ => B))
    (Q : β → sProp (MM F)) : A ⊢ iprop((B -∗ run d k Q) -∗ run d (p >>= fun _ => k) Q) := by
  rw [run_bind]
  iintro HA HK
  iapply (wp_wand_r _ _ _ (Q := fun _ => B))
  isplitl [HA]; · iapply hp; iexact HA
  iintro %_u HB
  iapply HK
  iexact HB

/-! ## The exchange -/

abbrev sendToks (d : Dev nD) : sProp (MM F) :=
  iprop(((each fun k : Fin 8 => Tok d (some p0sS) (dn8 k)) ∗ each fun k : Fin 8 => Tok (peer d) (some (p0rS k)) 0)
    ∗ ((each fun e : Fin 60 => Tok d (some cwsS) e) ∗ each fun e : Fin 60 => Tok (right d) (some (cwrS e)) 0)
    ∗ ((each fun e : Fin 60 => Tok d (some ccwsS) e) ∗ each fun e : Fin 60 => Tok (left d) (some (ccwrS e)) 0))

theorem St_start (d : Dev nD) :
    iprop(Ow d (owed d 0 0 0) ∗ sendToks d ∗ (each fun k : Fin 8 => p0Any (peer d) k) ∗ (each fun e : Fin 60 => agAny (right d) (cwDst e) (cwC e))
      ∗ each fun e : Fin 60 => agAny (left d) (ccwDst e) (ccwC e)) ⊢ (St d 0 0 0 : sProp (MM F)) := by
  unfold St
  rw [from_zero, from_zero, upTo_zero, upTo_zero, bigSep_empty, bigSep_empty, bigSep_empty]
  rw [show bigSep Finset.univ (todoP (F := F) d) = _ from each_sep _ _, show bigSep Finset.univ (todoCw (F := F) d) = _ from each_sep _ _,
    show bigSep Finset.univ (todoCcw (F := F) d) = _ from each_sep _ _]
  rw [show (each fun k => iprop(Tok (F := F) (peer d) (some (p0rS k)) 0 ∗ p0Any (peer d) k)) = _ from each_sep _ _,
    show (each fun e => iprop(Tok (F := F) (right d) (some (cwrS e)) 0 ∗ agAny (right d) (cwDst e) (cwC e))) = _ from each_sep _ _,
    show (each fun e => iprop(Tok (F := F) (left d) (some (ccwrS e)) 0 ∗ agAny (left d) (ccwDst e) (ccwC e))) = _ from each_sep _ _]
  iintro ⟨HO, ⟨⟨A1, A2⟩, ⟨B1, B2⟩, ⟨C1, C2⟩⟩, A3, B3, C3⟩
  isplitl [HO]; · iexact HO
  isplitl
  · isplitl [A1 A2 A3]
    · isplitl [A1]; · iexact A1
      isplitl [A2]; · iexact A2
      iexact A3
    isplitl [B1 B2 B3]
    · isplitl [B1]; · iexact B1
      isplitl [B2]; · iexact B2
      iexact B3
    isplitl [C1]; · iexact C1
    isplitl [C2]; · iexact C2
    iexact C3
  isplitl; · iempintro
  isplitl; · iempintro
  iempintro

abbrev exPre (d : Dev nD) : sProp (MM F) :=
  iprop(shakePre d ∗ sendToks d ∗ xHold m d ∗ each (loadPre d) ∗ ((each fun c : Fin 8 => At d (some (ldsS c))) ∗ each fun c : Fin 8 => iprop(∃ f, pts d (sbV c) fullShare f))
    ∗ (each fun c : Fin 8 => At d (some (ldkS c))) ∗ ((each fun c : Fin 8 => Cr d (some (p0rS c)) 2048) ∗ each fun c : Fin 8 => At d (some (p0rS c)))
    ∗ each fun c : Fin 8 => agAny d 0 c)
abbrev exPost (d : Dev nD) : sProp (MM F) :=
  iprop(St d 8 8 8 ∗ xHold m d ∗ Done d none ∗ each (sendPost m d) ∗ each (addPost m d))

theorem exchange_run (d : Dev nD) {β : Type} (k : KProg F β) (Q : β → sProp (MM F)) :
    iprop(ctx m K ∗ exPre m d) ⊢ iprop((exPost m d -∗ run d k Q)
      -∗ run d (handshake d >>= fun _ => loads1 d >>= fun _ => loads2 d >>= fun _ => seqFin 8 (sendStep d) >>= fun _ => seqFin 8 (addStep d) >>= fun _ => k) Q) := by
  rw [loads_eq]
  iintro ⟨#HC, Hsh, Htok, Hx, Hld, ⟨Hat1, Hsb⟩, Hat2, ⟨Hc3, Hat3⟩, Hag⟩ HK
  iapply (step_then d _ _ (handshake_run m K d)) $$ [Hsh]
  · isplitr; · iexact HC
    iexact Hsh
  iintro ⟨HO, Hbar, H1, H2, H3⟩
  ihave HS := (St_start (F := F) d) $$ [HO Htok H1 H2 H3]
  · isplitl [HO]; · iexact HO
    isplitl [Htok]; · iexact Htok
    isplitl [H1]; · iexact H1
    isplitl [H2]; · iexact H2
    iexact H3
  iapply (step_then d _ _ (run_seqFin d (loadStep d) (ctx m K) (fun _ => xHold m d) (loadPre d) (loadPost d) (loadStep_run m K d))) $$ [Hx Hld]
  · isplitr; · iexact HC
    isplitl [Hx]; · iexact Hx
    iexact Hld
  iintro ⟨Hx, Hcr⟩
  ihave Hcr := (Entails.of_eq (show bigSep Finset.univ (loadPost (F := F) d) = _ from each_sep _ _)) $$ Hcr
  icases Hcr with ⟨Hc2, Hc1⟩
  iapply (step_then d _ _ (run_seqFin d (sendStep d) (ctx m K) (fun i => St d i 0 0) (sendPre d) (sendPost m d) (sendStep_run m K d))) $$ [HS Hc1 Hat1 Hsb]
  · isplitr; · iexact HC
    isplitl [HS]; · iexact HS
    iapply (Entails.of_eq (show bigSep Finset.univ (sendPre (F := F) d) = _ from each_sep _ _).symm)
    isplitl [Hc1]; · iexact Hc1
    iapply (Entails.of_eq (each_sep _ _).symm)
    isplitl [Hat1]; · iexact Hat1
    iexact Hsb
  iintro ⟨HS, Hsend⟩
  iapply (step_then d _ _ (run_seqFin d (addStep d) (ctx m K) (fun i => St d 8 i i) (addPre d) (addPost m d) (addStep_run m K d))) $$ [HS Hc2 Hat2 Hc3 Hat3 Hag]
  · isplitr; · iexact HC
    isplitl [HS]; · iexact HS
    iapply (Entails.of_eq (show bigSep Finset.univ (addPre (F := F) d) = _ from each_sep _ _).symm)
    isplitl [Hc2 Hat2]
    · iapply (Entails.of_eq (each_sep _ _).symm)
      isplitl [Hc2]; · iexact Hc2
      iexact Hat2
    iapply (Entails.of_eq (each_sep _ _).symm)
    isplitl [Hc3 Hat3]
    · iapply (Entails.of_eq (each_sep _ _).symm)
      isplitl [Hc3]; · iexact Hc3
      iexact Hat3
    iexact Hag
  iintro ⟨HS, Hadd⟩
  iapply HK
  isplitl [HS]; · iexact HS
  isplitl [Hx]; · iexact Hx
  isplitl [Hbar]; · iexact Hbar
  isplitl [Hsend]; · iexact Hsend
  iexact Hadd

/-! ## The rings and the copies out -/

/-- The last waits. -/
theorem cwLast_run (d : Dev nD) (j : Fin 4) :
    iprop(ctx m K ∗ St d 8 60 60 ∗ waitCw d (hi4 j)) ⊢ run d (cwWait (hi4 j)) (fun _ => iprop(St d 8 60 60 ∗ gotCw m d (hi4 j))) := by
  refine (cwWait_step m K d 8 60 60 (hi4 j) (le_refl _) (by show 56 + j.val < 60; omega) (by show 56 + j.val < 60; omega)).trans (wp_mono _ _ _ fun _ => ?_)
  iintro ⟨HS, Hd, Hg⟩
  isplitl [HS]; · iexact HS
  isplitl [Hd]; · iexact Hd
  ihave Hg := (pts_three d (agV (cwDst (hi4 j)) (cwC (hi4 j))) (agC m d)).1 $$ Hg
  icases Hg with ⟨H1, H2, H3⟩
  isplitl [H2]; · iexact H2
  isplitl [H3]; · iexact H3
  have hj : ¬ (hi4 j).val < 52 := by show ¬ 56 + j.val < 52; omega
  rw [if_neg hj]
  iexact H1
theorem ccwLast_run (d : Dev nD) (j : Fin 4) :
    iprop(ctx m K ∗ St d 8 60 60 ∗ waitCcw d (hi4 j)) ⊢ run d (ccwWait (hi4 j)) (fun _ => iprop(St d 8 60 60 ∗ gotCcw m d (hi4 j))) := by
  refine (ccwWait_step m K d 8 60 60 (hi4 j) (le_refl _) (by show 56 + j.val < 60; omega) (by show 56 + j.val < 60; omega)).trans (wp_mono _ _ _ fun _ => ?_)
  iintro ⟨HS, Hd, Hg⟩
  isplitl [HS]; · iexact HS
  isplitl [Hd]; · iexact Hd
  ihave Hg := (pts_three d (agV (ccwDst (hi4 j)) (ccwC (hi4 j))) (agC m d)).1 $$ Hg
  icases Hg with ⟨H1, H2, H3⟩
  isplitl [H1]; · iexact H1
  isplitl [H3]; · iexact H3
  have hj : ¬ ((hi4 j).val < 48 ∨ 52 ≤ (hi4 j).val ∧ (hi4 j).val < 56) := by show ¬ (56 + j.val < 48 ∨ 52 ≤ 56 + j.val ∧ 56 + j.val < 56); omega
  rw [if_neg hj]
  iexact H2

/-- What a received chunk leaves beside the share for the copy out. -/
abbrev keptCw (d : Dev nD) (e : Fin 60) : sProp (MM F) :=
  iprop(Done d (some (cwrS e)) ∗ agP m d qL (cwDst e) (cwC e) ∗ if e.val < 52 then iprop(emp) else agP m d qR (cwDst e) (cwC e))
abbrev keptCcw (d : Dev nD) (e : Fin 60) : sProp (MM F) :=
  iprop(Done d (some (ccwrS e)) ∗ agP m d qR (ccwDst e) (ccwC e)
    ∗ if e.val < 48 ∨ 52 ≤ e.val ∧ e.val < 56 then iprop(emp) else agP m d qL (ccwDst e) (ccwC e))
theorem gotCw_kept (d : Dev nD) (e : Fin 60) : gotCw m d e ⊢ iprop(keptCw m d e ∗ agP m d qO (cwDst e) (cwC e)) := by
  iintro ⟨H1, H2, H3, H4⟩
  isplitr [H3]
  · isplitl [H1]; · iexact H1
    isplitl [H2]; · iexact H2
    iexact H4
  iexact H3
theorem gotCcw_kept (d : Dev nD) (e : Fin 60) : gotCcw m d e ⊢ iprop(keptCcw m d e ∗ agP m d qO (ccwDst e) (ccwC e)) := by
  iintro ⟨H1, H2, H3, H4⟩
  isplitr [H3]
  · isplitl [H1]; · iexact H1
    isplitl [H2]; · iexact H2
    iexact H4
  iexact H3

theorem each_kept {n : ℕ} {A B C : Fin n → sProp (MM F)} (h : ∀ i, A i ⊢ iprop(B i ∗ C i)) : each A ⊢ iprop(each B ∗ each C) :=
  (each_mono h).trans (Entails.of_eq (each_sep _ _))

abbrev outAny (d : Dev nD) (s : Fin 16) : sProp (MM F) := iprop(∃ f, pts d (outV (pos d - s)) fullShare f)

abbrev ringPre (d : Dev nD) : sProp (MM F) :=
  iprop(St d 8 8 8 ∗ (each (waitCw d) ∗ each (waitCcw d)) ∗ (each fun c : Fin 8 => agP m d qO 0 c)
    ∗ each (outAny d) ∗ each fun s : Fin 16 => Tok d (some osemS) (dn16 s))
abbrev ringPost (d : Dev nD) : sProp (MM F) :=
  iprop(St d 8 60 60 ∗ each (keptCw m d) ∗ each (keptCcw m d) ∗ each fun _ : Fin 16 => Cr d (some osemS) 16384)

theorem rings_run (d : Dev nD) {β : Type} (k : KProg F β) (Q : β → sProp (MM F)) :
    iprop(ctx m K ∗ ringPre m d) ⊢ iprop((ringPost m d -∗ run d k Q)
      -∗ run d (seqFin 56 (ringStep d) >>= fun _ => (Scf.Loop.for k0_t3_loop k0_t3_ok PUnit.unit fun t _ => outStep d t) >>= fun _ =>
        seqFin 4 (fun j => cwWait (hi4 j)) >>= fun _ => seqFin 4 (fun j => ccwWait (hi4 j)) >>= fun _ => outMid d >>= fun _ => k) Q) := by
  unfold ringPre ringPost
  rw [outs_eq, outMid_eq]
  rw [show each (waitCw (F := F) d) = _ from each_split 56 4 rfl _, show each (waitCcw (F := F) d) = _ from each_split 56 4 rfl _,
    show each (outAny (F := F) d) = _ from slots_split _, show (each fun s : Fin 16 => Tok (F := F) d (some osemS) (dn16 s)) = _ from slots_split _,
    show each (keptCw m d) = _ from each_split 56 4 rfl _, show each (keptCcw m d) = _ from each_split 56 4 rfl _,
    show (each fun _ : Fin 16 => Cr (F := F) d (some osemS) 16384) = _ from slots_split _]
  iintro ⟨#HC, HS, ⟨⟨W1, W2⟩, V1, V2⟩, Hq0, ⟨Ho1, Ho2⟩, Ht1, Ht2⟩ HK
  iapply (step_then d _ _ (run_seqFin d (ringStep d) (ctx m K) (fun i => St d 8 (cwN i) (ccwN i)) (fun i => iprop(waitCw d (lo56 i) ∗ waitCcw d (lo56 i)))
    (fun i => iprop(gotCw m d (lo56 i) ∗ gotCcw m d (lo56 i))) (ringStep_run m K d))) $$ [HS W1 V1]
  · isplitr; · iexact HC
    isplitl [HS]; · iexact HS
    iapply (Entails.of_eq (each_sep (fun i => waitCw d (lo56 i)) (fun i => waitCcw d (lo56 i))).symm)
    isplitl [W1]; · iexact W1
    iexact V1
  iintro ⟨HS, Hg⟩
  ihave Hg := (Entails.of_eq (each_sep (fun i => gotCw m d (lo56 i)) (fun i => gotCcw m d (lo56 i)))) $$ Hg
  icases Hg with ⟨Hg1, Hg2⟩
  ihave Hg1 := (each_kept (fun i => gotCw_kept m d (lo56 i))) $$ Hg1
  icases Hg1 with ⟨Hk1, Hq1⟩
  ihave Hg2 := (each_kept (fun i => gotCcw_kept m d (lo56 i))) $$ Hg2
  icases Hg2 with ⟨Hk2, Hq2⟩
  ihave Hq := (Entails.of_eq (ag_fifteen d qO (agC m d)).symm) $$ [Hq0 Hq1 Hq2]
  · isplitl [Hq1]; · iexact Hq1
    isplitl [Hq2]; · iexact Hq2
    iexact Hq0
  iapply (step_then d _ _ (run_seqFin d (fun t => slotCp d (slot15 t)) (ctx m K) (fun _ => iprop(emp)) (fun t => outPre m d (slot15 t))
    (fun _ => Cr d (some osemS) 16384) (fun t => by
      iintro ⟨#HC, -, H⟩
      iapply (wp_wand_r _ _ _ (Q := fun _ => Cr d (some osemS) 16384))
      isplitl [H]
      · iapply (slotCp_run m K d (slot15 t))
        isplitr; · iexact HC
        iexact H
      iintro %_u Hc
      isplitr; · iempintro
      iexact Hc))) $$ [Hq Ho1 Ht1]
  · isplitr; · iexact HC
    isplitr; · iempintro
    iapply (Entails.of_eq (show bigSep Finset.univ (fun t => outPre m d (slot15 t)) = _ from each_sep _ _).symm)
    isplitl [Hq]; · iexact Hq
    iapply (Entails.of_eq (each_sep _ _).symm)
    isplitl [Ho1]; · iexact Ho1
    iexact Ht1
  iintro ⟨-, Hc1⟩
  iapply (step_then d _ _ (run_seqFin d (fun j => cwWait (hi4 j)) (ctx m K) (fun _ => St d 8 60 60) (fun j => waitCw d (hi4 j)) (fun j => gotCw m d (hi4 j)) (cwLast_run m K d))) $$ [HS W2]
  · isplitr; · iexact HC
    isplitl [HS]; · iexact HS
    iexact W2
  iintro ⟨HS, Hg1⟩
  iapply (step_then d _ _ (run_seqFin d (fun j => ccwWait (hi4 j)) (ctx m K) (fun _ => St d 8 60 60) (fun j => waitCcw d (hi4 j)) (fun j => gotCcw m d (hi4 j)) (ccwLast_run m K d))) $$ [HS V2]
  · isplitr; · iexact HC
    isplitl [HS]; · iexact HS
    iexact V2
  iintro ⟨HS, Hg2⟩
  ihave Hg1 := (each_kept (fun i => gotCw_kept m d (hi4 i))) $$ Hg1
  icases Hg1 with ⟨Hl1, Hq1⟩
  ihave Hg2 := (each_kept (fun i => gotCcw_kept m d (hi4 i))) $$ Hg2
  icases Hg2 with ⟨Hl2, Hq2⟩
  ihave Hq := (Entails.of_eq (ag_middle d qO (agC m d)).symm) $$ [Hq1 Hq2]
  · isplitl [Hq1]; · iexact Hq1
    iexact Hq2
  iapply (step_then d _ _ (slotCp_run m K d 8)) $$ [Hq Ho2 Ht2]
  · isplitr; · iexact HC
    isplitl [Hq]; · iexact Hq
    isplitl [Ho2]; · iexact Ho2
    iexact Ht2
  iintro Hc2
  iapply HK
  isplitl [HS]; · iexact HS
  isplitl [Hk1 Hl1]
  · isplitl [Hk1]; · iexact Hk1
    iexact Hl1
  isplitl [Hk2 Hl2]
  · isplitl [Hk2]; · iexact Hk2
    iexact Hl2
  isplitl [Hc1]; · iexact Hc1
  iexact Hc2

/-! ## The drains -/

theorem St_end (d : Dev nD) : St d 8 60 60 ⊢ (iprop(Ow d 0 ∗ (each fun _ : Fin 8 => Cr d (some p0sS) 2048) ∗ (each fun _ : Fin 60 => Cr d (some cwsS) 2048)
    ∗ each fun _ : Fin 60 => Cr d (some ccwsS) 2048) : sProp (MM F)) := by
  unfold St
  rw [owed_done, upTo_end, upTo_end]
  iintro ⟨HO, -, H1, H2, H3⟩
  isplitl [HO]; · iexact HO
  isplitl [H1]; · iexact H1
  isplitl [H2]; · iexact H2
  iexact H3

abbrev drainPre (d : Dev nD) : sProp (MM F) :=
  iprop(St d 8 60 60 ∗ (each fun _ : Fin 16 => Cr d (some osemS) 16384) ∗ At d (some osemS) ∗ At d (some cwsS) ∗ At d (some ccwsS) ∗ At d (some p0sS))
abbrev paid (d : Dev nD) (q : SemIx) (u : Use) : sProp (MM F) := iprop(Done d q ∗ bigSep (dutiesOf u) (pay m d u))
abbrev drainPost (d : Dev nD) : sProp (MM F) :=
  iprop(Ow d 0 ∗ paid m d (some osemS) .osem ∗ paid m d (some cwsS) .cws ∗ paid m d (some ccwsS) .ccws ∗ paid m d (some p0sS) .p0s)

theorem drains_run (d : Dev nD) :
    iprop(ctx m K ∗ drainPre d) ⊢ run d ((Scf.Loop.for k0_t4_loop k0_t4_ok PUnit.unit fun t _ => outWait d t) >>= fun _ =>
        seqFin 56 (fun e => cwDrain (lo56 e) >>= fun _ => ccwDrain (lo56 e)) >>= fun _ => seqFin 4 (fun j => cwDrain (hi4 j)) >>= fun _ =>
        seqFin 4 (fun j => ccwDrain (hi4 j)) >>= fun _ => seqFin 8 p0Drain) (fun _ => drainPost m d) := by
  rw [outWaits_eq]
  iintro ⟨#HC, HS, Hco, Ao, Ac, Acc, Ap⟩
  ihave HS := (St_end (F := F) d) $$ HS
  icases HS with ⟨HO, Hcp, Hc, Hcc⟩
  ihave Hc := (Entails.of_eq (show (each fun _ : Fin 60 => Cr (F := F) d (some cwsS) 2048) = _ from each_split 56 4 rfl _)) $$ Hc
  icases Hc with ⟨Hc1, Hc2⟩
  ihave Hcc := (Entails.of_eq (show (each fun _ : Fin 60 => Cr (F := F) d (some ccwsS) 2048) = _ from each_split 56 4 rfl _)) $$ Hcc
  icases Hcc with ⟨Hcc1, Hcc2⟩
  ihave Do := (Dr_start m d (some osemS) .osem 16 16384 (by decide)) $$ Ao
  ihave Dc := (Dr_start m d (some cwsS) .cws 60 2048 (by decide)) $$ Ac
  ihave Dcc := (Dr_start m d (some ccwsS) .ccws 60 2048 (by decide)) $$ Acc
  ihave Dp := (Dr_start m d (some p0sS) .p0s 8 2048 (by decide)) $$ Ap
  iapply (step_then d _ _ (run_seqFin d (fun t => outWait d (t.cast trips4.symm)) (ctx m K) (fun j => iprop(Ow d 0 ∗ DrO m d j)) (fun _ => Cr d (some osemS) 16384)
    (fun _ => iprop(emp)) (outWait_run m K d))) $$ [HO Do Hco]
  · isplitr; · iexact HC
    isplitl [HO Do]
    · isplitl [HO]; · iexact HO
      iexact Do
    iexact Hco
  iintro ⟨⟨HO, Do⟩, -⟩
  iapply (step_then d _ _ (run_seqFin d (fun e : Fin 56 => cwDrain (lo56 e) >>= fun _ => ccwDrain (lo56 e)) (ctx m K) (fun j => iprop(Ow d 0 ∗ DrCw m d j ∗ DrCcw m d j))
    (fun _ => iprop(Cr d (some cwsS) 2048 ∗ Cr d (some ccwsS) 2048)) (fun _ => iprop(emp)) (fun e => bothDrain_run m K d (lo56 e)))) $$ [HO Dc Dcc Hc1 Hcc1]
  · isplitr; · iexact HC
    isplitl [HO Dc Dcc]
    · isplitl [HO]; · iexact HO
      isplitl [Dc]; · iexact Dc
      iexact Dcc
    iapply (Entails.of_eq (each_sep (fun _ : Fin 56 => Cr d (some cwsS) 2048) (fun _ => Cr d (some ccwsS) 2048)).symm)
    isplitl [Hc1]; · iexact Hc1
    iexact Hcc1
  iintro ⟨⟨HO, Dc, Dcc⟩, -⟩
  iapply (step_then d _ _ (run_seqFin d (fun j : Fin 4 => cwDrain (hi4 j)) (ctx m K) (fun j => iprop(Ow d 0 ∗ DrCw m d (56 + j)))
    (fun _ => Cr d (some cwsS) 2048) (fun _ => iprop(emp)) (fun j => cwDrain_run m K d (hi4 j)))) $$ [HO Dc Hc2]
  · isplitr; · iexact HC
    isplitl [HO Dc]
    · isplitl [HO]; · iexact HO
      iexact Dc
    iexact Hc2
  iintro ⟨⟨HO, Dc⟩, -⟩
  iapply (step_then d _ _ (run_seqFin d (fun j : Fin 4 => ccwDrain (hi4 j)) (ctx m K) (fun j => iprop(Ow d 0 ∗ DrCcw m d (56 + j)))
    (fun _ => Cr d (some ccwsS) 2048) (fun _ => iprop(emp)) (fun j => ccwDrain_run m K d (hi4 j)))) $$ [HO Dcc Hcc2]
  · isplitr; · iexact HC
    isplitl [HO Dcc]
    · isplitl [HO]; · iexact HO
      iexact Dcc
    iexact Hcc2
  iintro ⟨⟨HO, Dcc⟩, -⟩
  iapply (wp_wand_r _ _ _ (Q := fun _ => iprop((Ow d 0 ∗ DrP m d 8) ∗ each fun _ : Fin 8 => iprop(emp))))
  isplitl [HO Dp Hcp]
  · iapply (run_seqFin d p0Drain (ctx m K) (fun j => iprop(Ow d 0 ∗ DrP m d j)) (fun _ => Cr d (some p0sS) 2048) (fun _ => iprop(emp)) (p0Drain_run m K d))
    isplitr; · iexact HC
    isplitl [HO Dp]
    · isplitl [HO]; · iexact HO
      iexact Dp
    iexact Hcp
  iintro %_u ⟨⟨HO, Dp⟩, -⟩
  isplitl [HO]; · iexact HO
  isplitl [Do]; · iapply (Dr_end m d (some osemS) .osem 16 16384); iexact Do
  isplitl [Dc]; · iapply (Dr_end m d (some cwsS) .cws 60 2048); iexact Dc
  isplitl [Dcc]; · iapply (Dr_end m d (some ccwsS) .ccws 60 2048); iexact Dcc
  iapply (Dr_end m d (some p0sS) .p0s 8 2048); iexact Dp

end Cert.Ring

end
-- ==== Proof.Whole.lean ====
module

public import proofs.«01_k».proof.Proof.BodyRun

/-! The body of one device from what the launch gives it to what it leaves. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ) (K : Dev nD × SemIx → ℕ)

/-! ## The semaphores of a device -/

/-- The four semaphores nothing uses. -/
def idleS (j : Fin 4) : DmaSem sig := ⟨86 + j.val, by have := j.isLt; show 86 + j.val < 152; omega⟩

theorem dma_split (Φ : DmaSem sig → sProp (MM F)) :
    bigSep Finset.univ Φ = iprop(Φ p0sS ∗ (each fun k => Φ (p0rS k)) ∗ (each fun k => Φ (ldkS k)) ∗ (each fun k => Φ (ldsS k)) ∗ Φ cwsS
      ∗ (each fun e => Φ (cwrS e)) ∗ (each fun j => Φ (idleS j)) ∗ Φ ccwsS ∗ (each fun e => Φ (ccwrS e)) ∗ Φ osemS) := by
  have h0 : bigSep Finset.univ Φ = each (n := 152) Φ := rfl
  rw [h0, each_split 1 151 rfl, each_split 8 143 (n := 151) rfl, each_split 8 135 (n := 143) rfl, each_split 8 127 (n := 135) rfl, each_split 1 126 (n := 127) rfl,
    each_split 60 66 (n := 126) rfl, each_split 4 62 (n := 66) rfl, each_split 1 61 (n := 62) rfl, each_split 60 1 (n := 61) rfl, each_one, each_one, each_one, each_one]
  have e1 : (fun k : Fin 8 => Φ (p0rS k)) = fun k : Fin 8 => Φ ⟨1 + k.val, by have := k.isLt; show 1 + k.val < 152; omega⟩ :=
    funext fun k => congrArg Φ (Fin.ext (p0rS_val k))
  have e2 : (fun k : Fin 8 => Φ (ldkS k)) = fun k : Fin 8 => Φ ⟨1 + (8 + k.val), by have := k.isLt; show 1 + (8 + k.val) < 152; omega⟩ :=
    funext fun k => congrArg Φ (Fin.ext ((ldkS_val k).trans (by show 9 + k.val = 1 + (8 + k.val); omega)))
  have e3 : (fun k : Fin 8 => Φ (ldsS k)) = fun k : Fin 8 => Φ ⟨1 + (8 + (8 + k.val)), by have := k.isLt; show 1 + (8 + (8 + k.val)) < 152; omega⟩ :=
    funext fun k => congrArg Φ (Fin.ext ((ldsS_val k).trans (by show 17 + k.val = 1 + (8 + (8 + k.val)); omega)))
  have e4 : (fun e : Fin 60 => Φ (cwrS e)) = fun e : Fin 60 => Φ ⟨1 + (8 + (8 + (8 + (1 + e.val)))), by have := e.isLt; show 1 + (8 + (8 + (8 + (1 + e.val)))) < 152; omega⟩ :=
    funext fun e => congrArg Φ (Fin.ext ((cwrS_val e).trans (by show 26 + e.val = 1 + (8 + (8 + (8 + (1 + e.val)))); omega)))
  have e5 : (fun j : Fin 4 => Φ (idleS j)) = fun j : Fin 4 => Φ ⟨1 + (8 + (8 + (8 + (1 + (60 + j.val))))), by have := j.isLt; show 1 + (8 + (8 + (8 + (1 + (60 + j.val))))) < 152; omega⟩ :=
    funext fun j => congrArg Φ (Fin.ext (by show 86 + j.val = 1 + (8 + (8 + (8 + (1 + (60 + j.val))))); omega))
  have e6 : (fun e : Fin 60 => Φ (ccwrS e)) = fun e : Fin 60 => Φ ⟨1 + (8 + (8 + (8 + (1 + (60 + (4 + (1 + e.val))))))), by have := e.isLt; show 1 + (8 + (8 + (8 + (1 + (60 + (4 + (1 + e.val))))))) < 152; omega⟩ :=
    funext fun e => congrArg Φ (Fin.ext ((ccwrS_val e).trans (by show 91 + e.val = 1 + (8 + (8 + (8 + (1 + (60 + (4 + (1 + e.val))))))); omega)))
  rw [e1, e2, e3, e4, e5, e6]
  rfl

theorem bySem : Function.Bijective (Sum.elim (fun _ : Fin 1 => (none : SemIx)) (fun q : DmaSem sig => some q)) := by
  constructor
  · rintro (a | a) (b | b) h
    · exact congrArg _ (Subsingleton.elim a b)
    · exact absurd h (by simp)
    · exact absurd h (by simp)
    · exact congrArg _ (Option.some.inj h)
  · rintro (_ | q)
    · exact ⟨.inl 0, rfl⟩
    · exact ⟨.inr q, rfl⟩

theorem sems_split (Φ : SemIx → sProp (MM F)) :
    bigSep Finset.univ Φ = iprop(Φ none ∗ Φ (some p0sS) ∗ (each fun k => Φ (some (p0rS k))) ∗ (each fun k => Φ (some (ldkS k))) ∗ (each fun k => Φ (some (ldsS k)))
      ∗ Φ (some cwsS) ∗ (each fun e => Φ (some (cwrS e))) ∗ (each fun j => Φ (some (idleS j))) ∗ Φ (some ccwsS) ∗ (each fun e => Φ (some (ccwrS e))) ∗ Φ (some osemS)) := by
  rw [regroup2 _ _ bySem Φ, show (bigSep Finset.univ fun _ : Fin 1 => Φ none) = Φ none from each_one _, dma_split fun q => Φ (some q)]

/-- A semaphore whose transfers have all been waited for; one that is never used stays where it was. -/
abbrev Over (d : Dev nD) (q : SemIx) : sProp (MM F) := atPos ER (cell d (semOf q)) (if use (semOf q) = .idle then 0 else 1) ∅ 0

theorem Over_done (d : Dev nD) (q : SemIx) {u : Use} (hu : use (semOf q) = u) (h : u ≠ .idle) : Done (F := F) d q ⊢ Over d q := by
  unfold Over; rw [if_neg (by rw [hu]; exact h)]
theorem use_idle : ∀ j : Fin 4, use (semOf (some (idleS j))) = .idle := by decide +kernel
theorem Over_idle (d : Dev nD) (j : Fin 4) : At (F := F) d (some (idleS j)) ⊢ Over d (some (idleS j)) := by
  unfold Over; rw [if_pos (use_idle j)]

/-! ## The buffers of a device -/

abbrev agW (d : Dev nD) : sProp (MM F) := iprop(∃ f, pts d agM fullShare f)
abbrev p0W (d : Dev nD) : sProp (MM F) := iprop(∃ f, pts d p0M fullShare f)
abbrev keepW (d : Dev nD) : sProp (MM F) := iprop(∃ f, pts d keepM fullShare f)
abbrev sendW (d : Dev nD) : sProp (MM F) := iprop(∃ f, pts d sendM fullShare f)
abbrev sbW (d : Dev nD) : sProp (MM F) := iprop(∃ f, pts d sbM fullShare f)
abbrev outW (d : Dev nD) : sProp (MM F) := iprop(∃ f, pts d outM fullShare f)
abbrev scratch (d : Dev nD) : sProp (MM F) := iprop(agW d ∗ p0W d ∗ keepW d ∗ sendW d ∗ sbW d)

theorem ag_open (d : Dev nD) : agW (F := F) d ⊢ iprop((each fun e => agAny d (cwDst e) (cwC e)) ∗ (each fun e => agAny d (ccwDst e) (ccwC e)) ∗ each fun c => agAny d 0 c) := by
  iintro ⟨%f, H⟩
  ihave H := (Entails.of_eq (ag_arrival d fullShare f)) $$ H
  icases H with ⟨H1, H2, H3⟩
  isplitl [H1]
  · iapply (each_mono (Φ := fun e => agQ d fullShare f (cwDst e) (cwC e)) fun e => by iintro H; iexists f; iexact H)
    iexact H1
  isplitl [H2]
  · iapply (each_mono (Φ := fun e => agQ d fullShare f (ccwDst e) (ccwC e)) fun e => by iintro H; iexists f; iexact H)
    iexact H2
  iapply (each_mono (Φ := fun c => agQ d fullShare f 0 c) fun e => by iintro H; iexists f; iexact H)
  iexact H3

theorem rows_open (d : Dev nD) {sp : Space} {e : EltTy} (M : Memref sig .tc sp S256x1024 e) :
    (iprop(∃ f, pts d M fullShare f) : sProp (MM F)) ⊢ each fun c : Fin 8 => iprop(∃ f, pts d (M.slice (rowR c) (fun _ => rfl)) fullShare f) := by
  iintro ⟨%f, H⟩
  ihave H := (Entails.of_eq (rows_split d M fullShare f)) $$ H
  iapply (each_mono (Φ := fun c : Fin 8 => pts d (M.slice (rowR c) (fun _ => rfl)) fullShare f) fun c => by iintro H; iexists f; iexact H)
  iexact H
theorem rows_close (d : Dev nD) {sp : Space} {e : EltTy} (M : Memref sig .tc sp S256x1024 e) (f : Buf (Elt F) (M.view.loc (d : Thread nD τ))) :
    (each fun c : Fin 8 => pts d (M.slice (rowR c) (fun _ => rfl)) fullShare f) ⊢ (iprop(∃ f, pts d M fullShare f) : sProp (MM F)) := by
  iintro H
  ihave H := (Entails.of_eq (rows_split d M fullShare f).symm) $$ H
  iexists f
  iexact H

theorem out_open (d : Dev nD) : outW (F := F) d ⊢ each (outAny d) := by
  iintro ⟨%f, H⟩
  ihave H := (Entails.of_eq (out_split_slots d fullShare f)) $$ H
  iapply (each_mono (Φ := fun s : Fin 16 => pts d (outV (pos d - s)) fullShare f) fun c => by iintro H; iexists f; iexact H)
  iexact H

/-! ## What the drains give back -/

theorem paid_cws (d : Dev nD) : bigSep (dutiesOf .cws) (pay m d .cws) = each fun e => agQ d qR (agC m d) (cwSrc e) (cwC e) := rfl
theorem paid_ccws (d : Dev nD) : bigSep (dutiesOf .ccws) (pay m d .ccws) = each fun e => agQ d qL (agC m d) (ccwSrc e) (ccwC e) := rfl
theorem paid_p0s (d : Dev nD) : bigSep (dutiesOf .p0s) (pay m d .p0s) = each fun k : Fin 8 => pts d (sbV k) fullShare (sbC m d) := by
  refine (duties_each 8 (by decide) (pay m d .p0s)).trans (congrArg _ (funext fun k => ?_))
  show pts d (sbV (chunk (dn8 k))) fullShare (sbC m d) = _
  rw [chunk_dn8]
theorem paid_osem (d : Dev nD) :
    bigSep (dutiesOf .osem) (pay m d .osem) = iprop(pts d outM fullShare (outC m d) ∗ pts d agM qO (agC m d)) := by
  rw [out_split_slots d fullShare (outC m d), ag_split d qO (agC m d)]
  refine ((duties_each 16 (by decide) (pay m d .osem)).trans (congrArg _ (funext fun s => ?_))).trans (each_sep (fun s : Fin 16 => pts d (outV (pos d - s)) fullShare (outC m d))
    fun s => pts d (slotV s) qO (agC m d))
  show iprop(pts d (outV (pos d - slot (dn16 s))) fullShare (outC m d) ∗ pts d (slotV (slot (dn16 s))) qO (agC m d)) = _
  rw [slot_dn16]

/-- The ring buffer, whole again. -/
theorem ag_close (d : Dev nD) :
    iprop((each fun e => agQ d qR (agC m d) (cwSrc e) (cwC e)) ∗ (each fun e => agQ d qL (agC m d) (ccwSrc e) (ccwC e)) ∗ pts d agM qO (agC m d)
      ∗ ((each fun e => agP m d qL (cwDst e) (cwC e)) ∗ each fun e : Fin 60 => if e.val < 52 then iprop(emp) else agP m d qR (cwDst e) (cwC e))
      ∗ ((each fun e => agP m d qR (ccwDst e) (ccwC e)) ∗ each fun e : Fin 60 => if e.val < 48 ∨ 52 ≤ e.val ∧ e.val < 56 then iprop(emp) else agP m d qL (ccwDst e) (ccwC e)))
      ⊢ agW d := by
  iintro ⟨HR, HL, HO, ⟨L2, R3⟩, R2, L3⟩
  ihave R3 := (each_if_cw (fun e => agP m d qR (cwDst e) (cwC e))) $$ R3
  ihave L3 := (each_if_ccw (fun e => agP m d qL (ccwDst e) (ccwC e))) $$ L3
  ihave HR := (Entails.of_eq (ag_right d qR (agC m d)).symm) $$ [HR R2 R3]
  · isplitl [HR]; · iexact HR
    isplitl [R2]; · iexact R2
    iexact R3
  ihave HL := (Entails.of_eq (ag_left d qL (agC m d)).symm) $$ [HL L2 L3]
  · isplitl [HL]; · iexact HL
    isplitl [L2]; · iexact L2
    iexact L3
  iexists (agC m d)
  iapply (pts_three d agM (agC m d)).2
  isplitl [HR]; · iexact HR
  isplitl [HL]; · iexact HL
  iexact HO

/-! ## The body -/

abbrev bodyToks (d : Dev nD) : sProp (MM F) :=
  iprop((Tok (peer d) none 0 ∗ Tok (left d) none 1 ∗ Tok (right d) none 2) ∗ sendToks d
    ∗ (each fun c : Fin 8 => Tok d (some (ldkS c)) 0) ∗ (each fun c : Fin 8 => Tok d (some (ldsS c)) 0) ∗ each fun s : Fin 16 => Tok d (some osemS) (dn16 s))
abbrev bodyCreds (d : Dev nD) : sProp (MM F) :=
  iprop(Cr d none 3 ∗ (each fun k : Fin 8 => Cr d (some (p0rS k)) 2048) ∗ (each fun e : Fin 60 => Cr d (some (cwrS e)) 2048) ∗ each fun e : Fin 60 => Cr d (some (ccwrS e)) 2048)

abbrev bodyStart (d : Dev nD) : sProp (MM F) :=
  iprop(Ow d (owed₀ d) ∗ (bigSep Finset.univ fun q : SemIx => At d q) ∗ bodyToks d ∗ bodyCreds d ∗ xHold m d ∗ outW d ∗ scratch d)
abbrev bodyEnd (d : Dev nD) : sProp (MM F) :=
  iprop(Ow d 0 ∗ (bigSep Finset.univ fun q : SemIx => Over d q) ∗ xHold m d ∗ pts d outM fullShare (outC m d) ∗ scratch d)

theorem bodyAt_run (d : Dev nD) : iprop(ctx m K ∗ bodyStart m d) ⊢ run d (bodyAt d) (fun _ => bodyEnd m d) := by
  show _ ⊢ run d (handshake d >>= fun _ => loads1 d >>= fun _ => loads2 d >>= fun _ => seqFin 8 (sendStep d) >>= fun _ => seqFin 8 (addStep d) >>= fun _ =>
    seqFin 56 (ringStep d) >>= fun _ => (Scf.Loop.for k0_t3_loop k0_t3_ok PUnit.unit fun t _ => outStep d t) >>= fun _ =>
        seqFin 4 (fun j => cwWait (hi4 j)) >>= fun _ => seqFin 4 (fun j => ccwWait (hi4 j)) >>= fun _ => outMid d >>= fun _ =>
    ((Scf.Loop.for k0_t4_loop k0_t4_ok PUnit.unit fun t _ => outWait d t) >>= fun _ =>
        seqFin 56 (fun e => cwDrain (lo56 e) >>= fun _ => ccwDrain (lo56 e)) >>= fun _ => seqFin 4 (fun j => cwDrain (hi4 j)) >>= fun _ =>
        seqFin 4 (fun j => ccwDrain (hi4 j)) >>= fun _ => seqFin 8 p0Drain)) _
  unfold bodyStart bodyEnd
  rw [sems_split fun q => At (F := F) d q, sems_split fun q => Over (F := F) d q]
  iintro ⟨#HC, HO, ⟨Abar, Ap, Apr, Ak, As, Acw, Acwr, Aid, Accw, Accwr, Ao⟩, ⟨Tbar, Tsend, Tk, Ts, To⟩, ⟨Cbar, Cp, Ccw, Cccw⟩, Hx, Hout, Hag, Hp0, Hkeep, Hsend, Hsb⟩
  ihave Hag := (ag_open (F := F) d) $$ Hag
  icases Hag with ⟨G1, G2, G3⟩
  ihave Hp0 := (rows_open (F := F) d p0M) $$ Hp0
  ihave Hkeep := (rows_open (F := F) d keepM) $$ Hkeep
  ihave Hsend := (rows_open (F := F) d sendM) $$ Hsend
  ihave Hsb := (rows_open (F := F) d sbM) $$ Hsb
  ihave Hout := (out_open (F := F) d) $$ Hout
  iapply (exchange_run m K d _ _) $$ [HO Abar Apr Ak As Tbar Tsend Tk Ts Cbar Cp Hx G1 G2 G3 Hp0 Hkeep Hsend Hsb]
  · isplitr; · iexact HC
    isplitl [HO Tbar Cbar Abar Hp0 G1 G2]
    · isplitl [HO]; · iexact HO
      isplitl [Tbar]; · iexact Tbar
      isplitl [Cbar Abar]
      · isplitl [Cbar]; · iexact Cbar
        iexact Abar
      isplitl [Hp0]; · iexact Hp0
      isplitl [G1]; · iexact G1
      iexact G2
    isplitl [Tsend]; · iexact Tsend
    isplitl [Hx]; · iexact Hx
    isplitl [Hkeep Tk Hsend Ts]
    · iapply (Entails.of_eq (show each (loadPre (F := F) d) = _ from each_sep _ _).symm)
      isplitl [Hkeep Tk]
      · iapply (Entails.of_eq (each_sep _ _).symm)
        isplitl [Hkeep]; · iexact Hkeep
        iexact Tk
      iapply (Entails.of_eq (each_sep _ _).symm)
      isplitl [Hsend]; · iexact Hsend
      iexact Ts
    isplitl [As Hsb]
    · isplitl [As]; · iexact As
      iexact Hsb
    isplitl [Ak]; · iexact Ak
    isplitl [Cp Apr]
    · isplitl [Cp]; · iexact Cp
      iexact Apr
    iexact G3
  iintro ⟨HS, Hx, Dbar, Hsend, Hadd⟩
  ihave Hsend := (Entails.of_eq (show each (sendPost m d) = _ from each_sep _ _)) $$ Hsend
  icases Hsend with ⟨Ds, Hsend⟩
  ihave Hadd := (Entails.of_eq (show each (addPost m d) = _ from each_sep _ _)) $$ Hadd
  icases Hadd with ⟨Hadd1, Hadd2⟩
  ihave Hadd1 := (Entails.of_eq (each_sep (fun c : Fin 8 => Done d (some (ldkS c))) (fun c => pts d (keepV c) fullShare (keepC m d)))) $$ Hadd1
  icases Hadd1 with ⟨Dk, Hkeep⟩
  ihave Hadd2 := (Entails.of_eq (each_sep (fun c : Fin 8 => iprop(Done d (some (p0rS c)) ∗ pts d (p0V c) fullShare (sbC m (peer d)))) (fun c => agP m d qO 0 c))) $$ Hadd2
  icases Hadd2 with ⟨Hadd2, G0⟩
  ihave Hadd2 := (Entails.of_eq (each_sep (fun c : Fin 8 => Done d (some (p0rS c))) (fun c => pts d (p0V c) fullShare (sbC m (peer d))))) $$ Hadd2
  icases Hadd2 with ⟨Dpr, Hp0⟩
  iapply (rings_run m K d _ _) $$ [HS Acwr Accwr Ccw Cccw G0 Hout To]
  · isplitr; · iexact HC
    isplitl [HS]; · iexact HS
    isplitl [Acwr Accwr Ccw Cccw]
    · isplitl [Acwr Ccw]
      · iapply (Entails.of_eq (show each (waitCw (F := F) d) = _ from each_sep _ _).symm)
        isplitl [Ccw]; · iexact Ccw
        iexact Acwr
      iapply (Entails.of_eq (show each (waitCcw (F := F) d) = _ from each_sep _ _).symm)
      isplitl [Cccw]; · iexact Cccw
      iexact Accwr
    isplitl [G0]; · iexact G0
    isplitl [Hout]; · iexact Hout
    iexact To
  iintro ⟨HS, Hk1, Hk2, Co⟩
  ihave Hk1 := (Entails.of_eq (show each (keptCw m d) = _ from each_sep _ _)) $$ Hk1
  icases Hk1 with ⟨Dcwr, Hk1⟩
  ihave Hk1 := (Entails.of_eq (each_sep (fun e => agP m d qL (cwDst e) (cwC e)) (fun e : Fin 60 => if e.val < 52 then iprop(emp) else agP m d qR (cwDst e) (cwC e)))) $$ Hk1
  ihave Hk2 := (Entails.of_eq (show each (keptCcw m d) = _ from each_sep _ _)) $$ Hk2
  icases Hk2 with ⟨Dccwr, Hk2⟩
  ihave Hk2 := (Entails.of_eq (each_sep (fun e => agP m d qR (ccwDst e) (ccwC e))
    (fun e : Fin 60 => if e.val < 48 ∨ 52 ≤ e.val ∧ e.val < 56 then iprop(emp) else agP m d qL (ccwDst e) (ccwC e)))) $$ Hk2
  iapply (wp_wand_r _ _ _ (Q := fun _ => drainPost m d))
  isplitl [HS Co Ao Acw Accw Ap]
  · iapply (drains_run m K d)
    isplitr; · iexact HC
    isplitl [HS]; · iexact HS
    isplitl [Co]; · iexact Co
    isplitl [Ao]; · iexact Ao
    isplitl [Acw]; · iexact Acw
    isplitl [Accw]; · iexact Accw
    iexact Ap
  iintro %_u ⟨HO, ⟨Do, Po⟩, ⟨Dcw, Pcw⟩, ⟨Dccw, Pccw⟩, Dp, Pp⟩
  ihave Po := (Entails.of_eq (paid_osem m d)) $$ Po
  icases Po with ⟨Hout, HgO⟩
  ihave Pcw := (Entails.of_eq (paid_cws m d)) $$ Pcw
  ihave Pccw := (Entails.of_eq (paid_ccws m d)) $$ Pccw
  ihave Pp := (Entails.of_eq (paid_p0s m d)) $$ Pp
  isplitl [HO]; · iexact HO
  isplitl [Dbar Dp Dpr Dk Ds Dcw Dcwr Aid Dccw Dccwr Do]
  · isplitl [Dbar]; · iapply (Over_done d none use_bar (by decide)); iexact Dbar
    isplitl [Dp]; · iapply (Over_done d (some p0sS) use_p0s (by decide)); iexact Dp
    isplitl [Dpr]; · iapply (each_mono fun k => Over_done (F := F) d (some (p0rS k)) (use_p0r k) (by intro h; cases h)); iexact Dpr
    isplitl [Dk]; · iapply (each_mono fun k => Over_done (F := F) d (some (ldkS k)) (use_ldk k) (by intro h; cases h)); iexact Dk
    isplitl [Ds]; · iapply (each_mono fun k => Over_done (F := F) d (some (ldsS k)) (use_lds k) (by intro h; cases h)); iexact Ds
    isplitl [Dcw]; · iapply (Over_done d (some cwsS) use_cws (by decide)); iexact Dcw
    isplitl [Dcwr]; · iapply (each_mono fun e => Over_done (F := F) d (some (cwrS e)) (use_cwr e) (by intro h; cases h)); iexact Dcwr
    isplitl [Aid]; · iapply (each_mono fun j => Over_idle (F := F) d j); iexact Aid
    isplitl [Dccw]; · iapply (Over_done d (some ccwsS) use_ccws (by decide)); iexact Dccw
    isplitl [Dccwr]; · iapply (each_mono fun e => Over_done (F := F) d (some (ccwrS e)) (use_ccwr e) (by intro h; cases h)); iexact Dccwr
    iapply (Over_done d (some osemS) use_osem (by decide)); iexact Do
  isplitl [Hx]; · iexact Hx
  isplitl [Hout]; · iexact Hout
  isplitl [Pcw Pccw HgO Hk1 Hk2]
  · iapply (ag_close m d)
    isplitl [Pcw]; · iexact Pcw
    isplitl [Pccw]; · iexact Pccw
    isplitl [HgO]; · iexact HgO
    isplitl [Hk1]; · iexact Hk1
    iexact Hk2
  isplitl [Hp0]; · iapply (rows_close d p0M (sbC m (peer d))); iexact Hp0
  isplitl [Hkeep]; · iapply (rows_close d keepM (keepC m d)); iexact Hkeep
  isplitl [Hsend]; · iapply (rows_close d sendM (sendC m d)); iexact Hsend
  iapply (rows_close d sbM (sbC m d)); iexact Pp

end Cert.Ring

end
-- ==== Proof.LaunchFacts.lean ====
module

public import proofs.«01_k».proof.Proof.Whole

/-! What a launch of the kernel has to know of its layout: it has no windows, five scratch buffers, two arrays, and 153
    semaphores of which all but the barrier's are its own. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The one call -/

/-- The call stages nothing, so it has no staging semaphore. -/
abbrev stageSems : Fin 1 → List (DmaSem sig) := fun | 0 => [] | ⟨_ + 1, h⟩ => absurd h (Nat.not_lt.2 (Nat.le_add_left _ _))

theorem cellOf_inj : Function.Injective (Pipeline.cellOf (nD := nD) (τ := τ) cfgs) :=
  Pipeline.cellOf_injective_of_table cfgs stageSems (fun | 0 => rfl | ⟨_ + 1, h⟩ => absurd h (Nat.not_lt.2 (Nat.le_add_left _ _))) (by decide) (by decide)

theorem winFacts : Pipeline.WinFacts (cfg0.spec) := by decide
theorem points : grid0.N = 1 := by decide
/-- The one point of the grid. -/
def pt : Fin grid0.N := ⟨0, by rw [points]; decide⟩
theorem only_pt (t : Fin grid0.N) : t = pt := by
  obtain ⟨t, ht⟩ := t; have := points; exact Fin.ext (by show t = 0; omega)

/-! ## Buffers -/

theorem scratch_eq (d : Dev nD) :
    (Pipeline.scopedRest (Ix := Unit) (Name := ℕ) (U := UU) (Lvl := ℕ) (Val := Elt F) (cfg0.spec) d : sProp (MM F)) = scratch d := by
  refine (Pipeline.scopedRest_eq_of_list (cfg0.spec) d [cc0_scratch0, cc0_scratch1, cc0_scratch2, cc0_scratch3, cc0_scratch4] (by decide) (by decide)).trans ?_
  have h (b : Ref sig .tc) : (View.whole b).set = Finset.univ := View.set_whole b
  show iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f)
    ∗ (∃ f : Buf (Elt F) ((d : Thread nD τ).loc cc0_scratch2), ((d : Thread nD τ).loc cc0_scratch2) ↦{fullShare} f)
    ∗ (∃ f : Buf (Elt F) ((d : Thread nD τ).loc cc0_scratch3), ((d : Thread nD τ).loc cc0_scratch3) ↦{fullShare} f)
    ∗ (∃ f : Buf (Elt F) ((d : Thread nD τ).loc cc0_scratch4), ((d : Thread nD τ).loc cc0_scratch4) ↦{fullShare} f))
    = iprop((∃ f : Buf (Elt F) ((d : Thread nD τ).loc cc0_scratch0), ((d : Thread nD τ).loc cc0_scratch0) ↦[(View.whole cc0_scratch0).set]{fullShare} f)
    ∗ (∃ f : Buf (Elt F) ((d : Thread nD τ).loc cc0_scratch1), ((d : Thread nD τ).loc cc0_scratch1) ↦[(View.whole cc0_scratch1).set]{fullShare} f)
    ∗ (∃ f : Buf (Elt F) ((d : Thread nD τ).loc cc0_scratch2), ((d : Thread nD τ).loc cc0_scratch2) ↦[(View.whole cc0_scratch2).set]{fullShare} f)
    ∗ (∃ f : Buf (Elt F) ((d : Thread nD τ).loc cc0_scratch3), ((d : Thread nD τ).loc cc0_scratch3) ↦[(View.whole cc0_scratch3).set]{fullShare} f)
    ∗ (∃ f : Buf (Elt F) ((d : Thread nD τ).loc cc0_scratch4), ((d : Thread nD τ).loc cc0_scratch4) ↦[(View.whole cc0_scratch4).set]{fullShare} f))
  rw [h, h, h, h, h]

theorem arrays_eq (d : Dev nD) (V : (b : Ref sig .tc) → Buf (Elt F) ((d : Thread nD τ).loc b)) :
    (Pipeline.unscopedRestP (Ix := Unit) (Name := ℕ) (U := UU) (Lvl := ℕ) Pipeline.Prefetch.none (cfg0.spec) d V : sProp (MM F))
      = iprop(pts d xM fullShare (V main_arg0) ∗ pts d outM fullShare (V main_v1)) := by
  rw [Pipeline.unscopedRestP_none]
  refine (Pipeline.unscopedRest_eq_of_list (cfg0.spec) d V [main_arg0, main_v1] (by decide) (by decide)).trans ?_
  have h (b : Ref sig .tc) : (View.whole b).set = Finset.univ := View.set_whole b
  show iprop((((d : Thread nD τ).loc main_arg0) ↦{fullShare} V main_arg0) ∗ (((d : Thread nD τ).loc main_v1) ↦{fullShare} V main_v1))
    = iprop((((d : Thread nD τ).loc main_arg0) ↦[(View.whole main_arg0).set]{fullShare} V main_arg0) ∗ (((d : Thread nD τ).loc main_v1) ↦[(View.whole main_v1).set]{fullShare} V main_v1))
  rw [h, h]

/-! ## Semaphores -/

/-- The kernel's own semaphores are its DMA semaphores. -/
abbrev ownSem : DmaSem sig → SemLoc sig := fun q => .dma q

theorem ownSemFacts : Pipeline.OwnSemFacts cfg0.spec ownSem where
  isScoped := by decide +kernel
  inj := fun _ _ h => SemLoc.dma.inj h
  disj := fun _ w => w.elim0

theorem barrier_eq (d : Dev nD) : (unscopedSems0 d : sProp (MM F)) = semVal (kcell (d, none)) 0 := by
  unfold unscopedSems0
  rw [bigSep_eq_bigSepL_of_eq [SemLoc.reg barS] (by decide +kernel) (by decide +kernel)]; rfl

/-- All of a device's counters at zero. -/
abbrev zeros (d : Dev nD) : sProp (MM F) := bigSep Finset.univ fun q : SemIx => semVal (kcell (d, q)) 0

theorem zeros_eq (d : Dev nD) : zeros (F := F) d
    = iprop(unscopedSems0 d ∗ Pipeline.ownSems0 (Ix := Unit) (Name := ℕ) (U := UU) (Lvl := ℕ) (Val := Elt F) (τ := τ) ownSem d) := by
  rw [barrier_eq]
  unfold zeros Pipeline.ownSems0
  rw [regroup2 _ _ bySem, show (bigSep Finset.univ fun _ : Fin 1 => (semVal (kcell (d, none)) 0 : sProp (MM F))) = semVal (kcell (d, none)) 0 from each_one _]

theorem kcell_injective : Function.Injective (kcell : Dev nD × SemIx → GSem nD τ sig) := by
  rintro ⟨d, q⟩ ⟨d', q'⟩ h
  have h1 : d = d' := congrArg (fun g : GSem nD τ sig => g.1.1) h
  have h2 : semOf q = semOf q' := congrArg Prod.snd h
  subst h1
  rcases q with _ | q <;> rcases q' with _ | q'
  · rfl
  · exact absurd h2 (by intro h; cases h)
  · exact absurd h2 (by intro h; cases h)
  · exact congrArg (fun x => (d, some x)) (SemLoc.dma.inj h2)

end Cert.Ring

end
-- ==== Proof.Deal.lean ====
module

public import proofs.«01_k».proof.Proof.LaunchFacts

/-! Dealing out what the launch makes. The right to raise a semaphore goes to the device that raises it: each device
    hands its neighbours the rights to the semaphores they raise on it. The credit a device waits with is what the others
    owe its semaphores. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## Rights -/

/-- Some members of a family. -/
theorem each_pick {a n : ℕ} (f : Fin a → Fin n) (hf : Function.Injective f) (Φ : Fin n → sProp (MM F)) : each Φ ⊢ each fun i => Φ (f i) := by
  unfold each
  rw [show (bigSep Finset.univ fun i => Φ (f i)) = bigSep (Finset.univ.map ⟨f, hf⟩) Φ from (bigSep_map ⟨f, hf⟩ (Φ := Φ)).symm]
  exact bigSep_subset (Finset.subset_univ _)

theorem pick_zero (Φ : Duty → sProp (MM F)) : each Φ ⊢ Φ 0 := bigSep_elim (Finset.mem_univ _)
theorem pick_three (Φ : Duty → sProp (MM F)) : each Φ ⊢ iprop(Φ 0 ∗ Φ 1 ∗ Φ 2) :=
  (each_pick ![0, 1, 2] (by decide) Φ).trans (Entails.of_eq (bigSep_univ_eq_bigSepL [0, 1, 2] (by decide) (by decide) _))

/-- Every right to a device's semaphores. -/
def allToks (d : Dev nD) : sProp (MM F) := bigSep Finset.univ fun q : SemIx => each fun j : Duty => Tok d q j

/-- Those the device keeps, and those its peer, its right-hand and its left-hand neighbour use. -/
abbrev keptToks (d : Dev nD) : sProp (MM F) :=
  iprop((each fun k : Fin 8 => Tok d (some p0sS) (dn8 k)) ∗ (each fun e : Fin 60 => Tok d (some cwsS) e) ∗ (each fun e : Fin 60 => Tok d (some ccwsS) e)
    ∗ (each fun c : Fin 8 => Tok d (some (ldkS c)) 0) ∗ (each fun c : Fin 8 => Tok d (some (ldsS c)) 0) ∗ each fun s : Fin 16 => Tok d (some osemS) (dn16 s))
abbrev peerToks (d : Dev nD) : sProp (MM F) := iprop(Tok d none 0 ∗ each fun k : Fin 8 => Tok d (some (p0rS k)) 0)
abbrev rightToks (d : Dev nD) : sProp (MM F) := iprop(Tok d none 1 ∗ each fun e : Fin 60 => Tok d (some (ccwrS e)) 0)
abbrev leftToks (d : Dev nD) : sProp (MM F) := iprop(Tok d none 2 ∗ each fun e : Fin 60 => Tok d (some (cwrS e)) 0)

theorem allToks_sort (d : Dev nD) : allToks (F := F) d ⊢ iprop(keptToks d ∗ peerToks d ∗ rightToks d ∗ leftToks d) := by
  unfold allToks
  rw [sems_split]
  iintro ⟨Hb, Hp, Hpr, Hk, Hs, Hcw, Hcwr, -, Hccw, Hccwr, Ho⟩
  ihave Hb := (pick_three (F := F) fun j => Tok d none j) $$ Hb
  icases Hb with ⟨B0, B1, B2⟩
  isplitl [Hp Hcw Hccw Hk Hs Ho]
  · isplitl [Hp]; · iapply (each_pick dn8 (by decide) fun j => Tok d (some p0sS) j); iexact Hp
    isplitl [Hcw]; · iexact Hcw
    isplitl [Hccw]; · iexact Hccw
    isplitl [Hk]; · iapply (each_mono fun k => pick_zero (F := F) fun j => Tok d (some (ldkS k)) j); iexact Hk
    isplitl [Hs]; · iapply (each_mono fun k => pick_zero (F := F) fun j => Tok d (some (ldsS k)) j); iexact Hs
    iapply (each_pick dn16 (by decide) fun j => Tok d (some osemS) j); iexact Ho
  isplitl [B0 Hpr]
  · isplitl [B0]; · iexact B0
    iapply (each_mono fun k => pick_zero (F := F) fun j => Tok d (some (p0rS k)) j); iexact Hpr
  isplitl [B1 Hccwr]
  · isplitl [B1]; · iexact B1
    iapply (each_mono fun k => pick_zero (F := F) fun j => Tok d (some (ccwrS k)) j); iexact Hccwr
  isplitl [B2]; · iexact B2
  iapply (each_mono fun k => pick_zero (F := F) fun j => Tok d (some (cwrS k)) j); iexact Hcwr

def toPeer : Dev nD ≃ Dev nD := ⟨peer, peer, peer_peer, peer_peer⟩
def toRight : Dev nD ≃ Dev nD := ⟨right, left, left_right, right_left⟩

/-- Each device keeps `A` and hands `B` to its peer, `C` to its right and `D` to its left. -/
theorem hand_round (A B C D E : Dev nD → sProp (MM F)) (h : ∀ d, iprop(A d ∗ B (peer d) ∗ C (left d) ∗ D (right d)) ⊢ E d) :
    (bigSep Finset.univ fun d => iprop(A d ∗ B d ∗ C d ∗ D d)) ⊢ bigSep Finset.univ E := by
  rw [bigSep_sep', bigSep_sep', bigSep_sep', bigSep_univ_equiv toPeer B, bigSep_univ_equiv toRight.symm C, bigSep_univ_equiv toRight D,
    ← bigSep_sep', ← bigSep_sep', ← bigSep_sep']
  exact bigSep_mono fun d _ => h d

theorem toks_dealt : (bigSep Finset.univ fun d : Dev nD => allToks (F := F) d) ⊢ bigSep Finset.univ fun d : Dev nD => bodyToks d := by
  refine (bigSep_mono fun d _ => allToks_sort d).trans (hand_round _ _ _ _ _ fun d => ?_)
  iintro ⟨⟨Hp, Hcw, Hccw, Hk, Hs, Ho⟩, ⟨B0, Hpr⟩, ⟨B1, Hccwr⟩, B2, Hcwr⟩
  isplitl [B0 B1 B2]
  · isplitl [B0]; · iexact B0
    isplitl [B1]; · iexact B1
    iexact B2
  isplitl [Hp Hpr Hcw Hcwr Hccw Hccwr]
  · isplitl [Hp Hpr]
    · isplitl [Hp]; · iexact Hp
      iexact Hpr
    isplitl [Hcw Hcwr]
    · isplitl [Hcw]; · iexact Hcw
      iexact Hcwr
    isplitl [Hccw]; · iexact Hccw
    iexact Hccwr
  isplitl [Hk]; · iexact Hk
  isplitl [Hs]; · iexact Hs
  iexact Ho

/-! ## Credit -/

theorem cred_join (d : Dev nD) (q : SemIx) (a b : ℕ) : iprop(Cr d q a ∗ Cr d q b) ⊢ (Cr d q (a + b) : sProp (MM F)) :=
  (cred_add _ _).2.trans (Entails.of_eq (congrArg cred (tallyAt_add _ _ a b)))

theorem creds_dealt (d : Dev nD) : (Pipeline.launchCred owed₀ d : sProp (MM F)) ⊢ bodyCreds d := by
  unfold owed₀ owed₁ owed₂ owed owedP owedCw owedCcw
  rw [from_zero, from_zero, Pipeline.launchCred_add, Pipeline.launchCred_add, Pipeline.launchCred_add, Pipeline.launchCred_add, Pipeline.launchCred_add,
    Pipeline.launchCred_sum, Pipeline.launchCred_sum, Pipeline.launchCred_sum]
  iintro ⟨⟨⟨⟨⟨Hp, Hcw⟩, Hccw⟩, B2⟩, B1⟩, B0⟩
  ihave B0 := (Pipeline.launchCred_tallyAt (.reg barS) peer peer peer_peer peer_peer () 1 d) $$ B0
  ihave B1 := (Pipeline.launchCred_tallyAt (.reg barS) left right left_right right_left () 1 d) $$ B1
  ihave B2 := (Pipeline.launchCred_tallyAt (.reg barS) right left right_left left_right () 1 d) $$ B2
  isplitl [B0 B1 B2]
  · iapply (cred_join d none 1 2)
    isplitl [B0]; · iexact B0
    iapply (cred_join d none 1 1)
    isplitl [B1]; · iexact B1
    iexact B2
  isplitl [Hp]
  · iapply (each_mono fun k => Pipeline.launchCred_tallyAt (.dma (p0rS k)) peer peer peer_peer peer_peer () 2048 d); iexact Hp
  isplitl [Hcw]
  · iapply (each_mono fun e => Pipeline.launchCred_tallyAt (.dma (cwrS e)) right left right_left left_right () 2048 d); iexact Hcw
  iapply (each_mono fun e => Pipeline.launchCred_tallyAt (.dma (ccwrS e)) left right left_right right_left () 2048 d); iexact Hccw

end Cert.Ring

end
-- ==== Proof.Ghost.lean ====
module

public import proofs.«01_k».proof.Proof.Deal

/-! The ghost state of the launch: every semaphore's schedule started and its invariant set up, and every right dealt. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ)

/-! ## What is minted -/

/-- A right: whose semaphore, and which duty of its one round. -/
abbrev tokOf (x : (Dev nD × SemIx) × Duty) : GSem nD τ sig × ℕ × Duty := (kcell x.1, 0, x.2)

theorem tokOf_injective : Function.Injective tokOf := fun x y h =>
  Prod.ext (kcell_injective (congrArg Prod.fst h)) (congrArg (fun z : GSem nD τ sig × ℕ × Duty => z.2.2) h)

def cells : Finset (GSem nD τ sig) := Finset.univ.map ⟨kcell, kcell_injective⟩
def toks : Finset (GSem nD τ sig × ℕ × Duty) := Finset.univ.map ⟨tokOf, tokOf_injective⟩

def u₀ : UU := (initOf (Pipeline.cells cfgs cellOf_inj) (Pipeline.launchToks cfgs cellOf_inj), initOf cells toks)

/-- Device `d`'s part of it. -/
def minted (d : Dev nD) : sProp (MM F) :=
  iprop((bigSep Finset.univ fun q : SemIx => roundState ER (Rd m) (kcell (d, q)) 0) ∗ (bigSep Finset.univ fun q : SemIx => At d q)
    ∗ (bigSep Finset.univ fun q : SemIx => reached ER (kcell (d, q)) 0) ∗ allToks d)

theorem cells_split (Φ : GSem nD τ sig → sProp (MM F)) :
    bigSep cells Φ = bigSep Finset.univ fun d : Dev nD => bigSep Finset.univ fun q : SemIx => Φ (kcell (d, q)) := by
  unfold cells; rw [bigSep_map, bigSep_univ_prod]; rfl
theorem toks_split :
    bigSep toks (fun x => (dutyTok ER x.1 x.2.1 x.2.2 : sProp (MM F))) = bigSep Finset.univ fun d : Dev nD => allToks d := by
  unfold toks allToks
  rw [bigSep_map, bigSep_univ_prod, bigSep_univ_prod]; rfl

theorem mint : BI.own (ER (initOf cells toks)) ⊢ (|==> bigSep Finset.univ (minted m) : sProp (MM F)) := by
  iintro H
  imod (Rounds.fund ER (Rd m) cells toks) $$ H with ⟨Hst, Hr, Hat, Htok⟩
  imodintro
  ihave Hst := (Entails.of_eq (cells_split fun g => roundState ER (Rd m) g 0)) $$ Hst
  ihave Hat := (Entails.of_eq (cells_split fun g => (atPos ER g 0 ∅ 0 : sProp (MM F)))) $$ Hat
  ihave Hr := (Entails.of_eq (cells_split fun g => (reached ER g 0 : sProp (MM F)))) $$ Hr
  ihave Htok := (Entails.of_eq (toks_split (F := F))) $$ Htok
  unfold minted
  iapply (Entails.of_eq (show _ = _ from (bigSep_sep' Finset.univ _ _).trans (congrArg (fun X => iprop(_ ∗ X)) ((bigSep_sep' Finset.univ _ _).trans
    (congrArg (fun X => iprop(_ ∗ X)) (bigSep_sep' Finset.univ _ _))))).symm)
  isplitl [Hst]; · iexact Hst
  isplitl [Hat]; · iexact Hat
  isplitl [Hr]; · iexact Hr
  iexact Htok

/-! ## Setting the invariants up -/

/-- Every semaphore's invariant, and that every semaphore has begun. -/
def record (K : Dev nD × SemIx → ℕ) : sProp (MM F) :=
  iprop((bigSep Finset.univ fun x => cellInv ER (Rd m) (K x) (kcell x)) ∗ bigSep Finset.univ fun x => reached ER (kcell x) 0)

instance record_persistent (K : Dev nD × SemIx → ℕ) : BI.Persistent (record m K) := by unfold record; infer_instance

theorem ctx_intro (K : Dev nD × SemIx → ℕ) : iprop(record m K ∗ levs) ⊢ ctx m K := by
  unfold record ctx
  iintro ⟨⟨H1, H2⟩, H3⟩
  isplitl [H1]; · iexact H1
  isplitl [H2]; · iexact H2
  iexact H3

/-- What device `d` runs with. -/
def ready (d : Dev nD) : sProp (MM F) := iprop(∃ K, record m K ∗ (bigSep Finset.univ fun q : SemIx => At d q) ∗ bodyToks d)

abbrev invsOf (d : Dev nD) : sProp (MM F) := bigSep Finset.univ fun q : SemIx => iprop(∃ κ : ℕ, cellInv ER (Rd m) κ (kcell (d, q)))
abbrev reachedOf (d : Dev nD) : sProp (MM F) := bigSep Finset.univ fun q : SemIx => reached ER (kcell (d, q)) 0
abbrev posOf (d : Dev nD) : sProp (MM F) := bigSep Finset.univ fun q : SemIx => At d q

theorem setup (d : Dev nD) :
    iprop(Pipeline.ownSems0 (Ix := Unit) (Name := ℕ) (U := UU) (Lvl := ℕ) (Val := Elt F) (τ := τ) ownSem d ∗ unscopedSems0 d ∗ minted m d)
      ⊢ |={Set.univ}=> iprop(invsOf m d ∗ posOf d ∗ reachedOf d ∗ allToks d) := by
  unfold minted
  iintro ⟨Ho, Hu, Hst, Hat, Hr, Htok⟩
  ihave Hz := (Entails.of_eq (zeros_eq (F := F) d).symm) $$ [Ho Hu]
  · isplitl [Hu] <;> iassumption
  imod (show iprop((bigSep Finset.univ fun q : SemIx => semVal (kcell (d, q)) 0) ∗ bigSep Finset.univ fun q : SemIx => roundState ER (Rd m) (kcell (d, q)) 0)
      ⊢ (|={Set.univ}=> invsOf m d : sProp (MM F)) from by
        rw [← bigSep_sep']
        exact (bigSep_mono fun q _ => (Rounds.body_intro ER (Rd m) (kcell (d, q))).trans inv_alloc).trans (bigSep_fupd _ _)) $$ [Hz Hst] with Hinv
  · isplitl [Hz] <;> iassumption
  imodintro
  isplitl [Hinv]; · iexact Hinv
  isplitl [Hat]; · iexact Hat
  isplitl [Hr]; · iexact Hr
  iexact Htok

theorem with_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem hand_out : (bigSep Finset.univ fun d : Dev nD => iprop(invsOf m d ∗ posOf d ∗ reachedOf d ∗ allToks d)) ⊢ bigSep Finset.univ (ready m) := by
  rw [bigSep_sep' Finset.univ (invsOf m), bigSep_sep' Finset.univ (posOf (F := F)), bigSep_sep' Finset.univ (reachedOf (F := F)),
    ← bigSep_univ_prod (fun x : Dev nD × SemIx => iprop(∃ κ : ℕ, cellInv ER (Rd m) κ (kcell x))),
    ← bigSep_univ_prod (fun x : Dev nD × SemIx => (reached ER (kcell x) 0 : sProp (MM F)))]
  iintro ⟨HI, Hat, #HR, Htok⟩
  ihave HK := (BI.bigSep_exists_pi Finset.univ (fun (x : Dev nD × SemIx) (κ : ℕ) => (cellInv ER (Rd m) κ (kcell x) : sProp (MM F)))) $$ HI
  icases HK with ⟨%K, #HI⟩
  ihave Htok := (toks_dealt (F := F)) $$ Htok
  iapply (with_persistent (R := record m K) (Φ := fun d => iprop(posOf d ∗ bodyToks d)) fun d _ => by
    unfold ready
    iintro ⟨#H, Hp, Ht⟩
    iexists K
    isplitr; · iexact H
    isplitl [Hp]; · iexact Hp
    iexact Ht)
  isplitr
  · unfold record; isplitl; · iexact HI
    iexact HR
  iapply (Entails.of_eq (bigSep_sep' Finset.univ (posOf (F := F)) fun d => bodyToks d).symm)
  isplitl [Hat]; · iexact Hat
  iexact Htok

/-- Every device's semaphores and minted state, made what each runs with. -/
theorem launch_ghost :
    (bigSep Finset.univ fun d => iprop(Pipeline.ownSems0 (Ix := Unit) (Name := ℕ) (U := UU) (Lvl := ℕ) (Val := Elt F) (τ := τ) ownSem d ∗ unscopedSems0 d ∗ minted m d) : sProp (MM F))
      ⊢ |={Set.univ}=> bigSep Finset.univ (ready m) :=
  ((bigSep_mono fun d _ => setup m d).trans (bigSep_fupd _ _)).trans (BI.fupd_mono (hand_out m))

/-! ## Closing -/

/-- A semaphore whose schedule is over stands at zero. -/
theorem over_close (K : Dev nD × SemIx → ℕ) (d : Dev nD) (q : SemIx) : iprop(ctx m K ∗ Over d q) ⊢ |={Set.univ}=> semVal (kcell (d, q)) 0 := by
  refine (sep_mono_left (ctx_inv m K d q)).trans ?_
  unfold Over
  by_cases h : use (semOf q) = .idle
  · rw [if_pos h]
    exact Rounds.cell_close ER (Rd m) (Set.mem_univ _) (fun h => h) fun r _ => by
      rcases Nat.eq_zero_or_pos r with rfl | hr
      · rw [duties_eq m d (semOf q) h]; rfl
      · exact duties_later m _ r hr
  · rw [if_neg h]
    exact Rounds.cell_close ER (Rd m) (Set.mem_univ _) (fun h => h) (duties_later m _)

theorem close_all (K : Dev nD × SemIx → ℕ) (d : Dev nD) : iprop(ctx m K ∗ bigSep Finset.univ fun q : SemIx => Over d q) ⊢ |={Set.univ}=> zeros d :=
  (with_persistent fun q _ => over_close m K d q).trans (bigSep_fupd _ _)

end Cert.Ring

end
-- ==== Proof.BodyEq.lean ====
module

public import proofs.«01_k».proof.Proof.Program
public import Idealize.ShloMosaic.Lib.Pipeline.Regions

/-! The printed body is the body stated phase by phase: both unfold to the same sequence of effects. -/

@[expose] public section

noncomputable section

namespace Cert.KernelIdeal
open Idealize.ShloMosaic Idealize.SL.Sem

variable {F : FTy → Type} [FloatOps F]

/-- What follows a branch follows each of its arms. -/
theorem dite_bind {E : Type → Type} {α β : Type} {c : Prop} [Decidable c] (a : c → Prog E α) (b : ¬ c → Prog E α) (k : α → Prog E β) :
    (dite c a b >>= k) = dite c (fun h => a h >>= k) fun h => b h >>= k := by
  split <;> rfl

set_option maxHeartbeats 4000000 in
theorem body_eq : cc0_body (F := F) (Memref.whole main_arg0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9
    cc0_scratch10 cc0_scratch11 cc0_scratch12 cc0_scratch13 = body := by
  unfold cc0_body k0_part142 k0_part143 k0_part6 k0_part111 k0_part114 body bodyAt loads1 loads2
  simp only [Scf.for_eq, bind_assoc, dite_bind]
  chain_rfl

end Cert.KernelIdeal
-- ==== Proof.Launch.lean ====
module

public import proofs.«01_k».proof.Proof.Ghost
public import proofs.«01_k».proof.Proof.BodyEq
public import Idealize.ShloMosaic.Lib.Pipeline.CollectiveSegs

/-! The launch: the kernel on every device of the mesh, from any memory with its counters at zero. -/

@[expose] public section

set_option maxRecDepth 100000

noncomputable section

namespace Cert.Ring
open Cert.KernelIdeal
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Facts₀ Facts

variable {F : FTy → Type} [FloatOps F]
variable (m : (ℓ : Loc nD τ sig) → Buf (Elt F) ℓ)

/-- What device `d` starts from, its scratch buffers apart. -/
def start (d : Dev nD) : sProp (MM F) := iprop(ready m d ∗ levs (F := F) ∗ bodyCreds d ∗ xHold m d ∗ outW d)
/-- What it ends with, its counters and scratch buffers apart. -/
def finish (d : Dev nD) : sProp (MM F) := iprop(xHold m d ∗ pts d outM fullShare (outC m d))

def dats (_ : Fin 1) (d : Dev nD) : Dat τ (Elt F) Unit ℕ UU ℕ cfg0 d where
  A w := w.elim0
  after w := w.elim0
  Φ t := match t with
    | ⟨0, _⟩ => iprop(start m d ∗ scratch d)
    | ⟨_ + 1, _⟩ => iprop(zeros d ∗ finish m d ∗ scratch d)
  q _ := fullShare
  owed t := match t with
    | ⟨0, _⟩ => owed₀ d
    | ⟨_ + 1, _⟩ => 0

/-! ## The body -/

theorem body_run (d : Dev nD) :
    iprop((start m d ∗ scratch d) ∗ Ow d (owed₀ d)) ⊢ run d body (fun _ => iprop((zeros d ∗ finish m d ∗ scratch d) ∗ Ow d 0)) := by
  refine BI.Entails.trans (show _ ⊢ run d body (fun _ => iprop(|={Set.univ}=> ((zeros d ∗ finish m d ∗ scratch d) ∗ Ow d 0))) from ?_) (wp_fupd _ _ _ _ _)
  unfold start ready finish
  iintro ⟨⟨⟨⟨%K, #HR, Hat, Htok⟩, #HL, Hcr, Hx, Hout⟩, Hs⟩, HO⟩
  ihave #HC := (ctx_intro m K) $$ []
  · isplitr; · iexact HR
    iexact HL
  iapply (wp_wand_r _ _ _ (Q := fun _ => bodyEnd m d))
  isplitl
  · iapply (show iprop(ctx m K ∗ bodyStart m d) ⊢ run d body (fun _ => bodyEnd m d) from by
      show _ ⊢ run d (.op .deviceId bodyAt) _
      unfold run
      rw [wp_deviceId]
      exact bodyAt_run m K d)
    isplitr; · iexact HC
    isplitl [HO]; · iexact HO
    isplitl [Hat]; · iexact Hat
    isplitl [Htok]; · iexact Htok
    isplitl [Hcr]; · iexact Hcr
    isplitl [Hx]; · iexact Hx
    isplitl [Hout]; · iexact Hout
    iexact Hs
  iintro %_u ⟨HO, Hover, Hx, Hout, Hs⟩
  imod (close_all m K d) $$ [Hover] with Hz
  · isplitr; · iexact HC
    iexact Hover
  imodintro
  isplitr [HO]
  · isplitl [Hz]; · iexact Hz
    isplitl [Hx Hout]
    · isplitl [Hx]; · iexact Hx
      iexact Hout
    iexact Hs
  iexact HO

theorem no_windows (Φ : Fin cfg0.W → sProp (MM F)) : bigSep Finset.univ Φ = iprop(emp) := by
  rw [show (Finset.univ : Finset (Fin cfg0.W)) = ∅ from rfl, bigSep_empty]; rfl

theorem body_obligation (d : Dev nD) : BodyObligation (dats m 0 d) (defs₀ (F := F)) 𝒱₀ () Set.univ := fun t => by
  rw [only_pt t, no_windows, no_windows]
  show iprop((start m d ∗ scratch d) ∗ owesWithin d (owed₀ d) _ ∗ emp) ⊢ run d (cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8 cc0_scratch9
      cc0_scratch10 cc0_scratch11 cc0_scratch12 cc0_scratch13)
    fun _ => iprop((zeros d ∗ finish m d ∗ scratch d) ∗ owesWithin d 0 ((dats m 0 d).bound () pt.succ) ∗ emp)
  rw [body_eq]
  iintro ⟨Hs, ⟨%W, -, HO⟩, -⟩
  iapply (wp_wand_r _ _ _ (Q := fun _ => iprop((zeros d ∗ finish m d ∗ scratch d) ∗ Ow d 0)))
  isplitl
  · iapply (body_run m d)
    isplitl [Hs]; · iexact Hs
    iexists W
    iexact HO
  iintro %_u ⟨Hs, ⟨%W, HO⟩⟩
  isplitl [Hs]; · iexact Hs
  isplitl [HO]
  · iexists W
    isplitr; · ipureintro; exact fun _ _ => Or.inl trivial
    iexact HO
  iempintro

/-! ## What the launch gives and takes -/

theorem launch_start (ρ : Dev nD → PrngReg) (d : Dev nD) :
    iprop(unscopedRestP Prefetch.none cfg0.spec d (fun b => m ((d : Thread nD τ).loc b)) ∗ levAts L lv ∗ launchCred owed₀ d ∗ prngReg d (ρ d) ∗ ready m d)
      ⊢ |={Set.univ}=> iprop(start m d ∗ emp) := by
  rw [arrays_eq]
  iintro ⟨⟨Hx, Hout⟩, Hlev, Hcr, -, HG⟩
  ihave Hcr := (creds_dealt (F := F) d) $$ Hcr
  imodintro
  unfold start
  isplitl
  · isplitl [HG]; · iexact HG
    isplitl [Hlev]; · unfold levs; iexact Hlev
    isplitl [Hcr]; · iexact Hcr
    isplitl [Hx]
    · unfold xHold xC; iexists fullShare; iexact Hx
    iexists _; iexact Hout
  iempintro

theorem region_start (d : Dev nD) :
    iprop(start m d ∗ prefHeld Prefetch.none d (fun _ => fullShare.right) (fun k => k.elim0) ∗ scopedRest cfg0.spec d) ⊢ (dats m 0 d).Φ 0 := by
  rw [show (dats m 0 d).Φ 0 = iprop(start m d ∗ scratch d) from rfl, scratch_eq]
  iintro ⟨Hs, -, Hr⟩
  isplitl [Hs]; · iexact Hs
  iexact Hr

theorem region_end (d : Dev nD) :
    (dats m 0 d).Φ (Fin.last cfg0.N) ⊢ iprop((unscopedSems0 d ∗ finish m d) ∗ ownSems0 ownSem d ∗ scopedRest cfg0.spec d) := by
  rw [show (dats m 0 d).Φ (Fin.last cfg0.N) = iprop(zeros d ∗ finish m d ∗ scratch d) from rfl, scratch_eq]
  iintro ⟨Hz, Hf, Hs⟩
  ihave Hz := (Entails.of_eq (zeros_eq (F := F) d)) $$ Hz
  icases Hz with ⟨Hu, Ho⟩
  isplitl [Hu Hf]
  · isplitl [Hu] <;> iassumption
  isplitl [Ho] <;> iassumption

/-- The memory agrees with what a device holds at the end. -/
theorem read_end (d : Dev nD) (s : Phys nD τ sig (Elt F)) :
    iprop(finish m d ∗ SI s) ⊢ (⌜s.mem.mem ((d : Thread nD τ).loc main_v1) = outC m d
      ∧ s.mem.mem ((d : Thread nD τ).loc main_arg0) = m ((d : Thread nD τ).loc main_arg0)⌝ : sProp (MM F)) := by
  unfold finish xHold xC
  iintro ⟨⟨⟨%q, Hx⟩, Ho⟩, HSI⟩
  ihave %h1 := (SI_pointsTo_agree (st := s) (ℓ := outM.view.loc (d : Thread nD τ)) (I := outM.view.set) (q := fullShare) (f := outC m d)) $$ [Ho HSI]
  · isplitl [HSI]; · iexact HSI
    iexact Ho
  ihave %h2 := (SI_pointsTo_agree (st := s) (ℓ := xM.view.loc (d : Thread nD τ)) (I := xM.view.set) (q := q) (f := m ((d : Thread nD τ).loc main_arg0))) $$ [Hx HSI]
  · isplitl [HSI]; · iexact HSI
    iexact Hx
  ipureintro
  have e1 : outM.view.set = Finset.univ := View.set_whole _
  have e2 : xM.view.set = Finset.univ := View.set_whole _
  exact ⟨funext fun i => h1 i (by rw [e1]; exact Finset.mem_univ _), funext fun i => h2 i (by rw [e2]; exact Finset.mem_univ _)⟩

/-! ## The run -/

theorem run_main (ρ : Dev nD → PrngReg) :
    θ_run defs (onTc (τ := τ) (main (F := F))) ⟨m, fun _ => 0, ρ⟩ (fun r =>
      (∀ d : Dev nD, r.2.mem ((d : Thread nD τ).loc main_v1) = outC m d ∧ r.2.mem ((d : Thread nD τ).loc main_arg0) = m ((d : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts.to₀ ownSemFacts (Pipeline.PreFacts.none _) EP defs₀ 𝒱₀ m ρ main
    (hmain := fun _ => rfl)
    (hbody := body_obligation m) (hne := fun w => w.elim0) (harr := fun w => w.elim0) (hstage := fun w => w.elim0) (hshare := fun _ w => w.elim0)
    (hdistinct := winFacts.arr_inj)
    (O₀ := owed₀) (howed₀ := fun _ => rfl) (howedN := fun _ => rfl)
    (L := L) (lv := lv) (hL := fun g h => if_neg h) (hwaits := fun d => Pipeline.cellsWaits_intro cfgs (dats m) () 0 d fun w => w.elim0)
    (G := minted m) (G' := ready m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := launch_ghost m)
    (hA := fun _ w => w.elim0) (hpf := fun _ k => k.elim0)
    (X := start m) (Y := fun d => iprop(unscopedSems0 d ∗ finish m d)) (Z := fun _ => iprop(emp))
    (hX := launch_start m ρ) (hin := region_start m) (hout := region_end m)
    (QY := fun d s => (∀ sm : SemLoc sig, sm.isScoped .tc = false → s.sem ((d.tc : Thread nD τ), sm) = 0)
      ∧ s.mem ((d : Thread nD τ).loc main_v1) = outC m d ∧ s.mem ((d : Thread nD τ).loc main_arg0) = m ((d : Thread nD τ).loc main_arg0))
    (hY := fun d s' => by
      iintro ⟨⟨Hu, Hf⟩, -, HSI⟩
      ihave %h := (read_end m d s') $$ [Hf HSI]
      · isplitl [Hf] <;> iassumption
      imod (Pipeline.unscopedSems0_read (X := unscopedSems0 d) (c := d) fupd_intro s') $$ [Hu HSI] with ⟨%h', HSI⟩
      · isplitl [Hu] <;> iassumption
      imodintro
      isplitr
      · ipureintro; exact ⟨h', h⟩
      iexact HSI)
    (hQ := fun _ h hs => ⟨fun d => (h d).2.2.2, sem_eq_zero hs fun d => (h d).2.2.1⟩)

end Cert.Ring

end
-- ==== Proof.Value.lean ====
module

public import proofs.«01_k».proof.Defs
public import proofs.«01_k».proof.Proof.Launch
public import proofs.«01_k».proof.Proof.Gen.ReferenceIdeal
public import proofs.«01_k».proof.Proof.Gen.ReferenceIdeal.Run
public import Idealize.ShloMosaic.Lib.Pointwise.Reduce

/-! The value: over exact arithmetic, what each device ends with is its columns of the reference's sum.

Device `d` holds page `xx d` of the whole input. Row `R` of its result was summed by the device at place
`R / 256` of its own ring, which kept its own page's part and was sent the other page's part by its peer. -/

@[expose] public section

set_option maxRecDepth 100000

noncomputable section

namespace Cert.Ring
open Cert.KernelIdeal
open Idealize.ShloMosaic hiding ix2 ix3
open Idealize.ShloMosaic.TcCoe Idealize.ShloMosaic.ValueIdx
open Facts₀ Facts

/-- The whole input: two pages, each 4096 by 2048. -/
abbrev Whole : Type := (⟨3, ![2, 4096, 2048]⟩ : Shape).Idx → EReal
/-- The part of the whole input a device holds. -/
abbrev pageOf (W : Whole) (d : Dev nD) : S1x4096x2048.Idx → EReal :=
  Layout.blockN ⟨3, ![1, 4096, 2048]⟩ ⟨3, ![2, 4096, 2048]⟩ (Layout.meshBlock [2, 4, 4] ![[0], [], []] d) W

/-- The part a device holds is page `xx d`. -/
theorem pageOf_apply (W : Whole) (d : Dev nD) (R : Fin 4096) (C : Fin 2048) : pageOf W d (ix3 0 R C) = W (ix3 (xx d) R C) := by
  have hd : d.val / 16 < 2 := by have h : d.val < 32 := d.isLt; omega
  refine congrArg W (funext fun b => Fin.ext ?_)
  rw [Layout.TilesN.idx_val]
  fin_cases b
  · show (d.val / 16 % 2 * 1 + 0) * 1 + 0 = d.val / 16
    omega
  · show 0 * 4096 + R.val = R.val
    omega
  · show 0 * 2048 + C.val = C.val
    omega

/-- The sum of the two pages. -/
def sumW (W : Whole) : (⟨2, ![4096, 2048]⟩ : Shape).Idx → EReal := fun i => W (ix3 0 (i 0) (i 1)) + W (ix3 1 (i 0) (i 1))

/-- The two pages in either order. -/
theorem sum_pages (W : Whole) (x y : Fin 2) (h : y.val = 1 - x.val) (R : Fin 4096) (C : Fin 2048) :
    W (ix3 x R C) + W (ix3 y R C) = sumW W (ix2 R C) := by
  rcases (by omega : x = 0 ∧ y = 1 ∨ x = 1 ∧ y = 0) with ⟨rfl, rfl⟩ | ⟨rfl, rfl⟩
  · rfl
  · exact add_comm _ _

/-- The reference's result is the sum of the two pages. -/
theorem reference_value (W : Whole) :
    (truncf .bf16 (Host.reduceAdd (F := Ideal) (φ := .f32) (W : FVec Ideal ReferenceIdeal.S2x4096x2048 .f32) (constant ReferenceIdeal.S_ .f32 0x00000000#32)
      ReferenceIdeal.Gen.reducesTo_S2x4096x2048_S4096x2048_d0 ReferenceIdeal.Gen.h_S_) ReferenceIdeal.Gen.bitsLt_bf16_f32 : FVec Ideal ReferenceIdeal.S4096x2048 .bf16)
    = sumW W := by
  funext i
  show Ideal.hostReduceAdd ReferenceIdeal.Gen.reducesTo_S2x4096x2048_S4096x2048_d0 W (Ideal.ofBits .f32 0x00000000#32) i = _
  refine (Ideal.hostReduceAdd_r3_a0 (n0 := 2) (n1 := 4096) (n2 := 2048) ReferenceIdeal.Gen.reducesTo_S2x4096x2048_S4096x2048_d0 W _ i).trans ?_
  rw [Ideal.ofBits_zero_f32, zero_add, Fin.sum_univ_two]
  rfl

/-- What a device ends with is its columns of the sum of the two pages. -/
theorem kernel_value (m : (ℓ : Loc nD τ sig) → Buf (Elt Ideal) ℓ) (W : Whole) (h : ∀ d : Dev nD, xC m d = pageOf W d) (d : Dev nD) :
    outC m d = Layout.blockN ⟨2, ![4096, 1024]⟩ ⟨2, ![4096, 2048]⟩ (Layout.meshBlock [2, 4, 4] ![[], [0]] d) (sumW W) := by
  funext i
  have hi := idx2_lt0 i
  have hj : (i 0).val / 256 < 16 := by omega
  generalize he : atPlace (xx d) ⟨(i 0).val / 256, hj⟩ = e
  have hx : xx e = xx d := he ▸ xx_atPlace _ _
  have hp : pos e = ⟨(i 0).val / 256, hj⟩ := he ▸ pos_atPlace _ _
  have hd : d.val / 16 < 2 := by have h : d.val < 32 := d.isLt; omega
  -- the row and the column of the whole result
  have hR : ∀ e' : Dev nD, pos e' = pos e → rowOf e' ⟨(i 0).val % 256, by omega⟩ = (i 0 : Fin 4096) := fun e' he' =>
    Fin.ext (by show 256 * (pos e').val + (i 0).val % 256 = (i 0).val; rw [he', hp]; show 256 * ((i 0).val / 256) + _ = _; omega)
  have hC : colSend (peer e) (i 1) = colKeep e (i 1) :=
    Fin.ext (by show 1024 * (1 - (xx (peer e)).val) + _ = 1024 * (xx e).val + _; rw [xx_peer]; have := (xx e).isLt; omega)
  have lhs : outC m d i = xC m e (ix3 0 (i 0) (colKeep e (i 1))) + xC m (peer e) (ix3 0 (i 0) (colKeep e (i 1))) := by
    rw [← hC]; conv_rhs => rw [hC]
    show sumC m (atPlace (xx d) ⟨(i 0).val / 256, _⟩) _ = _
    rw [he]
    show xC m e (ix3 0 (rowOf e ⟨(i 0).val % 256, _⟩) (colKeep e (i 1))) + xC m (peer e) (ix3 0 (rowOf (peer e) ⟨(i 0).val % 256, _⟩) (colSend (peer e) (i 1))) = _
    rw [hR e rfl, hR (peer e) (pos_peer e), hC]
  rw [h, h] at lhs
  refine lhs.trans ((congrArg₂ (· + ·) (pageOf_apply W e (i 0) (colKeep e (i 1))) (pageOf_apply W (peer e) (i 0) (colKeep e (i 1)))).trans
    ((sum_pages W _ _ (xx_peer e) _ _).trans ?_))
  refine congrArg (sumW W) (funext fun b => Fin.ext ?_)
  rw [Layout.TilesN.idx_val]
  fin_cases b
  · show (i 0).val = 0 * 4096 + (i 0).val
    omega
  · show 1024 * (xx e).val + (i 1).val = (d.val / 16 % 2 * 1 + 0) * 1024 + (i 1).val
    rw [hx]
    show 1024 * (d.val / 16) + _ = _
    omega

end Cert.Ring

end
-- ==== Proof.lean ====
module

public import proofs.«01_k».proof.Defs
public import proofs.«01_k».proof.Proof.Facts
public import proofs.«01_k».proof.Proof.FactsKernel
public import proofs.«01_k».proof.Proof.Launch
public import proofs.«01_k».proof.Proof.Value
public import proofs.«01_k».proof.Proof.Gen.ReferenceIdeal
public import proofs.«01_k».proof.Proof.Gen.ReferenceIdeal.Run

/-! The five claims, each from the run of the kernel or of the reference. -/

@[expose] public section

set_option maxRecDepth 100000

noncomputable section

namespace Cert.Proof
open Idealize.ShloMosaic Idealize.ShloMosaic.TcCoe

/-- The kernel over the machine's words runs, leaves its input as it was and its counters at zero. -/
theorem frame_kernel : Cert.quiescent_Kernel (hKernel := Cert.Kernel.facts) := fun m g _ =>
  (θ_run (Cert.KernelIdeal.defs (F := Bits)) _ _).mono (fun _ h => ⟨fun c => (h.1 c).2, h.2⟩) (Cert.Ring.run_main (F := Bits) m g)

/-- The same over exact arithmetic. -/
theorem frame_ideal : Cert.quiescent_KernelIdeal (hKernelIdeal := Cert.KernelIdeal.facts) := fun m g _ =>
  (θ_run (Cert.KernelIdeal.defs (F := Ideal)) _ _).mono (fun _ h => ⟨fun c => (h.1 c).2, h.2⟩) (Cert.Ring.run_main (F := Ideal) m g)

/-- The reference runs, leaves its input as it was and uses no counter. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- From each device's page of the reference's input, each device ends with its columns of the reference's result. -/
theorem algebraic : Cert.algebraic_KernelIdeal_ReferenceIdeal (hKernelIdeal := Cert.KernelIdeal.facts)
    (hReferenceIdeal := Cert.ReferenceIdeal.Gen.facts) := fun m g m' g' _ hm =>
  ⟨Cert.Ring.sumW (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨((h.1 c).1).trans (Cert.Ring.kernel_value m _ hm c), (h.1 c).2⟩)
      (Cert.Ring.run_main (F := Ideal) m g),
    (θ_run (Cert.ReferenceIdeal.defs (F := Ideal)) _ _).mono
      (fun _ h => ⟨((h 0).1).trans (Cert.Ring.reference_value _), (h 0).2⟩)
      (Cert.ReferenceIdeal.Value.run (F := Ideal) m' g')⟩

theorem claim : Cert.Claim :=
  ⟨Cert.Kernel.facts, Cert.KernelIdeal.facts, Cert.ReferenceIdeal.Gen.facts, frame_kernel, frame_ideal, frame_reference, trivial, algebraic⟩

end Cert.Proof

end
